-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9)
      ∧ r.2.mem ((c.tc : Thread Cert.OutReferenceIdeal.nD Cert.OutReferenceIdeal.τ).loc Cert.OutReferenceIdeal.main_arg10) = m ((c.tc : Thread Cert.OutReferenceIdeal.nD Cert.OutReferenceIdeal.τ).loc Cert.OutReferenceIdeal.main_arg10))
      ∧ r.2.sem = fun _ => 0)

def preserves_Kernel_KernelIdeal : Prop :=
  IdealRules.named_const.Statement Cert.KernelIdeal.κ "decay" .f32 0xC138AA3B#32 (((-8) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v146) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  True

def algebraic_InProjIdeal_InReferenceIdeal [hInProjIdeal : Cert.InProjIdeal.Facts] [hInReferenceIdeal : Cert.InReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InProjIdeal m →
    (∀ c : Dev Cert.InProjIdeal.nD,
      m' ((c.tc : Thread Cert.InReferenceIdeal.nD Cert.InReferenceIdeal.τ).loc Cert.InReferenceIdeal.main_arg0) = m ((c.tc : Thread Cert.InProjIdeal.nD Cert.InProjIdeal.τ).loc Cert.InProjIdeal.main_arg0)
      ∧ m' ((c.tc : Thread Cert.InReferenceIdeal.nD Cert.InReferenceIdeal.τ).loc Cert.InReferenceIdeal.main_arg1) = m ((c.tc : Thread Cert.InProjIdeal.nD Cert.InProjIdeal.τ).loc Cert.InProjIdeal.main_arg1)
      ∧ m' ((c.tc : Thread Cert.InReferenceIdeal.nD Cert.InReferenceIdeal.τ).loc Cert.InReferenceIdeal.main_arg2) = m ((c.tc : Thread Cert.InProjIdeal.nD Cert.InProjIdeal.τ).loc Cert.InProjIdeal.main_arg2)
      ∧ m' ((c.tc : Thread Cert.InReferenceIdeal.nD Cert.InReferenceIdeal.τ).loc Cert.InReferenceIdeal.main_arg3) = m ((c.tc : Thread Cert.InProjIdeal.nD Cert.InProjIdeal.τ).loc Cert.InProjIdeal.main_arg3)
      ∧ m' ((c.tc : Thread Cert.InReferenceIdeal.nD Cert.InReferenceIdeal.τ).loc Cert.InReferenceIdeal.main_arg4) = m ((c.tc : Thread Cert.InProjIdeal.nD Cert.InProjIdeal.τ).loc Cert.InProjIdeal.main_arg4)
      ∧ m' ((c.tc : Thread Cert.InReferenceIdeal.nD Cert.InReferenceIdeal.τ).loc Cert.InReferenceIdeal.main_arg5) = m ((c.tc : Thread Cert.InProjIdeal.nD Cert.InProjIdeal.τ).loc Cert.InProjIdeal.main_arg5)
      ∧ m' ((c.tc : Thread Cert.InReferenceIdeal.nD Cert.InReferenceIdeal.τ).loc Cert.InReferenceIdeal.main_arg6) = m ((c.tc : Thread Cert.InProjIdeal.nD Cert.InProjIdeal.τ).loc Cert.InProjIdeal.main_arg6)
      ∧ m' ((c.tc : Thread Cert.InReferenceIdeal.nD Cert.InReferenceIdeal.τ).loc Cert.InReferenceIdeal.main_arg7) = m ((c.tc : Thread Cert.InProjIdeal.nD Cert.InProjIdeal.τ).loc Cert.InProjIdeal.main_arg7)
      ∧ m' ((c.tc : Thread Cert.InReferenceIdeal.nD Cert.InReferenceIdeal.τ).loc Cert.InReferenceIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)) (v2 : (c : Dev Cert.InProjIdeal.nD) → Buf (Elt Ideal) ((c.tc : Thread Cert.InProjIdeal.nD Cert.InProjIdeal.τ).loc Cert.InProjIdeal.main_v5_2)) (v3 : (c : Dev Cert.InProjIdeal.nD) → Buf (Elt Ideal) ((c.tc : Thread Cert.InProjIdeal.nD Cert.InProjIdeal.τ).loc Cert.InProjIdeal.main_v5_9)) (v4 : (c : Dev Cert.InProjIdeal.nD) → Buf (Elt Ideal) ((c.tc : Thread Cert.InProjIdeal.nD Cert.InProjIdeal.τ).loc Cert.InProjIdeal.main_v5_10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_v5_2) = v2 c
          ∧ r.2.mem ((c.tc : Thread Cert.InProjIdeal.nD Cert.InProjIdeal.τ).loc Cert.InProjIdeal.main_v5_9) = v3 c
          ∧ r.2.mem ((c.tc : Thread Cert.InProjIdeal.nD Cert.InProjIdeal.τ).loc Cert.InProjIdeal.main_v5_10) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v63) = v0 c
          ∧ r.2.mem ((c.tc : Thread Cert.InReferenceIdeal.nD Cert.InReferenceIdeal.τ).loc Cert.InReferenceIdeal.main_v65) = v1 c
          ∧ r.2.mem ((c.tc : Thread Cert.InReferenceIdeal.nD Cert.InReferenceIdeal.τ).loc Cert.InReferenceIdeal.main_v66) = v2 c
          ∧ r.2.mem ((c.tc : Thread Cert.InReferenceIdeal.nD Cert.InReferenceIdeal.τ).loc Cert.InReferenceIdeal.main_v26) = v3 c
          ∧ r.2.mem ((c.tc : Thread Cert.InReferenceIdeal.nD Cert.InReferenceIdeal.τ).loc Cert.InReferenceIdeal.main_v67) = v4 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8))

def preserves_OutProj_OutProjIdeal : Prop :=
  IdealRules.named_const.Statement Cert.OutProjIdeal.κ "slope_cubic" .f32 0xBDD2D3E8#32 ((((-6693141 / 4194304) * (Real.log 2)⁻¹) * (12003091 / 268435456) : ℝ) : EReal)
  ∧ IdealRules.named_const.Statement Cert.OutProjIdeal.κ "slope" .f32 0xC0135761#32 (((-6693141 / 4194304) * (Real.log 2)⁻¹ : ℝ) : EReal)

def algebraic_OutProjIdeal_OutReferenceIdeal [hOutProjIdeal : Cert.OutProjIdeal.Facts] [hOutReferenceIdeal : Cert.OutReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjIdeal m →
    (∀ c : Dev Cert.OutProjIdeal.nD,
      m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)
      ∧ m' ((c.tc : Thread Cert.OutReferenceIdeal.nD Cert.OutReferenceIdeal.τ).loc Cert.OutReferenceIdeal.main_arg4) = m ((c.tc : Thread Cert.OutProjIdeal.nD Cert.OutProjIdeal.τ).loc Cert.OutProjIdeal.main_arg4)
      ∧ m' ((c.tc : Thread Cert.OutReferenceIdeal.nD Cert.OutReferenceIdeal.τ).loc Cert.OutReferenceIdeal.main_arg5) = m ((c.tc : Thread Cert.OutProjIdeal.nD Cert.OutProjIdeal.τ).loc Cert.OutProjIdeal.main_arg5)
      ∧ m' ((c.tc : Thread Cert.OutReferenceIdeal.nD Cert.OutReferenceIdeal.τ).loc Cert.OutReferenceIdeal.main_arg6) = m ((c.tc : Thread Cert.OutProjIdeal.nD Cert.OutProjIdeal.τ).loc Cert.OutProjIdeal.main_arg6)
      ∧ m' ((c.tc : Thread Cert.OutReferenceIdeal.nD Cert.OutReferenceIdeal.τ).loc Cert.OutReferenceIdeal.main_arg7) = m ((c.tc : Thread Cert.OutProjIdeal.nD Cert.OutProjIdeal.τ).loc Cert.OutProjIdeal.main_arg7)
      ∧ m' ((c.tc : Thread Cert.OutReferenceIdeal.nD Cert.OutReferenceIdeal.τ).loc Cert.OutReferenceIdeal.main_arg8) = m ((c.tc : Thread Cert.OutProjIdeal.nD Cert.OutProjIdeal.τ).loc Cert.OutProjIdeal.main_arg8)
      ∧ m' ((c.tc : Thread Cert.OutReferenceIdeal.nD Cert.OutReferenceIdeal.τ).loc Cert.OutReferenceIdeal.main_arg9) = m ((c.tc : Thread Cert.OutProjIdeal.nD Cert.OutProjIdeal.τ).loc Cert.OutProjIdeal.main_arg9)
      ∧ m' ((c.tc : Thread Cert.OutReferenceIdeal.nD Cert.OutReferenceIdeal.τ).loc Cert.OutReferenceIdeal.main_arg10) = m ((c.tc : Thread Cert.OutProjIdeal.nD Cert.OutProjIdeal.τ).loc Cert.OutProjIdeal.main_arg10)) →
    ∃ (v0 : (c : Dev Cert.OutProjIdeal.nD) → Buf (Elt Ideal) ((c.tc : Thread Cert.OutProjIdeal.nD Cert.OutProjIdeal.τ).loc Cert.OutProjIdeal.main_v4_0)) (v1 : (c : Dev Cert.OutProjIdeal.nD) → Buf (Elt Ideal) ((c.tc : Thread Cert.OutProjIdeal.nD Cert.OutProjIdeal.τ).loc Cert.OutProjIdeal.main_v4_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4_0) = v0 c
          ∧ r.2.mem ((c.tc : Thread Cert.OutProjIdeal.nD Cert.OutProjIdeal.τ).loc Cert.OutProjIdeal.main_v4_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v51) = v0 c
          ∧ r.2.mem ((c.tc : Thread Cert.OutReferenceIdeal.nD Cert.OutReferenceIdeal.τ).loc Cert.OutReferenceIdeal.main_v73) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9)
          ∧ r.2.mem ((c.tc : Thread Cert.OutReferenceIdeal.nD Cert.OutReferenceIdeal.τ).loc Cert.OutReferenceIdeal.main_arg10) = m' ((c.tc : Thread Cert.OutReferenceIdeal.nD Cert.OutReferenceIdeal.τ).loc Cert.OutReferenceIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInReferenceIdeal : Cert.InReferenceIdeal.Facts) (hOutProj : Cert.OutProj.Facts) (hOutProjIdeal : Cert.OutProjIdeal.Facts) (hOutReferenceIdeal : Cert.OutReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InReferenceIdeal (hInReferenceIdeal := hInReferenceIdeal)
    ∧ quiescent_OutProj (hOutProj := hOutProj)
    ∧ quiescent_OutProjIdeal (hOutProjIdeal := hOutProjIdeal)
    ∧ quiescent_OutReferenceIdeal (hOutReferenceIdeal := hOutReferenceIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InReferenceIdeal (hInProjIdeal := hInProjIdeal) (hInReferenceIdeal := hInReferenceIdeal)
    ∧ preserves_OutProj_OutProjIdeal
    ∧ algebraic_OutProjIdeal_OutReferenceIdeal (hOutProjIdeal := hOutProjIdeal) (hOutReferenceIdeal := hOutReferenceIdeal)
-- ==== Kernel.lean ====
abbrev S6x8192x1024 : Shape := ⟨3, ![6, 8192, 1024]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S1x1024 : Shape := ⟨2, ![1, 1024]⟩
abbrev S1x512x1024 : Shape := ⟨3, ![1, 512, 1024]⟩
abbrev S1x8x1024 : Shape := ⟨3, ![1, 8, 1024]⟩
abbrev S2x512x1024 : Shape := ⟨3, ![2, 512, 1024]⟩
abbrev S2x8x1024 : Shape := ⟨3, ![2, 8, 1024]⟩
abbrev S64x8x128 : Shape := ⟨3, ![64, 8, 128]⟩
abbrev S512x1024 : Shape := ⟨2, ![512, 1024]⟩
abbrev S8x1024 : Shape := ⟨2, ![8, 1024]⟩
abbrev S504x1024 : Shape := ⟨2, ![504, 1024]⟩
abbrev S512x128 : Shape := ⟨2, ![512, 128]⟩
abbrev S1x1x128x128 : Shape := ⟨4, ![1, 1, 128, 128]⟩
abbrev S128x128 : Shape := ⟨2, ![128, 128]⟩
abbrev S1x128 : Shape := ⟨2, ![1, 128]⟩
abbrev S1x512x128 : Shape := ⟨3, ![1, 512, 128]⟩

abbrev nBuf : Space → Nat
  | .hbm => 13
  | .vmem => 26
  | .smem => 0
  | _ => 0

abbrev bufTy : (tb : Table) → Fin (tcTables nBuf tb) → BufTy
  | .hbm, ⟨0, _⟩ => ⟨S6x8192x1024, .f32⟩
  | .hbm, ⟨1, _⟩ => ⟨S4x1024, .f32⟩
  | .hbm, ⟨2, _⟩ => ⟨S1024, .f32⟩
  | .hbm, ⟨3, _⟩ => ⟨S2x8x128x128, .f32⟩
  | .hbm, ⟨4, _⟩ => ⟨S2x1024, .f32⟩
  | .hbm, ⟨5, _⟩ => ⟨S2x8x128x128, .f32⟩
  | .hbm, ⟨6, _⟩ => ⟨S2x1024, .f32⟩
  | .hbm, ⟨7, _⟩ => ⟨S2x1024, .f32⟩
  | .hbm, ⟨8, _⟩ => ⟨S1x1024, .f32⟩
  | .hbm, ⟨9, _⟩ => ⟨S2x8x128x128, .bf16⟩
  | .hbm, ⟨10, _⟩ => ⟨S2x8x128x128, .bf16⟩
  | .hbm, ⟨11, _⟩ => ⟨S6x8192x1024, .f32⟩
  | .hbm, ⟨12, _⟩ => ⟨S6x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S4x1024, .f32⟩
  | .local _ .vmem, ⟨13, _⟩ => ⟨S1x1024, .f32⟩
  | .local _ .vmem, ⟨14, _⟩ => ⟨S2x8x128x128, .bf16⟩
  | .local _ .vmem, ⟨15, _⟩ => ⟨S2x8x128x128, .bf16⟩
  | .local _ .vmem, ⟨16, _⟩ => ⟨S2x1024, .f32⟩
  | .local _ .vmem, ⟨17, _⟩ => ⟨S2x1024, .f32⟩
  | .local _ .vmem, ⟨18, _⟩ => ⟨S2x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S2x512x1024, .f32⟩
  | .local _ .vmem, ⟨24, _⟩ => ⟨S2x512x1024, .f32⟩
  | .local _ .vmem, ⟨25, _⟩ => ⟨S2x8x1024, .f32⟩
  | _, _ => ⟨S6x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![6, 16], ![false, false]⟩

@[reducible] def k0_t1_loop : Scf.Loop 32 :=
  let c0_i32_537 : BitVec 32 := 0#32
  let c64_i32 : BitVec 32 := 64#32
  let v1212 : BitVec 32 := Scalar.addi c0_i32_537 c64_i32
  let c1_i32_538 : BitVec 32 := 1#32
  ⟨c0_i32_537, v1212, c1_i32_538⟩
def k0_mult1 (k0_t1 : Fin k0_t1_loop.trips) : BitVec 32 :=
  let c0_i32_537 : BitVec 32 := 0#32
  let c1_i32_538 : BitVec 32 := 1#32
  let arg20 : BitVec 32 := Scf.iv c0_i32_537 c1_i32_538 k0_t1
  let c8_i32 : BitVec 32 := 8#32
  let v1220 : BitVec 32 := Scalar.muli arg20 c8_i32
  v1220
def k0_off1 (k0_t1 : Fin k0_t1_loop.trips) : Fin 3 → Nat :=
  let c0_546 : Index := 0#32
  let c0_i32_537 : BitVec 32 := 0#32
  let c1_i32_538 : BitVec 32 := 1#32
  let arg20 : BitVec 32 := Scf.iv c0_i32_537 c1_i32_538 k0_t1
  let c8_i32 : BitVec 32 := 8#32
  let v1220 : BitVec 32 := Scalar.muli arg20 c8_i32
  let v1221 : BitVec 32 := v1220
  let v1222 : Index := Scalar.indexCast v1221
  let c0_547 : Index := 0#32
  ![0, v1222.toNat, 0]
def k0_off2 (k0_t1 : Fin k0_t1_loop.trips) : Fin 3 → Nat :=
  let c0_550 : Index := 0#32
  let c0_i32_537 : BitVec 32 := 0#32
  let c1_i32_538 : BitVec 32 := 1#32
  let arg20 : BitVec 32 := Scf.iv c0_i32_537 c1_i32_538 k0_t1
  let c8_i32 : BitVec 32 := 8#32
  let v1220 : BitVec 32 := Scalar.muli arg20 c8_i32
  let v1221 : BitVec 32 := v1220
  let v1230 : Index := Scalar.indexCast v1221
  let c0_551 : Index := 0#32
  ![0, v1230.toNat, 0]
def k0_mult2 (k0_t1 : Fin k0_t1_loop.trips) : BitVec 32 :=
  let c63_i32 : BitVec 32 := 63#32
  let c0_i32_537 : BitVec 32 := 0#32
  let c1_i32_538 : BitVec 32 := 1#32
  let arg20 : BitVec 32 := Scf.iv c0_i32_537 c1_i32_538 k0_t1
  let v1237 : BitVec 32 := Scalar.subi c63_i32 arg20
  let c8_i32_552 : BitVec 32 := 8#32
  let v1238 : BitVec 32 := Scalar.muli v1237 c8_i32_552
  v1238
def k0_off3 (k0_t1 : Fin k0_t1_loop.trips) : Fin 3 → Nat :=
  let c1_553 : Index := 1#32
  let c63_i32 : BitVec 32 := 63#32
  let c0_i32_537 : BitVec 32 := 0#32
  let c1_i32_538 : BitVec 32 := 1#32
  let arg20 : BitVec 32 := Scf.iv c0_i32_537 c1_i32_538 k0_t1
  let v1237 : BitVec 32 := Scalar.subi c63_i32 arg20
  let c8_i32_552 : BitVec 32 := 8#32
  let v1238 : BitVec 32 := Scalar.muli v1237 c8_i32_552
  let v1239 : BitVec 32 := v1238
  let v1240 : Index := Scalar.indexCast v1239
  let c0_554 : Index := 0#32
  ![1, v1240.toNat, 0]
def k0_off4 (k0_t1 : Fin k0_t1_loop.trips) : Fin 3 → Nat :=
  let c0_557 : Index := 0#32
  let c63_i32 : BitVec 32 := 63#32
  let c0_i32_537 : BitVec 32 := 0#32
  let c1_i32_538 : BitVec 32 := 1#32
  let arg20 : BitVec 32 := Scf.iv c0_i32_537 c1_i32_538 k0_t1
  let v1237 : BitVec 32 := Scalar.subi c63_i32 arg20
  let c8_i32_552 : BitVec 32 := 8#32
  let v1238 : BitVec 32 := Scalar.muli v1237 c8_i32_552
  let v1239 : BitVec 32 := v1238
  let v1248 : Index := Scalar.indexCast v1239
  let c0_558 : Index := 0#32
  ![0, v1248.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "decay" => some (((-8) * (Real.log 2)⁻¹ : ℝ) : EReal)
  | _ => none
-- ==== ReferenceIdeal.lean ====
abbrev S6x8192x1024 : Shape := ⟨3, ![6, 8192, 1024]⟩
abbrev S4x1024 : Shape := ⟨2, ![4, 1024]⟩
abbrev S1024 : Shape := ⟨1, ![1024]⟩
abbrev S2x8x128x128 : Shape := ⟨4, ![2, 8, 128, 128]⟩
abbrev S2x1024 : Shape := ⟨2, ![2, 1024]⟩
abbrev S_ : Shape := ⟨0, ![]⟩
abbrev S6x8195x1024 : Shape := ⟨3, ![6, 8195, 1024]⟩
abbrev S1x1024 : Shape := ⟨2, ![1, 1024]⟩
abbrev S1x1x1024 : Shape := ⟨3, ![1, 1, 1024]⟩
abbrev S6x8192x8x128 : Shape := ⟨4, ![6, 8192, 8, 128]⟩
abbrev S1x8x128x128 : Shape := ⟨4, ![1, 8, 128, 128]⟩
abbrev S8x128x128 : Shape := ⟨3, ![8, 128, 128]⟩
abbrev S8x128x6x8192 : Shape := ⟨4, ![8, 128, 6, 8192]⟩
abbrev S8192x6x1024 : Shape := ⟨3, ![8192, 6, 1024]⟩
abbrev S6x1024 : Shape := ⟨2, ![6, 1024]⟩
abbrev S1x6x1024 : Shape := ⟨3, ![1, 6, 1024]⟩

abbrev nBuf : Space → Nat
  | .hbm => 241
  | .vmem => 0
  | .smem => 0
  | _ => 0

abbrev hbmTy0_0 (i : Nat) : BufTy := match i % 128 with
  | 0 => ⟨S6x8192x1024, .f32⟩
  | 1 => ⟨S4x1024, .f32⟩
  | 2 => ⟨S1024, .f32⟩
  | 3 => ⟨S2x8x128x128, .f32⟩
  | 4 => ⟨S2x1024, .f32⟩
  | 5 => ⟨S2x8x128x128, .f32⟩
  | 6 => ⟨S2x1024, .f32⟩
  | 7 => ⟨S2x1024, .f32⟩
  | 8 => ⟨S_, .i32⟩
  | 9 => ⟨S_, .f32⟩
  | 10 => ⟨S6x8195x1024, .f32⟩
  | 11 => ⟨S6x8192x1024, .f32⟩
  | 12 => ⟨S1x1024, .f32⟩
  | 13 => ⟨S1024, .f32⟩
  | 14 => ⟨S1x1x1024, .f32⟩
  | 15 => ⟨S6x8192x1024, .f32⟩
  | 16 => ⟨S6x8192x1024, .f32⟩
  | 17 => ⟨S1x1x1024, .f32⟩
  | 18 => ⟨S6x8192x1024, .f32⟩
  | 19 => ⟨S6x8192x1024, .f32⟩
  | 20 => ⟨S6x8192x1024, .f32⟩
  | 21 => ⟨S1x1024, .f32⟩
  | 22 => ⟨S1024, .f32⟩
  | 23 => ⟨S1x1x1024, .f32⟩
  | 24 => ⟨S6x8192x1024, .f32⟩
  | 25 => ⟨S6x8192x1024, .f32⟩
  | 26 => ⟨S6x8192x1024, .f32⟩
  | 27 => ⟨S6x8192x1024, .f32⟩
  | 28 => ⟨S1x1024, .f32⟩
  | 29 => ⟨S1024, .f32⟩
  | 30 => ⟨S1x1x1024, .f32⟩
  | 31 => ⟨S6x8192x1024, .f32⟩
  | 32 => ⟨S6x8192x1024, .f32⟩
  | 33 => ⟨S6x8192x1024, .f32⟩
  | 34 => ⟨S6x8192x1024, .f32⟩
  | 35 => ⟨S1x1024, .f32⟩
  | 36 => ⟨S1024, .f32⟩
  | 37 => ⟨S1x1x1024, .f32⟩
  | 38 => ⟨S6x8192x1024, .f32⟩
  | 39 => ⟨S6x8192x1024, .f32⟩
  | 40 => ⟨S6x8192x1024, .f32⟩
  | 41 => ⟨S6x8192x8x128, .f32⟩
  | 42 => ⟨S1x8x128x128, .f32⟩
  | 43 => ⟨S8x128x128, .f32⟩
  | 44 => ⟨S8x128x6x8192, .f32⟩
  | 45 => ⟨S6x8192x8x128, .f32⟩
  | 46 => ⟨S6x8192x1024, .f32⟩
  | 47 => ⟨S1x1024, .f32⟩
  | 48 => ⟨S1024, .f32⟩
  | 49 => ⟨S1x1x1024, .f32⟩
  | 50 => ⟨S6x8192x1024, .f32⟩
  | 51 => ⟨S6x8192x1024, .f32⟩
  | 52 => ⟨S6x8192x1024, .f32⟩
  | 53 => ⟨S6x8192x1024, .f32⟩
  | 54 => ⟨S_, .f32⟩
  | 55 => ⟨S6x8192x1024, .f32⟩
  | 56 => ⟨S6x8192x1024, .f32⟩
  | 57 => ⟨S_, .f32⟩
  | 58 => ⟨S6x8192x1024, .f32⟩
  | 59 => ⟨S6x8192x1024, .f32⟩
  | 60 => ⟨S1x8x128x128, .f32⟩
  | 61 => ⟨S8x128x128, .f32⟩
  | 62 => ⟨S8x128x6x8192, .f32⟩
  | 63 => ⟨S6x8192x8x128, .f32⟩
  | 64 => ⟨S6x8192x1024, .f32⟩
  | 65 => ⟨S1x1024, .f32⟩
  | 66 => ⟨S1024, .f32⟩
  | 67 => ⟨S1x1x1024, .f32⟩
  | 68 => ⟨S6x8192x1024, .f32⟩
  | 69 => ⟨S6x8192x1024, .f32⟩
  | 70 => ⟨S6x8192x1024, .f32⟩
  | 71 => ⟨S6x8192x1024, .f32⟩
  | 72 => ⟨S_, .f32⟩
  | 73 => ⟨S6x8192x1024, .f32⟩
  | 74 => ⟨S6x8192x1024, .f32⟩
  | 75 => ⟨S_, .f32⟩
  | 76 => ⟨S6x8192x1024, .f32⟩
  | 77 => ⟨S6x8192x1024, .f32⟩
  | 78 => ⟨S_, .f32⟩
  | 79 => ⟨S6x8192x1024, .f32⟩
  | 80 => ⟨S6x8192x1024, .f32⟩
  | 81 => ⟨S1x1024, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S1024, .f32⟩
  | 89 => ⟨S1024, .i1⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1x1x1024, .f32⟩
  | 99 => ⟨S6x8192x1024, .f32⟩
  | 100 => ⟨S6x8192x1024, .f32⟩
  | 101 => ⟨S6x8192x1024, .f32⟩
  | 102 => ⟨S_, .f32⟩
  | 103 => ⟨S6x8192x1024, .f32⟩
  | 104 => ⟨S6x8192x1024, .f32⟩
  | 105 => ⟨S6x8192x1024, .f32⟩
  | 106 => ⟨S6x8192x1024, .f32⟩
  | 107 => ⟨S_, .f32⟩
  | 108 => ⟨S6x8192x1024, .f32⟩
  | 109 => ⟨S6x8192x1024, .f32⟩
  | 110 => ⟨S6x8192x1024, .f32⟩
  | 111 => ⟨S6x8192x1024, .f32⟩
  | 112 => ⟨S6x8192x1024, .f32⟩
  | 113 => ⟨S8192x6x1024, .f32⟩
  | 114 => ⟨S8192x6x1024, .f32⟩
  | 115 => ⟨S1x8x128x128, .f32⟩
  | 116 => ⟨S8x128x128, .f32⟩
  | 117 => ⟨S8x128x6x8192, .f32⟩
  | 118 => ⟨S6x8192x8x128, .f32⟩
  | 119 => ⟨S6x8192x1024, .f32⟩
  | 120 => ⟨S1x1024, .f32⟩
  | 121 => ⟨S1024, .f32⟩
  | 122 => ⟨S1x1x1024, .f32⟩
  | 123 => ⟨S6x8192x1024, .f32⟩
  | 124 => ⟨S6x8192x1024, .f32⟩
  | 125 => ⟨S6x8192x1024, .f32⟩
  | 126 => ⟨S6x8192x1024, .f32⟩
  | 127 => ⟨S_, .f32⟩
  | _ => ⟨S6x8192x1024, .f32⟩

abbrev hbmTy0_1 (i : Nat) : BufTy := match i % 128 with
  | 0 => ⟨S6x8192x1024, .f32⟩
  | 1 => ⟨S6x8192x1024, .f32⟩
  | 2 => ⟨S_, .f32⟩
  | 3 => ⟨S6x8192x1024, .f32⟩
  | 4 => ⟨S6x8192x1024, .f32⟩
  | 5 => ⟨S1x8x128x128, .f32⟩
  | 6 => ⟨S8x128x128, .f32⟩
  | 7 => ⟨S8x128x6x8192, .f32⟩
  | 8 => ⟨S6x8192x8x128, .f32⟩
  | 9 => ⟨S6x8192x1024, .f32⟩
  | 10 => ⟨S1x1024, .f32⟩
  | 11 => ⟨S1024, .f32⟩
  | 12 => ⟨S1x1x1024, .f32⟩
  | 13 => ⟨S6x8192x1024, .f32⟩
  | 14 => ⟨S6x8192x1024, .f32⟩
  | 15 => ⟨S6x8192x1024, .f32⟩
  | 16 => ⟨S6x8192x1024, .f32⟩
  | 17 => ⟨S_, .f32⟩
  | 18 => ⟨S6x8192x1024, .f32⟩
  | 19 => ⟨S6x8192x1024, .f32⟩
  | 20 => ⟨S_, .f32⟩
  | 21 => ⟨S6x8192x1024, .f32⟩
  | 22 => ⟨S6x8192x1024, .f32⟩
  | 23 => ⟨S_, .f32⟩
  | 24 => ⟨S6x8192x1024, .f32⟩
  | 25 => ⟨S6x8192x1024, .f32⟩
  | 26 => ⟨S1x1024, .f32⟩
  | 27 => ⟨S1024, .f32⟩
  | 28 => ⟨S1024, .f32⟩
  | 29 => ⟨S_, .f32⟩
  | 30 => ⟨S1024, .f32⟩
  | 31 => ⟨S1024, .f32⟩
  | 32 => ⟨S1024, .f32⟩
  | 33 => ⟨S1024, .f32⟩
  | 34 => ⟨S1024, .i1⟩
  | 35 => ⟨S1024, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1024, .f32⟩
  | 43 => ⟨S1x1x1024, .f32⟩
  | 44 => ⟨S6x8192x1024, .f32⟩
  | 45 => ⟨S6x8192x1024, .f32⟩
  | 46 => ⟨S6x8192x1024, .f32⟩
  | 47 => ⟨S_, .f32⟩
  | 48 => ⟨S6x8192x1024, .f32⟩
  | 49 => ⟨S6x8192x1024, .f32⟩
  | 50 => ⟨S6x8192x1024, .f32⟩
  | 51 => ⟨S6x8192x1024, .f32⟩
  | 52 => ⟨S_, .f32⟩
  | 53 => ⟨S6x8192x1024, .f32⟩
  | 54 => ⟨S6x8192x1024, .f32⟩
  | 55 => ⟨S6x8192x1024, .f32⟩
  | 56 => ⟨S6x8192x1024, .f32⟩
  | 57 => ⟨S6x8192x1024, .f32⟩
  | 58 => ⟨S8192x6x1024, .f32⟩
  | 59 => ⟨S8192x6x1024, .f32⟩
  | 60 => ⟨S_, .f32⟩
  | 61 => ⟨S6x1024, .f32⟩
  | 62 => ⟨S8192x6x1024, .f32⟩
  | 63 => ⟨S8192x6x1024, .f32⟩
  | 64 => ⟨S_, .f32⟩
  | 65 => ⟨S8192x6x1024, .f32⟩
  | 66 => ⟨S_, .f32⟩
  | 67 => ⟨S8192x6x1024, .f32⟩
  | 68 => ⟨S_, .i32⟩
  | 69 => ⟨S8192x6x1024, .f32⟩
  | 70 => ⟨S8192x6x1024, .f32⟩
  | 71 => ⟨S8192x6x1024, .f32⟩
  | 72 => ⟨S8192x6x1024, .f32⟩
  | 73 => ⟨S_, .i32⟩
  | 74 => ⟨S6x1024, .f32⟩
  | 75 => ⟨S6x1024, .f32⟩
  | 76 => ⟨S8192x6x1024, .f32⟩
  | 77 => ⟨S8192x6x1024, .f32⟩
  | 78 => ⟨S_, .i32⟩
  | 79 => ⟨S_, .i1⟩
  | 80 => ⟨S_, .i32⟩
  | 81 => ⟨S_, .i32⟩
  | 82 => ⟨S1x6x1024, .f32⟩
  | 83 => ⟨S6x1024, .f32⟩
  | 84 => ⟨S_, .i32⟩
  | 85 => ⟨S_, .i32⟩
  | 86 => ⟨S1x6x1024, .f32⟩
  | 87 => ⟨S6x1024, .f32⟩
  | 88 => ⟨S_, .i32⟩
  | 89 => ⟨S_, .i32⟩
  | 90 => ⟨S1x6x1024, .f32⟩
  | 91 => ⟨S6x1024, .f32⟩
  | 92 => ⟨S_, .i32⟩
  | 93 => ⟨S_, .i32⟩
  | 94 => ⟨S1x6x1024, .f32⟩
  | 95 => ⟨S6x1024, .f32⟩
  | 96 => ⟨S6x1024, .f32⟩
  | 97 => ⟨S6x1024, .f32⟩
  | 98 => ⟨S6x1024, .f32⟩
  | 99 => ⟨S6x1024, .f32⟩
  | 100 => ⟨S1x6x1024, .f32⟩
  | 101 => ⟨S_, .i32⟩
  | 102 => ⟨S_, .i32⟩
  | 103 => ⟨S8192x6x1024, .f32⟩
  | 104 => ⟨S1x6x1024, .f32⟩
  | 105 => ⟨S_, .i32⟩
  | 106 => ⟨S_, .i32⟩
  | 107 => ⟨S8192x6x1024, .f32⟩
  | 108 => ⟨S_, .i32⟩
  | 109 => ⟨S_, .i32⟩
  | 110 => ⟨S6x8192x1024, .f32⟩
  | 111 => ⟨S8192x6x1024, .f32⟩
  | 112 => ⟨S6x8192x1024, .f32⟩
  | _ => ⟨S6x8192x1024, .f32⟩

abbrev hbmTy (i : Nat) : BufTy := match i / 128 with
  | 0 => hbmTy0_0 i
  | 1 => hbmTy0_1 i
  | _ => ⟨S6x8192x1024, .f32⟩

abbrev bufTy : (tb : Table) → Fin (tcTables nBuf tb) → BufTy
  | .hbm, ⟨i, _⟩ => hbmTy i
  | _, _ => ⟨S6x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_1 : Ref sig .tc := ⟨.hbm, 72, rfl⟩
abbrev main_v60 : Ref sig .tc := ⟨.hbm, 73, rfl⟩
abbrev main_v61 : Ref sig .tc := ⟨.hbm, 74, rfl⟩
abbrev main_cst_2 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_4 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_5 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_6 : Ref sig .tc := ⟨.hbm, 127, rfl⟩
abbrev main_v97 : Ref sig .tc := ⟨.hbm, 128, rfl⟩
abbrev main_v98 : Ref sig .tc := ⟨.hbm, 129, rfl⟩
abbrev main_cst_7 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_8 : Ref sig .tc := ⟨.hbm, 145, rfl⟩
abbrev main_v113 : Ref sig .tc := ⟨.hbm, 146, rfl⟩
abbrev main_v114 : Ref sig .tc := ⟨.hbm, 147, rfl⟩
abbrev main_cst_9 : Ref sig .tc := ⟨.hbm, 148, rfl⟩
abbrev main_v115 : Ref sig .tc := ⟨.hbm, 149, rfl⟩
abbrev main_v116 : Ref sig .tc := ⟨.hbm, 150, rfl⟩
abbrev main_cst_10 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_call2_cst : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_v8 : Ref sig .tc := ⟨.hbm, 166, rfl⟩
abbrev main_call2_v9 : Ref sig .tc := ⟨.hbm, 167, rfl⟩
abbrev main_call2_v10 : Ref sig .tc := ⟨.hbm, 168, rfl⟩
abbrev main_call2_v11 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_11 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_12 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_13 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_cst_14 : Ref sig .tc := ⟨.hbm, 192, rfl⟩
abbrev main_v141 : Ref sig .tc := ⟨.hbm, 193, rfl⟩
abbrev main_cst_15 : Ref sig .tc := ⟨.hbm, 194, rfl⟩
abbrev main_v142 : Ref sig .tc := ⟨.hbm, 195, rfl⟩
abbrev main_c_16 : Ref sig .tc := ⟨.hbm, 196, rfl⟩
abbrev main_v143_0 : Ref sig .tc := ⟨.hbm, 197, rfl⟩
abbrev main_v143_1 : Ref sig .tc := ⟨.hbm, 198, rfl⟩
abbrev main_v143_2 : Ref sig .tc := ⟨.hbm, 199, rfl⟩
abbrev main_v143_3 : Ref sig .tc := ⟨.hbm, 200, rfl⟩
abbrev main_v143_4 : Ref sig .tc := ⟨.hbm, 201, rfl⟩
abbrev main_v143_5 : Ref sig .tc := ⟨.hbm, 202, rfl⟩
abbrev main_v143_6 : Ref sig .tc := ⟨.hbm, 203, rfl⟩
abbrev main_v143_7 : Ref sig .tc := ⟨.hbm, 204, rfl⟩
abbrev main_v143_8 : Ref sig .tc := ⟨.hbm, 205, rfl⟩
abbrev main_while0c_c_25 : Ref sig .tc := ⟨.hbm, 206, rfl⟩
abbrev main_while0c_v147 : Ref sig .tc := ⟨.hbm, 207, rfl⟩
abbrev main_while0b_call5_c : Ref sig .tc := ⟨.hbm, 208, rfl⟩
abbrev main_while0b_call5_c_0 : Ref sig .tc := ⟨.hbm, 209, rfl⟩
abbrev main_while0b_call5_v0 : Ref sig .tc := ⟨.hbm, 210, rfl⟩
abbrev main_while0b_v147 : Ref sig .tc := ⟨.hbm, 211, rfl⟩
abbrev main_while0b_call6_c : Ref sig .tc := ⟨.hbm, 212, rfl⟩
abbrev main_while0b_call6_c_0 : Ref sig .tc := ⟨.hbm, 213, rfl⟩
abbrev main_while0b_call6_v0 : Ref sig .tc := ⟨.hbm, 214, rfl⟩
abbrev main_while0b_v148 : Ref sig .tc := ⟨.hbm, 215, rfl⟩
abbrev main_while0b_call7_c : Ref sig .tc := ⟨.hbm, 216, rfl⟩
abbrev main_while0b_call7_c_0 : Ref sig .tc := ⟨.hbm, 217, rfl⟩
abbrev main_while0b_call7_v0 : Ref sig .tc := ⟨.hbm, 218, rfl⟩
abbrev main_while0b_v149 : Ref sig .tc := ⟨.hbm, 219, rfl⟩
abbrev main_while0b_call8_c : Ref sig .tc := ⟨.hbm, 220, rfl⟩
abbrev main_while0b_call8_c_0 : Ref sig .tc := ⟨.hbm, 221, rfl⟩
abbrev main_while0b_call8_v0 : Ref sig .tc := ⟨.hbm, 222, rfl⟩
abbrev main_while0b_v150 : Ref sig .tc := ⟨.hbm, 223, rfl⟩
abbrev main_while0b_v151 : Ref sig .tc := ⟨.hbm, 224, rfl⟩
abbrev main_while0b_v152 : Ref sig .tc := ⟨.hbm, 225, rfl⟩
abbrev main_while0b_v153 : Ref sig .tc := ⟨.hbm, 226, rfl⟩
abbrev main_while0b_v154 : Ref sig .tc := ⟨.hbm, 227, rfl⟩
abbrev main_while0b_call9_v0 : Ref sig .tc := ⟨.hbm, 228, rfl⟩
abbrev main_while0b_call9_c : Ref sig .tc := ⟨.hbm, 229, rfl⟩
abbrev main_while0b_call9_c_0 : Ref sig .tc := ⟨.hbm, 230, rfl⟩
abbrev main_while0b_v155 : Ref sig .tc := ⟨.hbm, 231, rfl⟩
abbrev main_while0b_call10_v0 : Ref sig .tc := ⟨.hbm, 232, rfl⟩
abbrev main_while0b_call10_c : Ref sig .tc := ⟨.hbm, 233, rfl⟩
abbrev main_while0b_call10_c_0 : Ref sig .tc := ⟨.hbm, 234, rfl⟩
abbrev main_while0b_v156 : Ref sig .tc := ⟨.hbm, 235, rfl⟩
abbrev main_while0b_c_25 : Ref sig .tc := ⟨.hbm, 236, rfl⟩
abbrev main_while0b_v157 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩

abbrev nD : Nat := 1
abbrev τ : Topo := Topo.v7x

variable {F : FTy → Type} [FloatOps F]

abbrev main_while0_count : Scf.Loop 32 := ⟨0#32, 8192#32, 1#32⟩
-- ==== InProj.lean ====
abbrev S4x8192x2048 : Shape := ⟨3, ![4, 8192, 2048]⟩
abbrev S2x8192x2048 : Shape := ⟨3, ![2, 8192, 2048]⟩
abbrev S6x6x2048 : Shape := ⟨3, ![6, 6, 2048]⟩
abbrev S2048 : Shape := ⟨1, ![2048]⟩
abbrev S2048x5120 : Shape := ⟨2, ![2048, 5120]⟩
abbrev S8192x64 : Shape := ⟨2, ![8192, 64]⟩
abbrev S256x256 : Shape := ⟨2, ![256, 256]⟩
abbrev S8192x128 : Shape := ⟨2, ![8192, 128]⟩
abbrev S1x2048 : Shape := ⟨2, ![1, 2048]⟩
abbrev S6x8192x1024 : Shape := ⟨3, ![6, 8192, 1024]⟩
abbrev S6x4x2048x1024 : Shape := ⟨4, ![6, 4, 2048, 1024]⟩
abbrev S6x16x512x1024 : Shape := ⟨4, ![6, 16, 512, 1024]⟩
abbrev S1x256x2048 : Shape := ⟨3, ![1, 256, 2048]⟩
abbrev S1x6x2048 : Shape := ⟨3, ![1, 6, 2048]⟩
abbrev S256x128 : Shape := ⟨2, ![256, 128]⟩
abbrev S1x256x1024 : Shape := ⟨3, ![1, 256, 1024]⟩
abbrev S1x4x64x1024 : Shape := ⟨4, ![1, 4, 64, 1024]⟩
abbrev S1x16x16x1024 : Shape := ⟨4, ![1, 16, 16, 1024]⟩
abbrev S256x2048 : Shape := ⟨2, ![256, 2048]⟩
abbrev S6x2048 : Shape := ⟨2, ![6, 2048]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S4x64x1024 : Shape := ⟨3, ![4, 64, 1024]⟩
abbrev S16x16x1024 : Shape := ⟨3, ![16, 16, 1024]⟩

abbrev nBuf : Space → Nat
  | .hbm => 25
  | .vmem => 36
  | .smem => 0
  | _ => 0

abbrev bufTy : (tb : Table) → Fin (tcTables nBuf tb) → BufTy
  | .hbm, ⟨0, _⟩ => ⟨S4x8192x2048, .f32⟩
  | .hbm, ⟨1, _⟩ => ⟨S2x8192x2048, .f32⟩
  | .hbm, ⟨2, _⟩ => ⟨S6x6x2048, .f32⟩
  | .hbm, ⟨3, _⟩ => ⟨S2048, .f32⟩
  | .hbm, ⟨4, _⟩ => ⟨S2048x5120, .f32⟩
  | .hbm, ⟨5, _⟩ => ⟨S8192x64, .f32⟩
  | .hbm, ⟨6, _⟩ => ⟨S8192x64, .f32⟩
  | .hbm, ⟨7, _⟩ => ⟨S256x256, .bf16⟩
  | .hbm, ⟨8, _⟩ => ⟨S256x256, .bf16⟩
  | .hbm, ⟨9, _⟩ => ⟨S8192x128, .f32⟩
  | .hbm, ⟨10, _⟩ => ⟨S8192x64, .f32⟩
  | .hbm, ⟨11, _⟩ => ⟨S8192x128, .f32⟩
  | .hbm, ⟨12, _⟩ => ⟨S1x2048, .f32⟩
  | .hbm, ⟨13, _⟩ => ⟨S2048x5120, .bf16⟩
  | .hbm, ⟨14, _⟩ => ⟨S6x8192x1024, .bf16⟩
  | .hbm, ⟨15, _⟩ => ⟨S6x8192x1024, .bf16⟩
  | .hbm, ⟨16, _⟩ => ⟨S6x8192x1024, .bf16⟩
  | .hbm, ⟨17, _⟩ => ⟨S6x4x2048x1024, .bf16⟩
  | .hbm, ⟨18, _⟩ => ⟨S6x4x2048x1024, .bf16⟩
  | .hbm, ⟨19, _⟩ => ⟨S6x4x2048x1024, .bf16⟩
  | .hbm, ⟨20, _⟩ => ⟨S6x16x512x1024, .bf16⟩
  | .hbm, ⟨21, _⟩ => ⟨S6x16x512x1024, .bf16⟩
  | .hbm, ⟨22, _⟩ => ⟨S6x16x512x1024, .bf16⟩
  | .hbm, ⟨23, _⟩ => ⟨S6x8192x1024, .f32⟩
  | .hbm, ⟨24, _⟩ => ⟨S6x8192x1024, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x6x2048, .f32⟩
  | .local _ .vmem, ⟨5, _⟩ => ⟨S1x6x2048, .f32⟩
  | .local _ .vmem, ⟨6, _⟩ => ⟨S1x2048, .f32⟩
  | .local _ .vmem, ⟨7, _⟩ => ⟨S2048x5120, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x256, .bf16⟩
  | .local _ .vmem, ⟨13, _⟩ => ⟨S256x256, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x4x64x1024, .bf16⟩
  | .local _ .vmem, ⟨21, _⟩ => ⟨S1x4x64x1024, .bf16⟩
  | .local _ .vmem, ⟨22, _⟩ => ⟨S1x4x64x1024, .bf16⟩
  | .local _ .vmem, ⟨23, _⟩ => ⟨S1x4x64x1024, .bf16⟩
  | .local _ .vmem, ⟨24, _⟩ => ⟨S1x4x64x1024, .bf16⟩
  | .local _ .vmem, ⟨25, _⟩ => ⟨S1x4x64x1024, .bf16⟩
  | .local _ .vmem, ⟨26, _⟩ => ⟨S1x16x16x1024, .bf16⟩
  | .local _ .vmem, ⟨27, _⟩ => ⟨S1x16x16x1024, .bf16⟩
  | .local _ .vmem, ⟨28, _⟩ => ⟨S1x16x16x1024, .bf16⟩
  | .local _ .vmem, ⟨29, _⟩ => ⟨S1x16x16x1024, .bf16⟩
  | .local _ .vmem, ⟨30, _⟩ => ⟨S1x16x16x1024, .bf16⟩
  | .local _ .vmem, ⟨31, _⟩ => ⟨S1x16x16x1024, .bf16⟩
  | .local _ .vmem, ⟨32, _⟩ => ⟨S1x256x1024, .f32⟩
  | .local _ .vmem, ⟨33, _⟩ => ⟨S1x256x1024, .f32⟩
  | .local _ .vmem, ⟨34, _⟩ => ⟨S1x256x1024, .bf16⟩
  | .local _ .vmem, ⟨35, _⟩ => ⟨S1x256x1024, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev main_v5_7 : Ref sig .tc := ⟨.hbm, 21, rfl⟩
abbrev main_v5_8 : Ref sig .tc := ⟨.hbm, 22, rfl⟩
abbrev main_v5_9 : Ref sig .tc := ⟨.hbm, 23, rfl⟩
abbrev main_v5_10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨2, ![6, 32], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .slt arg0 c4_i32
  let c31_i32 : BitVec 32 := 31#32
  let v2 : BitVec 32 := Scalar.select v1 arg1 c31_i32
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c4_i32_0 : BitVec 32 := 4#32
  let v2 : BitVec 1 := Scalar.cmpi .slt arg0 c4_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x16x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x16x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x16x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== InReferenceIdeal.lean ====
abbrev S4x8192x2048 : Shape := ⟨3, ![4, 8192, 2048]⟩
abbrev S2x8192x2048 : Shape := ⟨3, ![2, 8192, 2048]⟩
abbrev S6x6x2048 : Shape := ⟨3, ![6, 6, 2048]⟩
abbrev S2048 : Shape := ⟨1, ![2048]⟩
abbrev S2048x5120 : Shape := ⟨2, ![2048, 5120]⟩
abbrev S8192x64 : Shape := ⟨2, ![8192, 64]⟩
abbrev S256x256 : Shape := ⟨2, ![256, 256]⟩
abbrev S6x8192x2048 : Shape := ⟨3, ![6, 8192, 2048]⟩
abbrev S6x1x2048 : Shape := ⟨3, ![6, 1, 2048]⟩
abbrev S_ : Shape := ⟨0, ![]⟩
abbrev S6x8192 : Shape := ⟨2, ![6, 8192]⟩
abbrev S6x8192x1 : Shape := ⟨3, ![6, 8192, 1]⟩
abbrev S1x1x2048 : Shape := ⟨3, ![1, 1, 2048]⟩
abbrev S6x8192x5120 : Shape := ⟨3, ![6, 8192, 5120]⟩
abbrev S6x8192x1024 : Shape := ⟨3, ![6, 8192, 1024]⟩
abbrev S6x8192x8x128 : Shape := ⟨4, ![6, 8192, 8, 128]⟩
abbrev S1x8192x1x64 : Shape := ⟨4, ![1, 8192, 1, 64]⟩
abbrev S6x8192x8x64 : Shape := ⟨4, ![6, 8192, 8, 64]⟩

abbrev nBuf : Space → Nat
  | .hbm => 82
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x8192x2048, .f32⟩
  | .hbm, ⟨2, _⟩ => ⟨S6x6x2048, .f32⟩
  | .hbm, ⟨3, _⟩ => ⟨S2048, .f32⟩
  | .hbm, ⟨4, _⟩ => ⟨S2048x5120, .f32⟩
  | .hbm, ⟨5, _⟩ => ⟨S8192x64, .f32⟩
  | .hbm, ⟨6, _⟩ => ⟨S8192x64, .f32⟩
  | .hbm, ⟨7, _⟩ => ⟨S256x256, .bf16⟩
  | .hbm, ⟨8, _⟩ => ⟨S256x256, .bf16⟩
  | .hbm, ⟨9, _⟩ => ⟨S6x8192x2048, .f32⟩
  | .hbm, ⟨10, _⟩ => ⟨S6x1x2048, .f32⟩
  | .hbm, ⟨11, _⟩ => ⟨S6x1x2048, .f32⟩
  | .hbm, ⟨12, _⟩ => ⟨S6x8192x2048, .f32⟩
  | .hbm, ⟨13, _⟩ => ⟨S_, .f32⟩
  | .hbm, ⟨14, _⟩ => ⟨S6x8192, .f32⟩
  | .hbm, ⟨15, _⟩ => ⟨S6x8192x1, .f32⟩
  | .hbm, ⟨16, _⟩ => ⟨S_, .f32⟩
  | .hbm, ⟨17, _⟩ => ⟨S6x8192x1, .f32⟩
  | .hbm, ⟨18, _⟩ => ⟨S6x8192x1, .f32⟩
  | .hbm, ⟨19, _⟩ => ⟨S_, .f32⟩
  | .hbm, ⟨20, _⟩ => ⟨S6x8192x1, .f32⟩
  | .hbm, ⟨21, _⟩ => ⟨S6x8192x1, .f32⟩
  | .hbm, ⟨22, _⟩ => ⟨S6x8192x1, .f32⟩
  | .hbm, ⟨23, _⟩ => ⟨S6x8192x2048, .f32⟩
  | .hbm, ⟨24, _⟩ => ⟨S6x8192x2048, .f32⟩
  | .hbm, ⟨25, _⟩ => ⟨S1x1x2048, .f32⟩
  | .hbm, ⟨26, _⟩ => ⟨S6x8192x2048, .f32⟩
  | .hbm, ⟨27, _⟩ => ⟨S6x8192x2048, .f32⟩
  | .hbm, ⟨28, _⟩ => ⟨S_, .f32⟩
  | .hbm, ⟨29, _⟩ => ⟨S6x1x2048, .f32⟩
  | .hbm, ⟨30, _⟩ => ⟨S6x1x2048, .f32⟩
  | .hbm, ⟨31, _⟩ => ⟨S6x8192x2048, .f32⟩
  | .hbm, ⟨32, _⟩ => ⟨S6x8192x2048, .f32⟩
  | .hbm, ⟨33, _⟩ => ⟨S6x8192x2048, .f32⟩
  | .hbm, ⟨34, _⟩ => ⟨S6x8192x2048, .f32⟩
  | .hbm, ⟨35, _⟩ => ⟨S6x8192x5120, .f32⟩
  | .hbm, ⟨36, _⟩ => ⟨S6x8192x1024, .f32⟩
  | .hbm, ⟨37, _⟩ => ⟨S6x8192x1024, .f32⟩
  | .hbm, ⟨38, _⟩ => ⟨S6x8192x1024, .f32⟩
  | .hbm, ⟨39, _⟩ => ⟨S6x8192x1024, .f32⟩
  | .hbm, ⟨40, _⟩ => ⟨S6x8192x1024, .f32⟩
  | .hbm, ⟨41, _⟩ => ⟨S6x8192x8x128, .f32⟩
  | .hbm, ⟨42, _⟩ => ⟨S1x8192x1x64, .f32⟩
  | .hbm, ⟨43, _⟩ => ⟨S1x8192x1x64, .f32⟩
  | .hbm, ⟨44, _⟩ => ⟨S6x8192x8x64, .f32⟩
  | .hbm, ⟨45, _⟩ => ⟨S6x8192x8x64, .f32⟩
  | .hbm, ⟨46, _⟩ => ⟨S6x8192x8x64, .f32⟩
  | .hbm, ⟨47, _⟩ => ⟨S6x8192x8x64, .f32⟩
  | .hbm, ⟨48, _⟩ => ⟨S6x8192x8x64, .f32⟩
  | .hbm, ⟨49, _⟩ => ⟨S6x8192x8x64, .f32⟩
  | .hbm, ⟨50, _⟩ => ⟨S6x8192x8x64, .f32⟩
  | .hbm, ⟨51, _⟩ => ⟨S6x8192x8x64, .f32⟩
  | .hbm, ⟨52, _⟩ => ⟨S6x8192x8x64, .f32⟩
  | .hbm, ⟨53, _⟩ => ⟨S6x8192x8x64, .f32⟩
  | .hbm, ⟨54, _⟩ => ⟨S6x8192x8x64, .f32⟩
  | .hbm, ⟨55, _⟩ => ⟨S6x8192x8x64, .f32⟩
  | .hbm, ⟨56, _⟩ => ⟨S6x8192x8x128, .f32⟩
  | .hbm, ⟨57, _⟩ => ⟨S_, .f32⟩
  | .hbm, ⟨58, _⟩ => ⟨S6x8192x8x128, .f32⟩
  | .hbm, ⟨59, _⟩ => ⟨S6x8192x8x128, .f32⟩
  | .hbm, ⟨60, _⟩ => ⟨S6x8192x8x128, .f32⟩
  | .hbm, ⟨61, _⟩ => ⟨S1x8192x1x64, .f32⟩
  | .hbm, ⟨62, _⟩ => ⟨S1x8192x1x64, .f32⟩
  | .hbm, ⟨63, _⟩ => ⟨S6x8192x8x64, .f32⟩
  | .hbm, ⟨64, _⟩ => ⟨S6x8192x8x64, .f32⟩
  | .hbm, ⟨65, _⟩ => ⟨S6x8192x8x64, .f32⟩
  | .hbm, ⟨66, _⟩ => ⟨S6x8192x8x64, .f32⟩
  | .hbm, ⟨67, _⟩ => ⟨S6x8192x8x64, .f32⟩
  | .hbm, ⟨68, _⟩ => ⟨S6x8192x8x64, .f32⟩
  | .hbm, ⟨69, _⟩ => ⟨S6x8192x8x64, .f32⟩
  | .hbm, ⟨70, _⟩ => ⟨S6x8192x8x64, .f32⟩
  | .hbm, ⟨71, _⟩ => ⟨S6x8192x8x64, .f32⟩
  | .hbm, ⟨72, _⟩ => ⟨S6x8192x8x64, .f32⟩
  | .hbm, ⟨73, _⟩ => ⟨S6x8192x8x64, .f32⟩
  | .hbm, ⟨74, _⟩ => ⟨S6x8192x8x64, .f32⟩
  | .hbm, ⟨75, _⟩ => ⟨S6x8192x8x128, .f32⟩
  | .hbm, ⟨76, _⟩ => ⟨S6x8192x1024, .f32⟩
  | .hbm, ⟨77, _⟩ => ⟨S6x8192x1024, .bf16⟩
  | .hbm, ⟨78, _⟩ => ⟨S6x8192x1024, .f32⟩
  | .hbm, ⟨79, _⟩ => ⟨S6x8192x1024, .bf16⟩
  | .hbm, ⟨80, _⟩ => ⟨S6x8192x1024, .bf16⟩
  | .hbm, ⟨81, _⟩ => ⟨S6x8192x1024, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== OutProj.lean ====
abbrev S6x8192x1024 : Shape := ⟨3, ![6, 8192, 1024]⟩
abbrev S4x8192x2048 : Shape := ⟨3, ![4, 8192, 2048]⟩
abbrev S2x8192x2048 : Shape := ⟨3, ![2, 8192, 2048]⟩
abbrev S6x6x2048 : Shape := ⟨3, ![6, 6, 2048]⟩
abbrev S1024 : Shape := ⟨1, ![1024]⟩
abbrev S2048x2048 : Shape := ⟨2, ![2048, 2048]⟩
abbrev S2048 : Shape := ⟨1, ![2048]⟩
abbrev S1x1024 : Shape := ⟨2, ![1, 1024]⟩
abbrev S1x2048 : Shape := ⟨2, ![1, 2048]⟩
abbrev S6x8192x2048 : Shape := ⟨3, ![6, 8192, 2048]⟩
abbrev S2048x49152 : Shape := ⟨2, ![2048, 49152]⟩
abbrev S1x512x1024 : Shape := ⟨3, ![1, 512, 1024]⟩
abbrev S1x512x2048 : Shape := ⟨3, ![1, 512, 2048]⟩
abbrev S1x6x2048 : Shape := ⟨3, ![1, 6, 2048]⟩
abbrev S2048x512 : Shape := ⟨2, ![2048, 512]⟩
abbrev S6x2048 : Shape := ⟨2, ![6, 2048]⟩
abbrev S512x1024 : Shape := ⟨2, ![512, 1024]⟩
abbrev S512 : Shape := ⟨1, ![512]⟩
abbrev S512x1 : Shape := ⟨2, ![512, 1]⟩
abbrev S1024x2048 : Shape := ⟨2, ![1024, 2048]⟩
abbrev S512x2048 : Shape := ⟨2, ![512, 2048]⟩

abbrev nBuf : Space → Nat
  | .hbm => 17
  | .vmem => 22
  | .smem => 0
  | _ => 0

abbrev bufTy : (tb : Table) → Fin (tcTables nBuf tb) → BufTy
  | .hbm, ⟨0, _⟩ => ⟨S6x8192x1024, .bf16⟩
  | .hbm, ⟨1, _⟩ => ⟨S6x8192x1024, .f32⟩
  | .hbm, ⟨2, _⟩ => ⟨S6x8192x1024, .f32⟩
  | .hbm, ⟨3, _⟩ => ⟨S6x8192x1024, .bf16⟩
  | .hbm, ⟨4, _⟩ => ⟨S4x8192x2048, .f32⟩
  | .hbm, ⟨5, _⟩ => ⟨S2x8192x2048, .f32⟩
  | .hbm, ⟨6, _⟩ => ⟨S6x6x2048, .f32⟩
  | .hbm, ⟨7, _⟩ => ⟨S1024, .f32⟩
  | .hbm, ⟨8, _⟩ => ⟨S1024, .f32⟩
  | .hbm, ⟨9, _⟩ => ⟨S2048x2048, .f32⟩
  | .hbm, ⟨10, _⟩ => ⟨S2048, .f32⟩
  | .hbm, ⟨11, _⟩ => ⟨S1x1024, .f32⟩
  | .hbm, ⟨12, _⟩ => ⟨S1x1024, .f32⟩
  | .hbm, ⟨13, _⟩ => ⟨S2048x2048, .bf16⟩
  | .hbm, ⟨14, _⟩ => ⟨S1x2048, .f32⟩
  | .hbm, ⟨15, _⟩ => ⟨S6x8192x2048, .f32⟩
  | .hbm, ⟨16, _⟩ => ⟨S2048x49152, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | .local _ .vmem, ⟨12, _⟩ => ⟨S1x6x2048, .f32⟩
  | .local _ .vmem, ⟨13, _⟩ => ⟨S1x6x2048, .f32⟩
  | .local _ .vmem, ⟨14, _⟩ => ⟨S1x1024, .f32⟩
  | .local _ .vmem, ⟨15, _⟩ => ⟨S1x1024, .f32⟩
  | .local _ .vmem, ⟨16, _⟩ => ⟨S2048x2048, .bf16⟩
  | .local _ .vmem, ⟨17, _⟩ => ⟨S1x2048, .f32⟩
  | .local _ .vmem, ⟨18, _⟩ => ⟨S1x512x2048, .f32⟩
  | .local _ .vmem, ⟨19, _⟩ => ⟨S1x512x2048, .f32⟩
  | .local _ .vmem, ⟨20, _⟩ => ⟨S2048x512, .bf16⟩
  | .local _ .vmem, ⟨21, _⟩ => ⟨S2048x512, .bf16⟩
  | _, _ => ⟨S6x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![6, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .slt arg0 c4_i32
  let c15_i32 : BitVec 32 := 15#32
  let v2 : BitVec 32 := Scalar.select v1 arg1 c15_i32
  let c0_i32 : BitVec 32 := 0#32
  let c0_i32_0 : BitVec 32 := 0#32
  ![v0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c4_i32_0 : BitVec 32 := 4#32
  let v2 : BitVec 1 := Scalar.cmpi .slt arg0 c4_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== OutProjIdeal.lean ====
variable {F : FTy → Type} [FloatOps F] [Named F]
def κ : String → Option EReal := fun
  | "slope" => some (((-6693141 / 4194304) * (Real.log 2)⁻¹ : ℝ) : EReal)
  | "slope_cubic" => some ((((-6693141 / 4194304) * (Real.log 2)⁻¹) * (12003091 / 268435456) : ℝ) : EReal)
  | _ => none
-- ==== OutReferenceIdeal.lean ====
abbrev S6x8192x1024 : Shape := ⟨3, ![6, 8192, 1024]⟩
abbrev S4x8192x2048 : Shape := ⟨3, ![4, 8192, 2048]⟩
abbrev S2x8192x2048 : Shape := ⟨3, ![2, 8192, 2048]⟩
abbrev S6x6x2048 : Shape := ⟨3, ![6, 6, 2048]⟩
abbrev S1024 : Shape := ⟨1, ![1024]⟩
abbrev S2048x2048 : Shape := ⟨2, ![2048, 2048]⟩
abbrev S2048 : Shape := ⟨1, ![2048]⟩
abbrev S6x8192x2048 : Shape := ⟨3, ![6, 8192, 2048]⟩
abbrev S6x1x2048 : Shape := ⟨3, ![6, 1, 2048]⟩
abbrev S_ : Shape := ⟨0, ![]⟩
abbrev S6x8192 : Shape := ⟨2, ![6, 8192]⟩
abbrev S6x8192x1 : Shape := ⟨3, ![6, 8192, 1]⟩
abbrev S1x1x1024 : Shape := ⟨3, ![1, 1, 1024]⟩
abbrev S1x1x2048 : Shape := ⟨3, ![1, 1, 2048]⟩
abbrev S49152x2048 : Shape := ⟨2, ![49152, 2048]⟩
abbrev S2048x49152 : Shape := ⟨2, ![2048, 49152]⟩

abbrev nBuf : Space → Nat
  | .hbm => 99
  | .vmem => 0
  | .smem => 0
  | _ => 0

abbrev bufTy : (tb : Table) → Fin (tcTables nBuf tb) → BufTy
  | .hbm, ⟨0, _⟩ => ⟨S6x8192x1024, .bf16⟩
  | .hbm, ⟨1, _⟩ => ⟨S6x8192x1024, .f32⟩
  | .hbm, ⟨2, _⟩ => ⟨S6x8192x1024, .f32⟩
  | .hbm, ⟨3, _⟩ => ⟨S6x8192x1024, .bf16⟩
  | .hbm, ⟨4, _⟩ => ⟨S4x8192x2048, .f32⟩
  | .hbm, ⟨5, _⟩ => ⟨S2x8192x2048, .f32⟩
  | .hbm, ⟨6, _⟩ => ⟨S6x6x2048, .f32⟩
  | .hbm, ⟨7, _⟩ => ⟨S1024, .f32⟩
  | .hbm, ⟨8, _⟩ => ⟨S1024, .f32⟩
  | .hbm, ⟨9, _⟩ => ⟨S2048x2048, .f32⟩
  | .hbm, ⟨10, _⟩ => ⟨S2048, .f32⟩
  | .hbm, ⟨11, _⟩ => ⟨S6x8192x2048, .f32⟩
  | .hbm, ⟨12, _⟩ => ⟨S6x1x2048, .f32⟩
  | .hbm, ⟨13, _⟩ => ⟨S6x1x2048, .f32⟩
  | .hbm, ⟨14, _⟩ => ⟨S6x1x2048, .f32⟩
  | .hbm, ⟨15, _⟩ => ⟨S6x8192x1024, .f32⟩
  | .hbm, ⟨16, _⟩ => ⟨S6x8192x1024, .f32⟩
  | .hbm, ⟨17, _⟩ => ⟨S6x8192x1024, .f32⟩
  | .hbm, ⟨18, _⟩ => ⟨S6x8192x1024, .f32⟩
  | .hbm, ⟨19, _⟩ => ⟨S_, .f32⟩
  | .hbm, ⟨20, _⟩ => ⟨S6x8192x1024, .f32⟩
  | .hbm, ⟨21, _⟩ => ⟨S6x8192x1024, .f32⟩
  | .hbm, ⟨22, _⟩ => ⟨S6x8192x1024, .f32⟩
  | .hbm, ⟨23, _⟩ => ⟨S_, .f32⟩
  | .hbm, ⟨24, _⟩ => ⟨S6x8192x1024, .f32⟩
  | .hbm, ⟨25, _⟩ => ⟨S6x8192x1024, .f32⟩
  | .hbm, ⟨26, _⟩ => ⟨S6x8192x1024, .f32⟩
  | .hbm, ⟨27, _⟩ => ⟨S_, .f32⟩
  | .hbm, ⟨28, _⟩ => ⟨S6x8192x1024, .f32⟩
  | .hbm, ⟨29, _⟩ => ⟨S6x8192x1024, .f32⟩
  | .hbm, ⟨30, _⟩ => ⟨S_, .f32⟩
  | .hbm, ⟨31, _⟩ => ⟨S6x8192x1024, .f32⟩
  | .hbm, ⟨32, _⟩ => ⟨S6x8192x1024, .f32⟩
  | .hbm, ⟨33, _⟩ => ⟨S6x8192x1024, .f32⟩
  | .hbm, ⟨34, _⟩ => ⟨S6x8192x1024, .f32⟩
  | .hbm, ⟨35, _⟩ => ⟨S6x8192x1024, .f32⟩
  | .hbm, ⟨36, _⟩ => ⟨S6x8192x1024, .f32⟩
  | .hbm, ⟨37, _⟩ => ⟨S_, .f32⟩
  | .hbm, ⟨38, _⟩ => ⟨S6x8192, .f32⟩
  | .hbm, ⟨39, _⟩ => ⟨S6x8192x1, .f32⟩
  | .hbm, ⟨40, _⟩ => ⟨S_, .f32⟩
  | .hbm, ⟨41, _⟩ => ⟨S6x8192x1, .f32⟩
  | .hbm, ⟨42, _⟩ => ⟨S6x8192x1, .f32⟩
  | .hbm, ⟨43, _⟩ => ⟨S_, .f32⟩
  | .hbm, ⟨44, _⟩ => ⟨S6x8192x1, .f32⟩
  | .hbm, ⟨45, _⟩ => ⟨S6x8192x1, .f32⟩
  | .hbm, ⟨46, _⟩ => ⟨S6x8192x1, .f32⟩
  | .hbm, ⟨47, _⟩ => ⟨S6x8192x1024, .f32⟩
  | .hbm, ⟨48, _⟩ => ⟨S6x8192x1024, .f32⟩
  | .hbm, ⟨49, _⟩ => ⟨S1x1x1024, .f32⟩
  | .hbm, ⟨50, _⟩ => ⟨S6x8192x1024, .f32⟩
  | .hbm, ⟨51, _⟩ => ⟨S6x8192x1024, .f32⟩
  | .hbm, ⟨52, _⟩ => ⟨S6x8192x1024, .f32⟩
  | .hbm, ⟨53, _⟩ => ⟨S_, .f32⟩
  | .hbm, ⟨54, _⟩ => ⟨S6x8192, .f32⟩
  | .hbm, ⟨55, _⟩ => ⟨S6x8192x1, .f32⟩
  | .hbm, ⟨56, _⟩ => ⟨S_, .f32⟩
  | .hbm, ⟨57, _⟩ => ⟨S6x8192x1, .f32⟩
  | .hbm, ⟨58, _⟩ => ⟨S6x8192x1, .f32⟩
  | .hbm, ⟨59, _⟩ => ⟨S_, .f32⟩
  | .hbm, ⟨60, _⟩ => ⟨S6x8192x1, .f32⟩
  | .hbm, ⟨61, _⟩ => ⟨S6x8192x1, .f32⟩
  | .hbm, ⟨62, _⟩ => ⟨S6x8192x1, .f32⟩
  | .hbm, ⟨63, _⟩ => ⟨S6x8192x1024, .f32⟩
  | .hbm, ⟨64, _⟩ => ⟨S6x8192x1024, .f32⟩
  | .hbm, ⟨65, _⟩ => ⟨S1x1x1024, .f32⟩
  | .hbm, ⟨66, _⟩ => ⟨S6x8192x1024, .f32⟩
  | .hbm, ⟨67, _⟩ => ⟨S6x8192x1024, .f32⟩
  | .hbm, ⟨68, _⟩ => ⟨S6x8192x2048, .f32⟩
  | .hbm, ⟨69, _⟩ => ⟨S6x8192x2048, .f32⟩
  | .hbm, ⟨70, _⟩ => ⟨S6x8192x2048, .f32⟩
  | .hbm, ⟨71, _⟩ => ⟨S6x8192x2048, .f32⟩
  | .hbm, ⟨72, _⟩ => ⟨S6x8192x2048, .f32⟩
  | .hbm, ⟨73, _⟩ => ⟨S6x8192x2048, .f32⟩
  | .hbm, ⟨74, _⟩ => ⟨S_, .f32⟩
  | .hbm, ⟨75, _⟩ => ⟨S6x8192, .f32⟩
  | .hbm, ⟨76, _⟩ => ⟨S6x8192x1, .f32⟩
  | .hbm, ⟨77, _⟩ => ⟨S_, .f32⟩
  | .hbm, ⟨78, _⟩ => ⟨S6x8192x1, .f32⟩
  | .hbm, ⟨79, _⟩ => ⟨S6x8192x1, .f32⟩
  | .hbm, ⟨80, _⟩ => ⟨S_, .f32⟩
  | .hbm, ⟨81, _⟩ => ⟨S6x8192x1, .f32⟩
  | .hbm, ⟨82, _⟩ => ⟨S6x8192x1, .f32⟩
  | .hbm, ⟨83, _⟩ => ⟨S6x8192x1, .f32⟩
  | .hbm, ⟨84, _⟩ => ⟨S6x8192x2048, .f32⟩
  | .hbm, ⟨85, _⟩ => ⟨S6x8192x2048, .f32⟩
  | .hbm, ⟨86, _⟩ => ⟨S1x1x2048, .f32⟩
  | .hbm, ⟨87, _⟩ => ⟨S6x8192x2048, .f32⟩
  | .hbm, ⟨88, _⟩ => ⟨S6x8192x2048, .f32⟩
  | .hbm, ⟨89, _⟩ => ⟨S_, .f32⟩
  | .hbm, ⟨90, _⟩ => ⟨S6x1x2048, .f32⟩
  | .hbm, ⟨91, _⟩ => ⟨S6x1x2048, .f32⟩
  | .hbm, ⟨92, _⟩ => ⟨S6x8192x2048, .f32⟩
  | .hbm, ⟨93, _⟩ => ⟨S6x8192x2048, .f32⟩
  | .hbm, ⟨94, _⟩ => ⟨S6x8192x2048, .f32⟩
  | .hbm, ⟨95, _⟩ => ⟨S6x8192x2048, .f32⟩
  | .hbm, ⟨96, _⟩ => ⟨S49152x2048, .f32⟩
  | .hbm, ⟨97, _⟩ => ⟨S2048x49152, .f32⟩
  | .hbm, ⟨98, _⟩ => ⟨S2048x49152, .bf16⟩
  | _, _ => ⟨S6x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Proof.Lru.Run.lean ====
/- The body of the recurrence's kernel, run once on any whole staging buffers: what it leaves in its two outputs and in the
   scratch it carries from one tile to the next, as the pieces it stores. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1120000 in
/-- One point of the recurrence's launch, run on whole staging buffers: the inputs' at `x0 … x12`, the carried scratch at
    `xs2`, the two outputs' and the two coefficient scratches at anything. The run finds the pieces it stores into the two
    outputs and into the carried scratch; the first tile's reset is taken both ways, so that one run serves every point. -/
noncomputable def lruRun (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x8x128x128 .bf16) (harg11 : arg11.IsWhole) (arg12 : Memref sig .tc .vmem S2x1024 .f32) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S2x512x1024 .f32) (harg17 : arg17.IsWhole) (arg18 : Memref sig .tc .vmem S2x512x1024 .f32) (harg18 : arg18.IsWhole) (arg19 : Memref sig .tc .vmem S2x8x1024 .f32) (harg19 : arg19.IsWhole)
    (x0 : Vec F S1x512x1024 .f32) (x1 : Vec F S1x8x1024 .f32) (x2 : Vec F S1x8x1024 .f32) (x3 : Vec F S1x512x1024 .f32) (x4 : Vec F S1x8x1024 .f32) (x5 : Vec F S1x8x1024 .f32) (x6 : Vec F S4x1024 .f32) (x7 : Vec F S1x1024 .f32) (x8 : Vec F S2x8x128x128 .bf16) (x9 : Vec F S2x8x128x128 .bf16) (x10 : Vec F S2x1024 .f32) (x11 : Vec F S2x1024 .f32) (x12 : Vec F S2x1024 .f32) (xs2 : Vec F S2x8x1024 .f32) :
    Σ' (L13 : List (View.Piece (Elt F) S1x512x1024 .f32)) (L14 : List (View.Piece (Elt F) S1x512x1024 .f32)),
    { LS2 : List (View.Piece (Elt F) S2x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LS2)) -∗ K ⟨⟩))
          ⊢ wp frame (wpE (defs₀ (F := F)) Variants.none c none) E (cc0__lru_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0__lru_kernel_eq_skeleton]; unfold cc0__lru_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg19.eq_unread hfs2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; iexact H13
    isplitl [H14]
    · iexists _; iexact H14
    isplitl [HS0]
    · iexists _, _; isplitr; swap; · iexact HS0
      ipureintro; rfl
    isplitl [HS1]
    · iexists _, _; isplitr; swap; · iexact HS1
      ipureintro; rfl
    iexists _; iexact HS2

end Cert.KernelIdeal.Lru

end
-- ==== Proof.Lru.Ops.lean ====
/- What one point of the recurrence's launch computes, as whole-tile operations: the convolution's tile, the two gates of one
   block of 128 columns, the decay and the input it gives, and the three doubling steps within each group of eight rows —
   written once, for any block and for both directions. -/
module

public import proofs.«01_k».proof.Proof.Lru.Run

@[expose] public section

noncomputable section

namespace Cert.KernelIdeal.Lru

open Cert.KernelIdeal Cert.KernelIdeal.Gen
open Idealize.ShloMosaic Idealize.ShloMosaic.TcCoe
open Idealize.SL Idealize.SL.Sem

variable {F : FTy → Type} [FloatOps F] [Named F]

/-- The eight neighbouring rows of a tile, zero where the tile is at the sequence's end. -/
def halo (b : BitVec 1) (v : Vec F S1x8x1024 .f32) : FVec F S8x1024 .f32 :=
  Scalar.select b (broadcast S8x1024 (Scalar.ofBits .f32 0x00000000#32)) (shapeCast S8x1024 v Facts₀.shapeCasts_S1x8x1024_S8x1024)

/-- The row number within eight rows. -/
def row8 : IVec S8x1024 32 := iota .tc S8x1024 32 [0] Facts₀.iota_S8x1024_d0_w32

/-- Whether the row is row `k` of its eight. -/
def isRow (k : BitVec 32) : IVec S8x1024 1 := cmpi .eq row8 (broadcast S8x1024 k)

/-- One row, repeated eight times. -/
def rep8 (v : FVec F S1x1024 .f32) : FVec F S8x1024 .f32 :=
  broadcastTo S8x1024 (shapeCast S1x1024 v Facts₀.shapeCasts_S1x1024_S1x1024) Facts₀.broadcasts_S1x1024_S8x1024

/-- The tile one row later: its first row is the last of the rows before it. -/
def back1 (x : FVec F S512x1024 .f32) (before : FVec F S8x1024 .f32) : FVec F S512x1024 .f32 :=
  concatenate S512x1024 0
    [⟨S8x1024, select (isRow 0#32) (rep8 (extractStridedSlice S1x1024 ![7, 0] before Facts₀.slices_S8x1024_o7_0_S1x1024))
        (extractStridedSlice S8x1024 ![0, 0] (dynamicRotate 0 1#32 none x Facts₀.rotates_S512x1024_d0) Facts₀.slices_S512x1024_o0_0_S8x1024)⟩,
     ⟨S504x1024, extractStridedSlice S504x1024 ![8, 0] (dynamicRotate 0 1#32 none x Facts₀.rotates_S512x1024_d0) Facts₀.slices_S512x1024_o8_0_S504x1024⟩]
    Facts₀.concatenates_S8x1024_S504x1024_S512x1024_d0

/-- The tile two rows later: its first two rows are the last two of the rows before it. -/
def back2 (x : FVec F S512x1024 .f32) (before : FVec F S8x1024 .f32) : FVec F S512x1024 .f32 :=
  concatenate S512x1024 0
    [⟨S8x1024, select (isRow 0#32) (rep8 (extractStridedSlice S1x1024 ![6, 0] before Facts₀.slices_S8x1024_o6_0_S1x1024))
        (select (isRow 1#32) (rep8 (extractStridedSlice S1x1024 ![7, 0] before Facts₀.slices_S8x1024_o7_0_S1x1024))
          (extractStridedSlice S8x1024 ![0, 0] (dynamicRotate 0 2#32 none x Facts₀.rotates_S512x1024_d0) Facts₀.slices_S512x1024_o0_0_S8x1024))⟩,
     ⟨S504x1024, extractStridedSlice S504x1024 ![8, 0] (dynamicRotate 0 2#32 none x Facts₀.rotates_S512x1024_d0) Facts₀.slices_S512x1024_o8_0_S504x1024⟩]
    Facts₀.concatenates_S8x1024_S504x1024_S512x1024_d0

/-- The tile one row earlier: its last row is the first of the rows after it. -/
def ahead1 (x : FVec F S512x1024 .f32) (after : FVec F S8x1024 .f32) : FVec F S512x1024 .f32 :=
  concatenate S512x1024 0
    [⟨S504x1024, extractStridedSlice S504x1024 ![0, 0] (dynamicRotate 0 511#32 none x Facts₀.rotates_S512x1024_d0) Facts₀.slices_S512x1024_o0_0_S504x1024⟩,
     ⟨S8x1024, select (isRow 7#32) (rep8 (extractStridedSlice S1x1024 ![0, 0] after Facts₀.slices_S8x1024_o0_0_S1x1024))
        (extractStridedSlice S8x1024 ![504, 0] (dynamicRotate 0 511#32 none x Facts₀.rotates_S512x1024_d0) Facts₀.slices_S512x1024_o504_0_S8x1024)⟩]
    Facts₀.concatenates_S504x1024_S8x1024_S512x1024_d0

/-- One row, repeated over the tile. -/
def rep512 (v : FVec F S1x1024 .f32) : FVec F S512x1024 .f32 := broadcastTo S512x1024 v Facts₀.broadcasts_S1x1024_S512x1024

/-- The convolution's tile. -/
def convTile (cw : Vec F S4x1024 .f32) (cb : Vec F S1x1024 .f32) (x : FVec F S512x1024 .f32) (before after : FVec F S8x1024 .f32) :
    FVec F S512x1024 .f32 :=
  addf (addf (addf (addf (rep512 (shapeCast S1x1024 cb Facts₀.shapeCasts_S1x1024_S1x1024))
      (mulf (back2 x before) (rep512 (extractStridedSlice S1x1024 ![0, 0] cw Facts₀.slices_S4x1024_o0_0_S1x1024))))
      (mulf (back1 x before) (rep512 (extractStridedSlice S1x1024 ![1, 0] cw Facts₀.slices_S4x1024_o1_0_S1x1024))))
      (mulf x (rep512 (extractStridedSlice S1x1024 ![2, 0] cw Facts₀.slices_S4x1024_o2_0_S1x1024))))
      (mulf (ahead1 x after) (rep512 (extractStridedSlice S1x1024 ![3, 0] cw Facts₀.slices_S4x1024_o3_0_S1x1024)))

/-- A direction's decay rates, one per column. -/
def decayRow (v : Vec F S1x1024 .f32) : FVec F S1x1024 .f32 :=
  mulf (broadcast S1x1024 (Named.named κ "decay" 0xC138AA3B#32 : F .f32))
    (addf (maximumf (subf (broadcast S1x1024 (Scalar.ofBits .f32 0x00000000#32)) v) (broadcast S1x1024 (Scalar.ofBits .f32 0x00000000#32)))
      (log1p (exp (subf (broadcast S1x1024 (Scalar.ofBits .f32 0x00000000#32)) (absf v)))))

theorem slice_tile (n : Fin 8) : S512x1024.Slices ![0, 128 * n.val] S512x128 :=
  ⟨rfl, fun a => by fin_cases a <;> simp [Shape.size] <;> omega⟩

theorem slice_row (n : Fin 8) : S1x1024.Slices ![0, 128 * n.val] S1x128 :=
  ⟨rfl, fun a => by fin_cases a <;> simp [Shape.size] <;> omega⟩

/-- A gate of block `n`. -/
def gate (n : Fin 8) (xc : FVec F S512x1024 .f32) (w : Vec F S1x1x128x128 .bf16) (b : Vec F S1x128 .f32) : FVec F S512x128 .f32 :=
  logistic (addf (matmul dot_S512x128_S128x128_S512x128_1_0_0_1_n_n none
      (extractStridedSlice S512x128 ![0, 128 * n.val] (truncf .bf16 xc Facts₀.bitsLt_bf16_f32) (slice_tile n))
      (shapeCast S128x128 w Facts₀.shapeCasts_S1x1x128x128_S128x128) (constant S512x128 .f32 0x00000000#32))
    (broadcastTo S512x128 b Facts₀.broadcasts_S1x128_S512x128))

/-- The decay factor of block `n`. -/
def coefA (n : Fin 8) (xc : FVec F S512x1024 .f32) (dec : FVec F S1x1024 .f32) (w : Vec F S1x1x128x128 .bf16) (b : Vec F S1x128 .f32) :
    FVec F S512x128 .f32 :=
  exp2 (mulf (gate n xc w b)
    (broadcastTo S512x128 (extractStridedSlice S1x128 ![0, 128 * n.val] dec (slice_row n)) Facts₀.broadcasts_S1x128_S512x128))

/-- The input term of block `n`, from its decay factor. -/
def coefB (n : Fin 8) (xc : FVec F S512x1024 .f32) (a : FVec F S512x128 .f32) (w : Vec F S1x1x128x128 .bf16) (b : Vec F S1x128 .f32) :
    FVec F S512x128 .f32 :=
  mulf (sqrt (maximumf (subf (broadcast S512x128 (Scalar.ofBits .f32 0x3F800000#32)) (mulf a a))
      (broadcast S512x128 (Scalar.ofBits .f32 0x00000000#32))))
    (mulf (gate n xc w b) (extractStridedSlice S512x128 ![0, 128 * n.val] xc (slice_tile n)))

/-- The row number within its group of eight. -/
def sub8 : IVec S64x8x128 32 := iota .tc S64x8x128 32 [1] Facts₀.iota_S64x8x128_d1_w32

/-- One doubling step's factor. -/
def stepA (mask : IVec S64x8x128 1) (n : BitVec 32) (a : FVec F S64x8x128 .f32) : FVec F S64x8x128 .f32 :=
  select mask (mulf a (dynamicRotate 1 n none a Facts₀.rotates_S64x8x128_d1)) a

/-- One doubling step's term. -/
def stepB (mask : IVec S64x8x128 1) (n : BitVec 32) (a b : FVec F S64x8x128 .f32) : FVec F S64x8x128 .f32 :=
  select mask (addf (mulf a (dynamicRotate 1 n none b Facts₀.rotates_S64x8x128_d1)) b) b

/-- The rows a forward step of `k` rows changes. -/
def maskF (k : BitVec 32) : IVec S64x8x128 1 := cmpi .sge sub8 (broadcast S64x8x128 k)

/-- The rows a reverse step changes, below row `k`. -/
def maskR (k : BitVec 32) : IVec S64x8x128 1 := cmpi .slt sub8 (broadcast S64x8x128 k)

/-- A tile cut into groups of eight rows … -/
def groups (a : FVec F S512x128 .f32) : FVec F S64x8x128 .f32 := shapeCast S64x8x128 a Facts₀.shapeCasts_S512x128_S64x8x128

/-- … and laid flat again. -/
def flat (a : FVec F S64x8x128 .f32) : FVec F S1x512x128 .f32 :=
  shapeCast S1x512x128 (shapeCast S512x128 a Facts₀.shapeCasts_S64x8x128_S512x128) Facts₀.shapeCasts_S512x128_S1x512x128

/-- The forward factors over each group: the product from the group's first row on. -/
def scanAF (a : FVec F S64x8x128 .f32) : FVec F S64x8x128 .f32 :=
  stepA (maskF 4#32) 4#32 (stepA (maskF 2#32) 2#32 (stepA (maskF 1#32) 1#32 a))

/-- The forward terms over each group. -/
def scanBF (a b : FVec F S64x8x128 .f32) : FVec F S64x8x128 .f32 :=
  stepB (maskF 4#32) 4#32 (stepA (maskF 2#32) 2#32 (stepA (maskF 1#32) 1#32 a))
    (stepB (maskF 2#32) 2#32 (stepA (maskF 1#32) 1#32 a) (stepB (maskF 1#32) 1#32 a b))

/-- The reverse factors over each group: the product from the group's last row back. -/
def scanAR (a : FVec F S64x8x128 .f32) : FVec F S64x8x128 .f32 :=
  stepA (maskR 4#32) 4#32 (stepA (maskR 6#32) 6#32 (stepA (maskR 7#32) 7#32 a))

/-- The reverse terms over each group. -/
def scanBR (a b : FVec F S64x8x128 .f32) : FVec F S64x8x128 .f32 :=
  stepB (maskR 4#32) 4#32 (stepA (maskR 6#32) 6#32 (stepA (maskR 7#32) 7#32 a))
    (stepB (maskR 6#32) 6#32 (stepA (maskR 7#32) 7#32 a) (stepB (maskR 7#32) 7#32 a b))

/-! ## The pieces the two coefficient scratches are filled with -/

theorem inb_col (d : Fin 2) (n : Fin 8) : ∀ a, (![d.val, 0, 128 * n.val] : Fin 3 → Nat) a + S1x512x128.size a ≤ S2x512x1024.size a :=
  fun a => by fin_cases a <;> simp [Shape.size] <;> omega

theorem inb_w (d : Fin 2) (n : Fin 8) : ∀ a, (![d.val, n.val, 0, 0] : Fin 4 → Nat) a + S1x1x128x128.size a ≤ S2x8x128x128.size a :=
  fun a => by fin_cases a <;> simp [Shape.size] <;> omega

theorem inb_b (d : Fin 2) (n : Fin 8) : ∀ a, (![d.val, 128 * n.val] : Fin 2 → Nat) a + S1x128.size a ≤ S2x1024.size a :=
  fun a => by fin_cases a <;> simp [Shape.size] <;> omega

theorem inb_l (d : Fin 2) : ∀ a, (![d.val, 0] : Fin 2 → Nat) a + S1x1024.size a ≤ S2x1024.size a :=
  fun a => by fin_cases a <;> simp [Shape.size] <;> omega

/-- The block of columns `n` of direction `d` in a coefficient scratch. -/
abbrev colRect (d : Fin 2) (n : Fin 8) : Rect S2x512x1024 := Rect.unit ![d.val, 0, 128 * n.val] S1x512x128.size (inb_col d n)
/-- Block `n`'s weights of direction `d`. -/
abbrev wRect (d : Fin 2) (n : Fin 8) : Rect S2x8x128x128 := Rect.unit ![d.val, n.val, 0, 0] S1x1x128x128.size (inb_w d n)
/-- Block `n`'s biases of direction `d`. -/
abbrev bRect (d : Fin 2) (n : Fin 8) : Rect S2x1024 := Rect.unit ![d.val, 128 * n.val] S1x128.size (inb_b d n)
/-- Direction `d`'s decay parameters. -/
abbrev lRect (d : Fin 2) : Rect S2x1024 := Rect.unit ![d.val, 0] S1x1024.size (inb_l d)

/-- Block `n`'s decay factors in direction `d`, from the loaded operands. -/
def blkA (d : Fin 2) (n : Fin 8) (xc : FVec F S512x1024 .f32) (wr : Vec F S2x8x128x128 .bf16) (br lam : Vec F S2x1024 .f32) :
    FVec F S64x8x128 .f32 :=
  groups (coefA n xc (decayRow (View.ld lam (lRect d))) (View.ld wr (wRect d n)) (View.ld br (bRect d n)))

/-- Block `n`'s input terms in direction `d`, from the loaded operands. -/
def blkB (d : Fin 2) (n : Fin 8) (xc : FVec F S512x1024 .f32) (wr wi : Vec F S2x8x128x128 .bf16) (br bi lam : Vec F S2x1024 .f32) :
    FVec F S64x8x128 .f32 :=
  groups (coefB n xc (coefA n xc (decayRow (View.ld lam (lRect d))) (View.ld wr (wRect d n)) (View.ld br (bRect d n)))
    (View.ld wi (wRect d n)) (View.ld bi (bRect d n)))

/-- The factors stored over block `n`'s columns, forward … -/
def pieceAF (xc : FVec F S512x1024 .f32) (wr : Vec F S2x8x128x128 .bf16) (br lam : Vec F S2x1024 .f32) (n : Fin 8) :
    View.Piece (Elt F) S2x512x1024 .f32 := ⟨colRect 0 n, flat (scanAF (blkA 0 n xc wr br lam))⟩

/-- … and in reverse. -/
def pieceAR (xc : FVec F S512x1024 .f32) (wr : Vec F S2x8x128x128 .bf16) (br lam : Vec F S2x1024 .f32) (n : Fin 8) :
    View.Piece (Elt F) S2x512x1024 .f32 := ⟨colRect 1 n, flat (scanAR (blkA 1 n xc wr br lam))⟩

/-- The terms stored over block `n`'s columns, forward … -/
def pieceBF (xc : FVec F S512x1024 .f32) (wr wi : Vec F S2x8x128x128 .bf16) (br bi lam : Vec F S2x1024 .f32) (n : Fin 8) :
    View.Piece (Elt F) S2x512x1024 .f32 := ⟨colRect 0 n, flat (scanBF (blkA 0 n xc wr br lam) (blkB 0 n xc wr wi br bi lam))⟩

/-- … and in reverse. -/
def pieceBR (xc : FVec F S512x1024 .f32) (wr wi : Vec F S2x8x128x128 .bf16) (br bi lam : Vec F S2x1024 .f32) (n : Fin 8) :
    View.Piece (Elt F) S2x512x1024 .f32 := ⟨colRect 1 n, flat (scanBR (blkA 1 n xc wr br lam) (blkB 1 n xc wr wi br bi lam))⟩

/-- The blocks' pieces, the last block's first. -/
def eight (p : Fin 8 → View.Piece (Elt F) S2x512x1024 .f32) : List (View.Piece (Elt F) S2x512x1024 .f32) :=
  [p 7, p 6, p 5, p 4, p 3, p 2, p 1, p 0]

/-- The forward tile's convolution at a grid point. -/
def convF (i : grid0.Coords) (x0 : Vec F S1x512x1024 .f32) (x1 x2 : Vec F S1x8x1024 .f32) (x6 : Vec F S4x1024 .f32) (x7 : Vec F S1x1024 .f32) :
    FVec F S512x1024 .f32 :=
  convTile x6 x7 (shapeCast S512x1024 x0 Facts₀.shapeCasts_S1x512x1024_S512x1024)
    (halo (Scalar.cmpi .eq (BitVec.ofNat 32 (i 1).val) 0#32) x1) (halo (Scalar.cmpi .eq (BitVec.ofNat 32 (i 1).val) 15#32) x2)

/-- The reverse tile's convolution at a grid point. -/
def convR (i : grid0.Coords) (x3 : Vec F S1x512x1024 .f32) (x4 x5 : Vec F S1x8x1024 .f32) (x6 : Vec F S4x1024 .f32) (x7 : Vec F S1x1024 .f32) :
    FVec F S512x1024 .f32 :=
  convTile x6 x7 (shapeCast S512x1024 x3 Facts₀.shapeCasts_S1x512x1024_S512x1024)
    (halo (Scalar.cmpi .eq (Scalar.subi 15#32 (BitVec.ofNat 32 (i 1).val)) 0#32) x4)
    (halo (Scalar.cmpi .eq (Scalar.subi 15#32 (BitVec.ofNat 32 (i 1).val)) 15#32) x5)

end Cert.KernelIdeal.Lru

end
-- ==== Proof.Lru.Coef.lean ====
/- The two coefficient scratches after a point's first half: the eight blocks of columns of each direction, as the whole-tile
   operations give them. -/
module

public import proofs.«01_k».proof.Proof.Lru.Ops
public import Idealize.ShloMosaic.Lib.Pipeline.Value

@[expose] public section

set_option maxRecDepth 16384

noncomputable section

namespace Cert.KernelIdeal.Lru

open Cert.KernelIdeal Cert.KernelIdeal.Gen
open Idealize.ShloMosaic Idealize.ShloMosaic.TcCoe
open Idealize.SL Idealize.SL.Sem

variable {F : FTy → Type} [FloatOps F] [Named F]

theorem zero2 : (![0, 0] : Fin 2 → Nat) = fun _ => 0 := funext fun a => by fin_cases a <;> rfl
/-- A whole staging buffer loaded through its whole rectangle is what the buffer was given. -/
theorem ld_whole {sp : Space} {S : Shape} {e : EltTy} {m : Memref sig .tc sp S e} (h : m.IsWhole) (X : S.Idx → Elt F e)
    {off : Fin S.rank → Nat} (h0 : off = fun _ => 0) (inb : ∀ a, off a + S.size a ≤ S.size a) :
    View.ld (m.view.read (Elt F) (h.unread X)) (Rect.unit off S.size inb) = X := by
  rw [h.read_unread, View.ld_unit_zero h0]

theorem zero3 : (![0, 0, 0] : Fin 3 → Nat) = fun _ => 0 := funext fun a => by fin_cases a <;> rfl

/-- The factors. -/
theorem factors_eq (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg12 : Memref sig .tc .vmem S2x1024 .f32) (harg12 : arg12.IsWhole) (arg14 : Memref sig .tc .vmem S2x1024 .f32) (harg14 : arg14.IsWhole)
    (x0 : Vec F S1x512x1024 .f32) (x1 : Vec F S1x8x1024 .f32) (x2 : Vec F S1x8x1024 .f32) (x3 : Vec F S1x512x1024 .f32) (x4 : Vec F S1x8x1024 .f32) (x5 : Vec F S1x8x1024 .f32) (x6 : Vec F S4x1024 .f32) (x7 : Vec F S1x1024 .f32) (x8 : Vec F S2x8x128x128 .bf16) (x10 : Vec F S2x1024 .f32) (x12 : Vec F S2x1024 .f32) :
    lruRun.sl.HS0_16 c i arg2 harg2 arg3 harg3 arg4 harg4 arg5 harg5 arg6 harg6 arg7 harg7 arg8 harg8 arg9 harg9 arg10 harg10 arg12 harg12 arg14 harg14 x0 x1 x2 x3 x4 x5 x6 x7 x8 x10 x12
      = eight (pieceAR (convR i x3 x4 x5 x6 x7) x8 x10 x12) ++ eight (pieceAF (convF i x0 x1 x2 x6 x7) x8 x10 x12) := by
  have h : lruRun.sl.HS0_16 c i arg2 harg2 arg3 harg3 arg4 harg4 arg5 harg5 arg6 harg6 arg7 harg7 arg8 harg8 arg9 harg9 arg10 harg10 arg12 harg12 arg14 harg14 x0 x1 x2 x3 x4 x5 x6 x7 x8 x10 x12
      = eight (pieceAR (convR i (View.ld (arg5.view.read (Elt F) (harg5.unread x3)) (Rect.unit ![0, 0, 0] S1x512x1024.size (by intro a; fin_cases a <;> simp))) (View.ld (arg6.view.read (Elt F) (harg6.unread x4)) (Rect.unit ![0, 0, 0] S1x8x1024.size (by intro a; fin_cases a <;> simp))) (View.ld (arg7.view.read (Elt F) (harg7.unread x5)) (Rect.unit ![0, 0, 0] S1x8x1024.size (by intro a; fin_cases a <;> simp))) (View.ld (arg8.view.read (Elt F) (harg8.unread x6)) (Rect.unit ![0, 0] S4x1024.size (by intro a; fin_cases a <;> simp))) (View.ld (arg9.view.read (Elt F) (harg9.unread x7)) (Rect.unit ![0, 0] S1x1024.size (by intro a; fin_cases a <;> simp)))) (arg10.view.read (Elt F) (harg10.unread x8)) (arg12.view.read (Elt F) (harg12.unread x10)) (arg14.view.read (Elt F) (harg14.unread x12)))
        ++ eight (pieceAF (convF i (View.ld (arg2.view.read (Elt F) (harg2.unread x0)) (Rect.unit ![0, 0, 0] S1x512x1024.size (by intro a; fin_cases a <;> simp))) (View.ld (arg3.view.read (Elt F) (harg3.unread x1)) (Rect.unit ![0, 0, 0] S1x8x1024.size (by intro a; fin_cases a <;> simp))) (View.ld (arg4.view.read (Elt F) (harg4.unread x2)) (Rect.unit ![0, 0, 0] S1x8x1024.size (by intro a; fin_cases a <;> simp))) (View.ld (arg8.view.read (Elt F) (harg8.unread x6)) (Rect.unit ![0, 0] S4x1024.size (by intro a; fin_cases a <;> simp))) (View.ld (arg9.view.read (Elt F) (harg9.unread x7)) (Rect.unit ![0, 0] S1x1024.size (by intro a; fin_cases a <;> simp)))) (arg10.view.read (Elt F) (harg10.unread x8)) (arg12.view.read (Elt F) (harg12.unread x10)) (arg14.view.read (Elt F) (harg14.unread x12))) := rfl
  rw [h, ld_whole harg2 x0 zero3, ld_whole harg3 x1 zero3, ld_whole harg4 x2 zero3, ld_whole harg5 x3 zero3, ld_whole harg6 x4 zero3, ld_whole harg7 x5 zero3, ld_whole harg8 x6 zero2, ld_whole harg9 x7 zero2,
    harg10.read_unread, harg12.read_unread, harg14.read_unread]

/-- The terms. -/
theorem terms_eq (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x8x128x128 .bf16) (harg11 : arg11.IsWhole) (arg12 : Memref sig .tc .vmem S2x1024 .f32) (harg12 : arg12.IsWhole) (arg13 : Memref sig .tc .vmem S2x1024 .f32) (harg13 : arg13.IsWhole) (arg14 : Memref sig .tc .vmem S2x1024 .f32) (harg14 : arg14.IsWhole)
    (x0 : Vec F S1x512x1024 .f32) (x1 : Vec F S1x8x1024 .f32) (x2 : Vec F S1x8x1024 .f32) (x3 : Vec F S1x512x1024 .f32) (x4 : Vec F S1x8x1024 .f32) (x5 : Vec F S1x8x1024 .f32) (x6 : Vec F S4x1024 .f32) (x7 : Vec F S1x1024 .f32) (x8 : Vec F S2x8x128x128 .bf16) (x9 : Vec F S2x8x128x128 .bf16) (x10 : Vec F S2x1024 .f32) (x11 : Vec F S2x1024 .f32) (x12 : Vec F S2x1024 .f32) :
    lruRun.sl.HS1_16 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = eight (pieceBR (convR i x3 x4 x5 x6 x7) x8 x9 x10 x11 x12) ++ eight (pieceBF (convF i x0 x1 x2 x6 x7) x8 x9 x10 x11 x12) := by
  have h : lruRun.sl.HS1_16 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = eight (pieceBR (convR i (View.ld (arg5.view.read (Elt F) (harg5.unread x3)) (Rect.unit ![0, 0, 0] S1x512x1024.size (by intro a; fin_cases a <;> simp))) (View.ld (arg6.view.read (Elt F) (harg6.unread x4)) (Rect.unit ![0, 0, 0] S1x8x1024.size (by intro a; fin_cases a <;> simp))) (View.ld (arg7.view.read (Elt F) (harg7.unread x5)) (Rect.unit ![0, 0, 0] S1x8x1024.size (by intro a; fin_cases a <;> simp))) (View.ld (arg8.view.read (Elt F) (harg8.unread x6)) (Rect.unit ![0, 0] S4x1024.size (by intro a; fin_cases a <;> simp))) (View.ld (arg9.view.read (Elt F) (harg9.unread x7)) (Rect.unit ![0, 0] S1x1024.size (by intro a; fin_cases a <;> simp)))) (arg10.view.read (Elt F) (harg10.unread x8)) (arg11.view.read (Elt F) (harg11.unread x9)) (arg12.view.read (Elt F) (harg12.unread x10)) (arg13.view.read (Elt F) (harg13.unread x11)) (arg14.view.read (Elt F) (harg14.unread x12)))
        ++ eight (pieceBF (convF i (View.ld (arg2.view.read (Elt F) (harg2.unread x0)) (Rect.unit ![0, 0, 0] S1x512x1024.size (by intro a; fin_cases a <;> simp))) (View.ld (arg3.view.read (Elt F) (harg3.unread x1)) (Rect.unit ![0, 0, 0] S1x8x1024.size (by intro a; fin_cases a <;> simp))) (View.ld (arg4.view.read (Elt F) (harg4.unread x2)) (Rect.unit ![0, 0, 0] S1x8x1024.size (by intro a; fin_cases a <;> simp))) (View.ld (arg8.view.read (Elt F) (harg8.unread x6)) (Rect.unit ![0, 0] S4x1024.size (by intro a; fin_cases a <;> simp))) (View.ld (arg9.view.read (Elt F) (harg9.unread x7)) (Rect.unit ![0, 0] S1x1024.size (by intro a; fin_cases a <;> simp)))) (arg10.view.read (Elt F) (harg10.unread x8)) (arg11.view.read (Elt F) (harg11.unread x9)) (arg12.view.read (Elt F) (harg12.unread x10)) (arg13.view.read (Elt F) (harg13.unread x11)) (arg14.view.read (Elt F) (harg14.unread x12))) := rfl
  rw [h, ld_whole harg2 x0 zero3, ld_whole harg3 x1 zero3, ld_whole harg4 x2 zero3, ld_whole harg5 x3 zero3, ld_whole harg6 x4 zero3, ld_whole harg7 x5 zero3, ld_whole harg8 x6 zero2, ld_whole harg9 x7 zero2,
    harg10.read_unread, harg11.read_unread, harg12.read_unread, harg13.read_unread, harg14.read_unread]

end Cert.KernelIdeal.Lru

end
-- ==== Proof.Lru.Recur.lean ====
/- The recurrence x ↦ a·x + b along a line of times, over the extended reals: composition, and the doubling steps that
   compute every prefix of eight in three rounds. -/
module

public import Idealize.ShloMosaic.PureOps.Ideal

@[expose] public section

noncomputable section

namespace Cert.Recur

/-- `n` steps of `x ↦ a t · x + b t` from time `t0`. -/
def aff (a b : ℕ → EReal) (t0 : ℕ) : ℕ → EReal → EReal
  | 0, x => x
  | n + 1, x => a (t0 + n) * aff a b t0 n x + b (t0 + n)

theorem aff_add (a b : ℕ → EReal) (t0 n : ℕ) (x : EReal) : ∀ k, aff a b t0 (n + k) x = aff a b (t0 + n) k (aff a b t0 n x)
  | 0 => rfl
  | k + 1 => by
    rw [← Nat.add_assoc, aff, aff_add a b t0 n x k, aff, Nat.add_assoc]

/-- The steps depend on the coefficients they use. -/
theorem aff_congr {a b a' b' : ℕ → EReal} {t0 t1 : ℕ} (x : EReal) : ∀ n, (∀ i < n, a (t0 + i) = a' (t1 + i)) → (∀ i < n, b (t0 + i) = b' (t1 + i)) →
    aff a b t0 n x = aff a' b' t1 n x
  | 0, _, _ => rfl
  | n + 1, ha, hb => by
    rw [aff, aff, aff_congr x n (fun i hi => ha i (Nat.lt_succ_of_lt hi)) (fun i hi => hb i (Nat.lt_succ_of_lt hi)),
      ha n (Nat.lt_succ_self n), hb n (Nat.lt_succ_self n)]

/-- A factor that is neither negative nor infinite. -/
def Tame (x : EReal) : Prop := 0 ≤ x ∧ x ≠ ⊤

theorem Tame.mul {x y : EReal} (hx : Tame x) (hy : Tame y) : Tame (x * y) := by
  obtain ⟨hx0, hxt⟩ := hx
  obtain ⟨hy0, hyt⟩ := hy
  refine ⟨EReal.mul_nonneg hx0 hy0, ?_⟩
  lift x to ℝ using ⟨hxt, fun h => by simp [h] at hx0⟩
  lift y to ℝ using ⟨hyt, fun h => by simp [h] at hy0⟩
  rw [← EReal.coe_mul]
  exact EReal.coe_ne_top _

theorem Tame.distrib {x : EReal} (hx : Tame x) (y z : EReal) : x * (y + z) = x * y + x * z :=
  EReal.left_distrib_of_nonneg_of_ne_top hx.1 hx.2 y z

/-- After rounds covering `w` rows, row `s` holds the composition of the last `min w (s + 1)` steps up to its own. -/
def Covers (a b α β : ℕ → EReal) (w : ℕ) : Prop :=
  ∀ s < 8, Tame (α s) ∧ ∀ x, β s + α s * x = aff a b (s + 1 - min w (s + 1)) (min w (s + 1)) x

theorem covers_one {a b : ℕ → EReal} (ha : ∀ s < 8, Tame (a s)) : Covers a b a b 1 := fun s hs => by
  refine ⟨ha s hs, fun x => ?_⟩
  have h : min 1 (s + 1) = 1 := by omega
  rw [h, show s + 1 - 1 = s from rfl, aff, aff, Nat.add_zero, add_comm]

/-- One doubling round. -/
theorem covers_double {a b α β α' β' : ℕ → EReal} {w : ℕ} (hw : 0 < w) (h : Covers a b α β w)
    (hα : ∀ s < 8, α' s = if w ≤ s then α s * α (s - w) else α s)
    (hβ : ∀ s < 8, β' s = if w ≤ s then α s * β (s - w) + β s else β s) : Covers a b α' β' (w + w) := fun s hs => by
  obtain ⟨ht, hx⟩ := h s hs
  rw [hα s hs, hβ s hs]
  split
  · rename_i hws
    obtain ⟨ht', hx'⟩ := h (s - w) (by omega)
    refine ⟨ht.mul ht', fun x => ?_⟩
    rw [mul_assoc, add_comm (α s * β (s - w)), add_assoc, ← ht.distrib, hx', hx]
    have e1 : min w (s + 1) = w := by omega
    have e2 : min (w + w) (s + 1) = min w (s - w + 1) + w := by omega
    rw [e1, e2, aff_add]
    have e3 : s - w + 1 - min w (s - w + 1) = s + 1 - (min w (s - w + 1) + w) := by omega
    have e4 : s + 1 - w = s + 1 - (min w (s - w + 1) + w) + min w (s - w + 1) := by omega
    rw [e3, e4]
  · rename_i hws
    refine ⟨ht, fun x => ?_⟩
    have e1 : min (w + w) (s + 1) = min w (s + 1) := by omega
    rw [hx, e1]

/-- Three rounds give every prefix of eight. -/
theorem covers_eight {a b α1 β1 α2 β2 α3 β3 : ℕ → EReal} (ha : ∀ s < 8, Tame (a s))
    (hα1 : ∀ s < 8, α1 s = if 1 ≤ s then a s * a (s - 1) else a s)
    (hβ1 : ∀ s < 8, β1 s = if 1 ≤ s then a s * b (s - 1) + b s else b s)
    (hα2 : ∀ s < 8, α2 s = if 2 ≤ s then α1 s * α1 (s - 2) else α1 s)
    (hβ2 : ∀ s < 8, β2 s = if 2 ≤ s then α1 s * β1 (s - 2) + β1 s else β1 s)
    (hα3 : ∀ s < 8, α3 s = if 4 ≤ s then α2 s * α2 (s - 4) else α2 s)
    (hβ3 : ∀ s < 8, β3 s = if 4 ≤ s then α2 s * β2 (s - 4) + β2 s else β2 s) :
    ∀ s < 8, ∀ x, β3 s + α3 s * x = aff a b 0 (s + 1) x := fun s hs x => by
  have h := (covers_double (by omega) (covers_double (by omega) (covers_double (by omega) (covers_one (b := b) ha) hα1 hβ1) hα2 hβ2) hα3 hβ3 s hs).2 x
  have e : min (1 + 1 + (1 + 1) + (1 + 1 + (1 + 1))) (s + 1) = s + 1 := by omega
  rw [e, Nat.sub_self] at h
  exact h

end Cert.Recur

end
-- ==== Proof.Lru.Coeffs.lean ====
/- The recurrence's coefficients as scalar formulas, from one row of the convolution: the gates of a block of 128 columns, the
   decay factor and the input it lets through. -/
module

public import proofs.«01_k».proof.Proof.Lru.Recur
public import Idealize.ShloMosaic.PureOps.Ideal.Laws

@[expose] public section

noncomputable section

namespace Cert.Recur

open Idealize.ShloMosaic

/-- Column `k` of block `n`. -/
def col (n : Fin 8) (k : Fin 128) : Fin 1024 := ⟨128 * n.val + k.val, by omega⟩

/-- A gate: the block's row times its weights' column, plus the bias, through the logistic. -/
def gateS (W : Fin 8 → Fin 128 → Fin 128 → EReal) (B : Fin 1024 → EReal) (ξ : Fin 1024 → EReal) (n : Fin 8) (j : Fin 128) : EReal :=
  Ideal.logistic (∑ k : Fin 128, ξ (col n k) * W n k j + B (col n j))

/-- The softplus of minus the decay parameter. -/
def spS (v : EReal) : EReal := max (0 - v) 0 + Ideal.log1p (Ideal.exp (0 - max v (-v)))

/-- The decay rate. -/
def rateS (v : EReal) : EReal := (((-8) * (Real.log 2)⁻¹ : ℝ) : EReal) * spS v

/-- The decay factor. -/
def aS (W : Fin 8 → Fin 128 → Fin 128 → EReal) (B L : Fin 1024 → EReal) (ξ : Fin 1024 → EReal) (n : Fin 8) (j : Fin 128) : EReal :=
  Ideal.exp2 (gateS W B ξ n j * rateS (L (col n j)))

/-- The input term, beside a decay factor `a`. -/
def bS (a : EReal) (W : Fin 8 → Fin 128 → Fin 128 → EReal) (B : Fin 1024 → EReal) (ξ : Fin 1024 → EReal) (n : Fin 8) (j : Fin 128) : EReal :=
  Ideal.sqrt (max (1 - a * a) 0) * (gateS W B ξ n j * ξ (col n j))

/-! ## Their ranges -/

theorem coe_max (a b : ℝ) : ((max a b : ℝ) : EReal) = max (a : EReal) (b : EReal) := EReal.coe_strictMono.monotone.map_max

theorem exp_nonneg (x : EReal) : 0 ≤ Ideal.exp x := by
  induction x with
  | bot => exact le_refl _
  | top => exact le_top
  | coe r => exact EReal.coe_nonneg.mpr (Real.exp_pos r).le

/-- The logistic is between zero and one. -/
theorem logistic_range (x : EReal) : ∃ r : ℝ, 0 ≤ r ∧ Ideal.logistic x = (r : EReal) := by
  unfold Ideal.logistic Ideal.div
  induction x with
  | bot =>
    refine ⟨0, le_refl _, ?_⟩
    rw [EReal.neg_bot, show Ideal.exp ⊤ = ⊤ from rfl, EReal.add_top_of_ne_bot (by decide), if_neg (by decide), EReal.inv_top, mul_zero]
    rfl
  | top =>
    refine ⟨1, zero_le_one, ?_⟩
    rw [EReal.neg_top, show Ideal.exp ⊥ = 0 from rfl, add_zero, if_neg one_ne_zero]
    norm_cast
    simp
  | coe r =>
    have h : (0 : ℝ) < 1 + Real.exp (-r) := by positivity
    refine ⟨(1 + Real.exp (-r))⁻¹, inv_nonneg.mpr h.le, ?_⟩
    rw [← EReal.coe_neg, show Ideal.exp ((-r : ℝ) : EReal) = ((Real.exp (-r) : ℝ) : EReal) from rfl, ← EReal.coe_one, ← EReal.coe_add, if_neg (by exact_mod_cast h.ne'), ← EReal.coe_inv, ← EReal.coe_mul, one_mul]

/-- The softplus is nonnegative: a real number or `⊤`. -/
theorem spS_range (v : EReal) : spS v = ⊤ ∨ ∃ r : ℝ, 0 ≤ r ∧ spS v = (r : EReal) := by
  unfold spS
  induction v with
  | bot =>
    left
    have h : max (⊥ : EReal) (-⊥) = ⊤ := by simp
    have h1 : (0 : EReal) - ⊤ = ⊥ := by simp
    have h2 : max ((0 : EReal) - ⊥) 0 = ⊤ := by simp
    have h3 : Ideal.log1p (Ideal.exp ⊥) = ((Real.log 1 : ℝ) : EReal) := by
      show Ideal.log (1 + 0) = _
      rw [add_zero]
      show (if (1 : ℝ) ≤ 0 then ⊥ else ((Real.log 1 : ℝ) : EReal)) = _
      rw [if_neg (by norm_num)]
    rw [h, h1, h2, h3, EReal.top_add_of_ne_bot (EReal.coe_ne_bot _)]
  | top =>
    right
    have h : max (⊤ : EReal) (-⊤) = ⊤ := by simp
    have h1 : (0 : EReal) - ⊤ = ⊥ := by simp
    have h3 : Ideal.log1p (Ideal.exp ⊥) = ((Real.log 1 : ℝ) : EReal) := by
      show Ideal.log (1 + 0) = _
      rw [add_zero]
      show (if (1 : ℝ) ≤ 0 then ⊥ else ((Real.log 1 : ℝ) : EReal)) = _
      rw [if_neg (by norm_num)]
    refine ⟨0, le_refl _, ?_⟩
    rw [h, h1, h3, Real.log_one]
    simp
  | coe r =>
    right
    have hpos : (0 : ℝ) < Real.exp (0 - max r (-r)) := Real.exp_pos _
    refine ⟨max (0 - r) 0 + Real.log (1 + Real.exp (0 - max r (-r))), add_nonneg (le_max_right _ _) (Real.log_nonneg (by linarith)), ?_⟩
    have e1 : (0 : EReal) - max (r : EReal) (-(r : EReal)) = ((0 - max r (-r) : ℝ) : EReal) := by
      rw [EReal.coe_sub, coe_max, EReal.coe_neg]; rfl
    have e2 : max ((0 : EReal) - (r : EReal)) 0 = ((max (0 - r) 0 : ℝ) : EReal) := by
      rw [coe_max, EReal.coe_sub]; rfl
    have e3 : Ideal.log1p (Ideal.exp ((0 - max r (-r) : ℝ) : EReal)) = ((Real.log (1 + Real.exp (0 - max r (-r))) : ℝ) : EReal) := by
      show Ideal.log (((1 : ℝ) : EReal) + ((Real.exp (0 - max r (-r)) : ℝ) : EReal)) = _
      rw [← EReal.coe_add]
      show (if (1 + Real.exp (0 - max r (-r)) : ℝ) ≤ 0 then ⊥ else ((Real.log (1 + Real.exp (0 - max r (-r))) : ℝ) : EReal)) = _
      rw [if_neg (by linarith)]
    rw [e1, e2, e3, ← EReal.coe_add]

/-- A nonnegative real times the negative decay constant times the softplus: `⊥`, or a real number. -/
theorem exp2_rate (r : ℝ) (hr : 0 ≤ r) (v : EReal) :
    Ideal.exp2 ((r : EReal) * rateS v) = Ideal.exp ((((-8 : ℝ) : EReal) * (r : EReal)) * spS v) := by
  have hl : (0 : ℝ) < Real.log 2 := Real.log_pos (by norm_num)
  have hk : ((-8) * (Real.log 2)⁻¹ : ℝ) < 0 := mul_neg_of_neg_of_pos (by norm_num) (inv_pos.mpr hl)
  unfold rateS
  rcases spS_range v with h | ⟨s, hs, h⟩
  · rw [h, EReal.coe_mul_top_of_neg hk]
    rcases hr.eq_or_lt with rfl | hr
    · simp only [EReal.coe_zero, zero_mul, mul_zero]
      show ((Real.rpow 2 0 : ℝ) : EReal) = ((Real.exp 0 : ℝ) : EReal)
      rw [Real.exp_zero]
      exact congrArg _ (Real.rpow_zero 2)
    · rw [EReal.coe_mul_bot_of_pos hr, ← EReal.coe_mul, EReal.coe_mul_top_of_neg (by linarith)]
      rfl
  · rw [h, ← EReal.coe_mul, ← EReal.coe_mul, ← EReal.coe_mul, ← EReal.coe_mul]
    show ((Real.rpow 2 _ : ℝ) : EReal) = ((Real.exp _ : ℝ) : EReal)
    congr 1
    rw [show Real.rpow 2 (r * (-8 * (Real.log 2)⁻¹ * s)) = (2 : ℝ) ^ (r * (-8 * (Real.log 2)⁻¹ * s)) from rfl, Real.rpow_def_of_pos (by norm_num)]
    congr 1
    field_simp

/-- The decay factor is never above a real number, nor negative. -/
theorem exp_decay_range (r : ℝ) (hr : 0 ≤ r) (v : EReal) :
    ∃ e : EReal, (((-8 : ℝ) : EReal) * (r : EReal)) * spS v = e ∧ e ≤ 0 := by
  refine ⟨_, rfl, ?_⟩
  have h : (0 : EReal) ≤ spS v := by
    rcases spS_range v with h | ⟨s, hs, h⟩
    · rw [h]; exact le_top
    · rw [h]; exact EReal.coe_nonneg.mpr hs
  rw [← EReal.coe_mul]
  exact EReal.mul_nonpos_iff.mpr (.inr ⟨by exact_mod_cast (by linarith : -8 * r ≤ 0), h⟩)

theorem exp_tame {e : EReal} (he : e ≤ 0) : Tame (Ideal.exp e) := by
  refine ⟨exp_nonneg e, ?_⟩
  induction e with
  | bot => exact EReal.zero_ne_top
  | top => exact absurd he (by decide)
  | coe r => exact EReal.coe_ne_top _

theorem aS_tame (W : Fin 8 → Fin 128 → Fin 128 → EReal) (B L : Fin 1024 → EReal) (ξ : Fin 1024 → EReal) (n : Fin 8) (j : Fin 128) : Tame (aS W B L ξ n j) := by
  obtain ⟨r, hr, h⟩ := logistic_range (∑ k : Fin 128, ξ (col n k) * W n k j + B (col n j))
  unfold aS gateS
  rw [h, exp2_rate r hr]
  obtain ⟨e, he, h0⟩ := exp_decay_range r hr (L (col n j))
  rw [he]
  exact exp_tame h0

/-- One minus the factor squared, against the stable form. -/
theorem one_sub_sq {e : EReal} (he : e ≤ 0) : 1 - Ideal.exp e * Ideal.exp e = -(Ideal.expm1 (((2 : ℝ) : EReal) * e)) := by
  unfold Ideal.expm1
  induction e with
  | bot =>
    rw [EReal.coe_mul_bot_of_pos (by norm_num)]
    show (1 : EReal) - 0 * 0 = -(0 - 1)
    simp
  | top => exact absurd he (by decide)
  | coe r =>
    rw [← EReal.coe_mul]
    show ((1 : ℝ) : EReal) - ((Real.exp r : ℝ) : EReal) * ((Real.exp r : ℝ) : EReal) = -(((Real.exp (2 * r) : ℝ) : EReal) - ((1 : ℝ) : EReal))
    rw [← EReal.coe_mul, ← EReal.coe_sub, ← EReal.coe_sub, ← EReal.coe_neg]
    congr 1
    rw [two_mul, Real.exp_add]
    ring

end Cert.Recur

end
-- ==== Proof.Lru.Tile.lean ====
/- The whole-tile operations of a point read at an index, over the extended reals: the convolution's rows, the gates' blocks and
   the coefficients. -/
module

public import proofs.«01_k».proof.Proof.Lru.Ops
public import proofs.«01_k».proof.Proof.Lru.Coeffs
public import Idealize.ShloMosaic.Lib.Pipeline.Value
public import Idealize.ShloMosaic.Lib.ValueIdx
public import Idealize.ShloMosaic.Lib.KernelVsHost
public import Idealize.ShloMosaic.Lib.MatmulPlain
public import Idealize.ShloMosaic.Lib.IdealHost
public import Idealize.ShloMosaic.Lib.Pipeline.ValueKit.Tiles

@[expose] public section

noncomputable section

namespace Cert.KernelIdeal.Lru

open Cert.KernelIdeal Cert.KernelIdeal.Gen Cert.Recur
open Idealize.ShloMosaic Idealize.ShloMosaic.TcCoe Idealize.ShloMosaic.ValueIdx
open Idealize.SL Idealize.SL.Sem

/-- A slice of a matrix read at an index. -/
theorem slice2_apply {α : Type} {m n p q o0 o1 : ℕ} (x : (⟨2, ![m, n]⟩ : Shape).Idx → α) (h : (⟨2, ![m, n]⟩ : Shape).Slices ![o0, o1] ⟨2, ![p, q]⟩)
    (i : Fin p) (j : Fin q) (i' : Fin m) (j' : Fin n) (hi : i'.val = o0 + i.val) (hj : j'.val = o1 + j.val) :
    extractStridedSlice ⟨2, ![p, q]⟩ ![o0, o1] x h (ix2 i j) = x (ix2 i' j') :=
  extractStridedSlice_apply _ x h (ix2 i j) (ix2 i' j') (fun a => by
    fin_cases a
    · exact hi
    · exact hj)

/-! ## The convolution -/

theorem halo_apply (b : BitVec 1) (v : Vec Ideal S1x8x1024 .f32) (r : Fin 8) (l : Fin 1024) :
    halo (F := Ideal) b v (ix2 r l) = if b = 1#1 then 0 else v (ix3 0 r l) := by
  unfold halo
  split
  · rename_i h
    rw [h, select_one, broadcast_apply]
    exact Ideal.ofBits_zero_f32
  · rename_i h
    rw [eq_zero_of_ne_one h, select_zero]
    exact shapeCast_apply v _ (ix2 r l) (ix3 0 r l) (by rw [Shape.rowMajor_val_two, Shape.rowMajor_val_three]; simp)

theorem isRow_apply (k r : Fin 8) (l : Fin 1024) : isRow (BitVec.ofNat 32 k.val) (ix2 r l) = if r = k then 1#1 else 0#1 := by
  have h : isRow (BitVec.ofNat 32 k.val) (ix2 r l) = IntOp.cmpi .eq (BitVec.ofNat 32 (0 * 8 + r.val)) (BitVec.ofNat 32 k.val) := rfl
  rw [h]
  fin_cases k <;> fin_cases r <;> rfl

theorem rep8_apply (v : FVec Ideal S1x1024 .f32) (r : Fin 8) (l : Fin 1024) : rep8 v (ix2 r l) = v (ix2 0 l) := by
  unfold rep8
  rw [broadcastTo_apply _ _ (ix2 r l) (ix2 0 l) (fun a => by fin_cases a <;> rfl)]
  exact shapeCast_apply v _ _ _ rfl

theorem row_apply (k : Fin 8) (v : FVec Ideal S8x1024 .f32) (h : S8x1024.Slices ![k.val, 0] S1x1024) (r : Fin 8) (l : Fin 1024) :
    rep8 (extractStridedSlice S1x1024 ![k.val, 0] v h) (ix2 r l) = v (ix2 k l) := by
  rw [rep8_apply]
  exact slice2_apply v h 0 l k l rfl (Nat.zero_add _).symm

/-- The tile's index turned by `n` rows. -/
theorem turn_apply (n : ℕ) (hn : n < 512) (x : FVec Ideal S512x1024 .f32) (r r' : Fin 512) (l : Fin 1024) (h : r'.val = (r.val + 512 - n) % 512) :
    dynamicRotate 0 (BitVec.ofNat 32 n) none x Facts₀.rotates_S512x1024_d0 (ix2 r l) = x (ix2 r' l) :=
  dynamicRotate_apply 0 _ x _ (ix2 r l) (ix2 r' l) (fun b => by
    fin_cases b
    · show r'.val = (r.val + 512 - (n % 4294967296) % 512) % 512
      rw [Nat.mod_eq_of_lt (show n < 4294967296 by omega), Nat.mod_eq_of_lt hn, h]
    · rfl)

/-- A tile made of its first eight rows and the rest. -/
theorem cat8_apply (u : FVec Ideal S8x1024 .f32) (v : FVec Ideal S504x1024 .f32) (r : Fin 512) (l : Fin 1024) :
    concatenate S512x1024 0 [⟨S8x1024, u⟩, ⟨S504x1024, v⟩] Facts₀.concatenates_S8x1024_S504x1024_S512x1024_d0 (ix2 r l)
      = if h : r.val < 8 then u (ix2 ⟨r.val, h⟩ l) else v (ix2 ⟨r.val - 8, by omega⟩ l) := by
  split
  · rename_i h
    exact concatenate_pair_apply_left 0 u v _ (ix2 r l) rfl (ix2 ⟨r.val, h⟩ l) (fun b => by fin_cases b <;> rfl)
  · rename_i h
    exact concatenate_pair_apply_right 0 u v _ (ix2 r l) rfl rfl (ix2 ⟨r.val - 8, by omega⟩ l)
      (fun b hb => by fin_cases b <;> first | exact absurd rfl hb | rfl) (by show r.val - 8 + 8 = r.val; omega)

/-- A tile made of its last eight rows and the rest. -/
theorem cat504_apply (u : FVec Ideal S504x1024 .f32) (v : FVec Ideal S8x1024 .f32) (r : Fin 512) (l : Fin 1024) :
    concatenate S512x1024 0 [⟨S504x1024, u⟩, ⟨S8x1024, v⟩] Facts₀.concatenates_S504x1024_S8x1024_S512x1024_d0 (ix2 r l)
      = if h : r.val < 504 then u (ix2 ⟨r.val, h⟩ l) else v (ix2 ⟨r.val - 504, by omega⟩ l) := by
  split
  · rename_i h
    exact concatenate_pair_apply_left 0 u v _ (ix2 r l) rfl (ix2 ⟨r.val, h⟩ l) (fun b => by fin_cases b <;> rfl)
  · rename_i h
    exact concatenate_pair_apply_right 0 u v _ (ix2 r l) rfl rfl (ix2 ⟨r.val - 504, by omega⟩ l)
      (fun b hb => by fin_cases b <;> first | exact absurd rfl hb | rfl) (by show r.val - 504 + 504 = r.val; omega)

theorem isRow_eq (k r : Fin 8) (l : Fin 1024) (h : r.val = k.val) : isRow (BitVec.ofNat 32 k.val) (ix2 r l) = 1#1 := by
  rw [isRow_apply, if_pos (Fin.ext h)]

theorem isRow_ne (k r : Fin 8) (l : Fin 1024) (h : r.val ≠ k.val) : isRow (BitVec.ofNat 32 k.val) (ix2 r l) = 0#1 := by
  rw [isRow_apply, if_neg (fun e => h (congrArg Fin.val e))]

theorem back1_apply (x : FVec Ideal S512x1024 .f32) (before : FVec Ideal S8x1024 .f32) (r : Fin 512) (l : Fin 1024) :
    back1 x before (ix2 r l) = if h : 1 ≤ r.val then x (ix2 ⟨r.val - 1, by omega⟩ l) else before (ix2 7 l) := by
  unfold back1
  rw [cat8_apply]
  by_cases h8 : r.val < 8
  · rw [dif_pos h8, select_apply]
    by_cases h : 1 ≤ r.val
    · have e0 : isRow 0#32 (ix2 ⟨r.val, h8⟩ l) = 0#1 := isRow_ne 0 _ l (by show r.val ≠ 0; omega)
      rw [dif_pos h, e0, select_zero]
      exact (slice2_apply _ _ ⟨r.val, h8⟩ l r l (Nat.zero_add _).symm (Nat.zero_add _).symm).trans (turn_apply 1 (by omega) x r _ l (by show r.val - 1 = _; omega))
    · have e0 : isRow 0#32 (ix2 ⟨r.val, h8⟩ l) = 1#1 := isRow_eq 0 _ l (by show r.val = 0; omega)
      rw [dif_neg h, e0, select_one]
      exact row_apply 7 before _ _ l
  · rw [dif_neg h8, dif_pos (by omega)]
    exact (slice2_apply _ _ ⟨r.val - 8, by omega⟩ l r l (by show r.val = 8 + (r.val - 8); omega) (Nat.zero_add _).symm).trans
      (turn_apply 1 (by omega) x r _ l (by show r.val - 1 = _; omega))

theorem back2_apply (x : FVec Ideal S512x1024 .f32) (before : FVec Ideal S8x1024 .f32) (r : Fin 512) (l : Fin 1024) :
    back2 x before (ix2 r l) = if h : 2 ≤ r.val then x (ix2 ⟨r.val - 2, by omega⟩ l) else before (ix2 ⟨6 + r.val, by omega⟩ l) := by
  unfold back2
  rw [cat8_apply]
  by_cases h8 : r.val < 8
  · rw [dif_pos h8, select_apply, select_apply]
    by_cases h : 2 ≤ r.val
    · have e0 : isRow 0#32 (ix2 ⟨r.val, h8⟩ l) = 0#1 := isRow_ne 0 _ l (by show r.val ≠ 0; omega)
      have e1 : isRow 1#32 (ix2 ⟨r.val, h8⟩ l) = 0#1 := isRow_ne 1 _ l (by show r.val ≠ 1; omega)
      rw [dif_pos h, e0, select_zero, e1, select_zero]
      exact (slice2_apply _ _ ⟨r.val, h8⟩ l r l (Nat.zero_add _).symm (Nat.zero_add _).symm).trans (turn_apply 2 (by omega) x r _ l (by show r.val - 2 = _; omega))
    · rw [dif_neg h]
      by_cases h0 : r.val = 0
      · have e0 : isRow 0#32 (ix2 ⟨r.val, h8⟩ l) = 1#1 := isRow_eq 0 _ l h0
        rw [e0, select_one]
        refine (row_apply 6 before _ _ l).trans (congrArg (fun q => before (ix2 q l)) (Fin.ext ?_))
        show 6 = 6 + r.val
        omega
      · have e0 : isRow 0#32 (ix2 ⟨r.val, h8⟩ l) = 0#1 := isRow_ne 0 _ l h0
        have e1 : isRow 1#32 (ix2 ⟨r.val, h8⟩ l) = 1#1 := isRow_eq 1 _ l (by show r.val = 1; omega)
        rw [e0, select_zero, e1, select_one]
        refine (row_apply 7 before _ _ l).trans (congrArg (fun q => before (ix2 q l)) (Fin.ext ?_))
        show 7 = 6 + r.val
        omega
  · rw [dif_neg h8, dif_pos (by omega)]
    exact (slice2_apply _ _ ⟨r.val - 8, by omega⟩ l r l (by show r.val = 8 + (r.val - 8); omega) (Nat.zero_add _).symm).trans
      (turn_apply 2 (by omega) x r _ l (by show r.val - 2 = _; omega))

theorem ahead1_apply (x : FVec Ideal S512x1024 .f32) (after : FVec Ideal S8x1024 .f32) (r : Fin 512) (l : Fin 1024) :
    ahead1 x after (ix2 r l) = if h : r.val < 511 then x (ix2 ⟨r.val + 1, by omega⟩ l) else after (ix2 0 l) := by
  unfold ahead1
  rw [cat504_apply]
  by_cases h8 : r.val < 504
  · rw [dif_pos h8, dif_pos (by omega)]
    exact (slice2_apply _ _ ⟨r.val, h8⟩ l r l (Nat.zero_add _).symm (Nat.zero_add _).symm).trans (turn_apply 511 (by omega) x r _ l (by show r.val + 1 = _; omega))
  · rw [dif_neg h8, select_apply]
    by_cases h : r.val < 511
    · have e0 : isRow 7#32 (ix2 ⟨r.val - 504, by omega⟩ l) = 0#1 := isRow_ne 7 _ l (by show r.val - 504 ≠ 7; omega)
      rw [dif_pos h, e0, select_zero]
      exact (slice2_apply _ _ ⟨r.val - 504, by omega⟩ l r l (by show r.val = 504 + (r.val - 504); omega) (Nat.zero_add _).symm).trans
        (turn_apply 511 (by omega) x r _ l (by show r.val + 1 = _; omega))
    · have e0 : isRow 7#32 (ix2 ⟨r.val - 504, by omega⟩ l) = 1#1 := isRow_eq 7 _ l (by show r.val - 504 = 7; omega)
      rw [dif_neg h, e0, select_one]
      exact row_apply 0 after _ _ l

theorem rep512_apply (v : FVec Ideal S1x1024 .f32) (r : Fin 512) (l : Fin 1024) : rep512 v (ix2 r l) = v (ix2 0 l) :=
  broadcastTo_apply _ _ (ix2 r l) (ix2 0 l) (fun a => by fin_cases a <;> rfl)

theorem tap_apply (k : Fin 4) (cw : Vec Ideal S4x1024 .f32) (h : S4x1024.Slices ![k.val, 0] S1x1024) (r : Fin 512) (l : Fin 1024) :
    rep512 (F := Ideal) (extractStridedSlice S1x1024 ![k.val, 0] cw h) (ix2 r l) = cw (ix2 k l) := by
  rw [rep512_apply]
  exact slice2_apply cw h 0 l k l rfl (Nat.zero_add _).symm

/-- The convolution's row `r` of a tile. -/
theorem convTile_apply (cw : Vec Ideal S4x1024 .f32) (cb : Vec Ideal S1x1024 .f32) (x : FVec Ideal S512x1024 .f32) (before after : FVec Ideal S8x1024 .f32)
    (r : Fin 512) (l : Fin 1024) :
    convTile (F := Ideal) cw cb x before after (ix2 r l)
      = cb (ix2 0 l) + (if h : 2 ≤ r.val then x (ix2 ⟨r.val - 2, by omega⟩ l) else before (ix2 ⟨6 + r.val, by omega⟩ l)) * cw (ix2 0 l)
        + (if h : 1 ≤ r.val then x (ix2 ⟨r.val - 1, by omega⟩ l) else before (ix2 7 l)) * cw (ix2 1 l)
        + x (ix2 r l) * cw (ix2 2 l)
        + (if h : r.val < 511 then x (ix2 ⟨r.val + 1, by omega⟩ l) else after (ix2 0 l)) * cw (ix2 3 l) := by
  unfold convTile
  rw [addf_apply, addf_apply, addf_apply, addf_apply, mulf_apply, mulf_apply, mulf_apply, mulf_apply, back2_apply, back1_apply, ahead1_apply, rep512_apply]
  rw [show shapeCast S1x1024 cb Facts₀.shapeCasts_S1x1024_S1x1024 (ix2 0 l) = cb (ix2 0 l) from shapeCast_apply cb _ _ _ rfl]
  rw [show rep512 (F := Ideal) (extractStridedSlice S1x1024 ![0, 0] cw Facts₀.slices_S4x1024_o0_0_S1x1024) (ix2 r l) = cw (ix2 0 l) from tap_apply 0 cw _ r l,
    show rep512 (F := Ideal) (extractStridedSlice S1x1024 ![1, 0] cw Facts₀.slices_S4x1024_o1_0_S1x1024) (ix2 r l) = cw (ix2 1 l) from tap_apply 1 cw _ r l,
    show rep512 (F := Ideal) (extractStridedSlice S1x1024 ![2, 0] cw Facts₀.slices_S4x1024_o2_0_S1x1024) (ix2 r l) = cw (ix2 2 l) from tap_apply 2 cw _ r l,
    show rep512 (F := Ideal) (extractStridedSlice S1x1024 ![3, 0] cw Facts₀.slices_S4x1024_o3_0_S1x1024) (ix2 r l) = cw (ix2 3 l) from tap_apply 3 cw _ r l]

/-! ## The coefficients -/

theorem decayRow_apply (v : Vec Ideal S1x1024 .f32) (l : Fin 1024) : decayRow (F := Ideal) v (ix2 0 l) = rateS (v (ix2 0 l)) := by
  have h : decayRow (F := Ideal) v (ix2 0 l)
      = (((-8) * (Real.log 2)⁻¹ : ℝ) : EReal) * (max (Ideal.ofBits .f32 0x00000000#32 - v (ix2 0 l)) (Ideal.ofBits .f32 0x00000000#32)
        + Ideal.log1p (Ideal.exp (Ideal.ofBits .f32 0x00000000#32 - max (v (ix2 0 l)) (-(v (ix2 0 l)))))) := rfl
  rw [h, Ideal.ofBits_zero_f32]
  rfl

/-- Row `r` of a tile, as a line of columns. -/
abbrev lineOf (xc : FVec Ideal S512x1024 .f32) (r : Fin 512) : Fin 1024 → EReal := fun l => xc (ix2 r l)
/-- A direction's weights, as a function. -/
abbrev wOf (w : Vec Ideal S2x8x128x128 .bf16) (d : Fin 2) : Fin 8 → Fin 128 → Fin 128 → EReal := fun n k j => w (ix4 d n k j)
/-- A direction's row of columns, as a function. -/
abbrev rowOf (b : Vec Ideal S2x1024 .f32) (d : Fin 2) : Fin 1024 → EReal := fun l => b (ix2 d l)

theorem sliceT_apply {φ : FTy} (n : Fin 8) (x : FVec Ideal S512x1024 φ) (r : Fin 512) (j : Fin 128) :
    extractStridedSlice S512x128 ![0, 128 * n.val] x (slice_tile n) (ix2 r j) = x (ix2 r (col n j)) :=
  slice2_apply x _ r j r (col n j) (Nat.zero_add _).symm rfl

theorem gate_apply (d : Fin 2) (n : Fin 8) (xc : FVec Ideal S512x1024 .f32) (w : Vec Ideal S2x8x128x128 .bf16) (b : Vec Ideal S2x1024 .f32) (r : Fin 512) (j : Fin 128) :
    gate (F := Ideal) n xc (View.ld w (wRect d n)) (View.ld b (bRect d n)) (ix2 r j) = gateS (wOf w d) (rowOf b d) (lineOf xc r) n j := by
  unfold gate gateS
  show Ideal.logistic (_ + _) = _
  congr 2
  · refine (Ideal.matmul_plain_apply (M := 512) (K := 128) (N := 128) none _ _ _ r j).trans ?_
    rw [constant_apply, Ideal.ofBits_zero_f32, zero_add]
    refine Finset.sum_congr rfl fun k _ => ?_
    rw [show extractStridedSlice S512x128 ![0, 128 * n.val] (truncf .bf16 xc Facts₀.bitsLt_bf16_f32) (slice_tile n) (ix2 r k) = xc (ix2 r (col n k)) from sliceT_apply n _ r k]
    congr 1
    rw [shapeCast_apply _ _ (ix2 k j) (ix4 0 0 k j) (by rw [Shape.rowMajor_val_two, Shape.rowMajor_val_four]; simp)]
    exact View.ld_unit_apply_of w _ _ _ _ (ix4 d n k j) (fun a => by fin_cases a <;> simp)
  · rw [broadcastTo_apply _ _ (ix2 r j) (ix2 0 j) (fun a => by fin_cases a <;> rfl)]
    exact View.ld_unit_apply_of b _ _ _ _ (ix2 d (col n j)) (fun a => by fin_cases a <;> simp [col])

theorem coefA_apply (d : Fin 2) (n : Fin 8) (xc : FVec Ideal S512x1024 .f32) (w : Vec Ideal S2x8x128x128 .bf16) (b lam : Vec Ideal S2x1024 .f32) (r : Fin 512) (j : Fin 128) :
    coefA (F := Ideal) n xc (decayRow (View.ld lam (lRect d))) (View.ld w (wRect d n)) (View.ld b (bRect d n)) (ix2 r j)
      = aS (wOf w d) (rowOf b d) (rowOf lam d) (lineOf xc r) n j := by
  unfold coefA aS
  show Ideal.exp2 (_ * _) = _
  rw [gate_apply]
  congr 2
  rw [broadcastTo_apply _ _ (ix2 r j) (ix2 0 j) (fun a => by fin_cases a <;> rfl),
    slice2_apply _ _ 0 j 0 (col n j) rfl rfl, decayRow_apply]
  congr 1
  exact View.ld_unit_apply_of lam _ _ _ _ (ix2 d (col n j)) (fun a => by fin_cases a <;> simp)

theorem coefB_apply (d : Fin 2) (n : Fin 8) (xc : FVec Ideal S512x1024 .f32) (a : FVec Ideal S512x128 .f32) (w : Vec Ideal S2x8x128x128 .bf16) (b : Vec Ideal S2x1024 .f32) (r : Fin 512) (j : Fin 128) :
    coefB (F := Ideal) n xc a (View.ld w (wRect d n)) (View.ld b (bRect d n)) (ix2 r j)
      = bS (a (ix2 r j)) (wOf w d) (rowOf b d) (lineOf xc r) n j := by
  unfold coefB bS
  rw [mulf_apply, mulf_apply, gate_apply, sliceT_apply]
  show Ideal.sqrt (max (Ideal.ofBits .f32 0x3F800000#32 - a (ix2 r j) * a (ix2 r j)) (Ideal.ofBits .f32 0x00000000#32)) * _ = _
  rw [Ideal.ofBits_zero_f32, Ideal.ofBits_one_f32]

end Cert.KernelIdeal.Lru

end
-- ==== Proof.Lru.Group.lean ====
/- The three doubling rounds within a group of eight rows: each row ends with the composition of the group's steps up to its
   own, from the first row on in the forward direction and from the last row back in the reverse one. -/
module

public import proofs.«01_k».proof.Proof.Lru.Tile

@[expose] public section

noncomputable section

namespace Cert.KernelIdeal.Lru

open Cert.KernelIdeal Cert.KernelIdeal.Gen Cert.Recur
open Idealize.ShloMosaic Idealize.ShloMosaic.TcCoe Idealize.ShloMosaic.ValueIdx
open Idealize.SL Idealize.SL.Sem

/-- A group's column, by row from the first … -/
def colOf (a : FVec Ideal S64x8x128 .f32) (g : Fin 64) (l : Fin 128) : ℕ → EReal := fun s => if h : s < 8 then a (ix3 g ⟨s, h⟩ l) else 0
/-- … and by row from the last. -/
def revOf (a : FVec Ideal S64x8x128 .f32) (g : Fin 64) (l : Fin 128) : ℕ → EReal := fun s => if h : s < 8 then a (ix3 g ⟨7 - s, by omega⟩ l) else 0

theorem colOf_lt (a : FVec Ideal S64x8x128 .f32) (g : Fin 64) (l : Fin 128) {s : ℕ} (h : s < 8) : colOf a g l s = a (ix3 g ⟨s, h⟩ l) := dif_pos h
theorem revOf_lt (a : FVec Ideal S64x8x128 .f32) (g : Fin 64) (l : Fin 128) {s : ℕ} (h : s < 8) : revOf a g l s = a (ix3 g ⟨7 - s, by omega⟩ l) := dif_pos h

theorem maskF_apply (k s : Fin 8) (g : Fin 64) (l : Fin 128) : maskF (BitVec.ofNat 32 k.val) (ix3 g s l) = if k.val ≤ s.val then 1#1 else 0#1 := by
  have h : maskF (BitVec.ofNat 32 k.val) (ix3 g s l) = IntOp.cmpi .sge (BitVec.ofNat 32 (0 * 8 + s.val)) (BitVec.ofNat 32 k.val) := rfl
  rw [h]
  fin_cases k <;> fin_cases s <;> rfl

theorem maskR_apply (k s : Fin 8) (g : Fin 64) (l : Fin 128) : maskR (BitVec.ofNat 32 k.val) (ix3 g s l) = if s.val < k.val then 1#1 else 0#1 := by
  have h : maskR (BitVec.ofNat 32 k.val) (ix3 g s l) = IntOp.cmpi .slt (BitVec.ofNat 32 (0 * 8 + s.val)) (BitVec.ofNat 32 k.val) := rfl
  rw [h]
  fin_cases k <;> fin_cases s <;> rfl

theorem spin_apply (k s s' : Fin 8) (x : FVec Ideal S64x8x128 .f32) (g : Fin 64) (l : Fin 128) (h : s'.val = (s.val + 8 - k.val) % 8) :
    dynamicRotate 1 (BitVec.ofNat 32 k.val) none x Facts₀.rotates_S64x8x128_d1 (ix3 g s l) = x (ix3 g s' l) :=
  dynamicRotate_apply 1 _ x _ (ix3 g s l) (ix3 g s' l) (fun b => by
    fin_cases b
    · rfl
    · show s'.val = (s.val + 8 - (k.val % 4294967296) % 8) % 8
      rw [Nat.mod_eq_of_lt (show k.val < 4294967296 by omega), Nat.mod_eq_of_lt k.isLt, h]
    · rfl)

theorem stepA_fwd (k : Fin 8) (a : FVec Ideal S64x8x128 .f32) (g : Fin 64) (l : Fin 128) (s : ℕ) (hs : s < 8) :
    colOf (stepA (maskF (BitVec.ofNat 32 k.val)) (BitVec.ofNat 32 k.val) a) g l s
      = if k.val ≤ s then colOf a g l s * colOf a g l (s - k.val) else colOf a g l s := by
  rw [colOf_lt _ _ _ hs, colOf_lt a g l hs]
  unfold stepA
  rw [select_apply, maskF_apply]
  split
  · rename_i h
    rw [select_one, mulf_apply, colOf_lt a g l (show s - k.val < 8 by omega), spin_apply k ⟨s, hs⟩ ⟨s - k.val, by omega⟩ a g l (by show s - k.val = (s + 8 - k.val) % 8; simp only [] at h; omega)]
  · rename_i h
    rw [select_zero]

theorem stepB_fwd (k : Fin 8) (a b : FVec Ideal S64x8x128 .f32) (g : Fin 64) (l : Fin 128) (s : ℕ) (hs : s < 8) :
    colOf (stepB (maskF (BitVec.ofNat 32 k.val)) (BitVec.ofNat 32 k.val) a b) g l s
      = if k.val ≤ s then colOf a g l s * colOf b g l (s - k.val) + colOf b g l s else colOf b g l s := by
  rw [colOf_lt _ _ _ hs, colOf_lt a g l hs, colOf_lt b g l hs]
  unfold stepB
  rw [select_apply, maskF_apply]
  split
  · rename_i h
    rw [select_one, addf_apply, mulf_apply, colOf_lt b g l (show s - k.val < 8 by omega), spin_apply k ⟨s, hs⟩ ⟨s - k.val, by omega⟩ b g l (by show s - k.val = (s + 8 - k.val) % 8; simp only [] at h; omega)]
  · rename_i h
    rw [select_zero]

theorem stepA_rev (k : Fin 8) (a : FVec Ideal S64x8x128 .f32) (g : Fin 64) (l : Fin 128) (s : ℕ) (hs : s < 8) :
    revOf (stepA (maskR (BitVec.ofNat 32 k.val)) (BitVec.ofNat 32 k.val) a) g l s
      = if 8 - k.val ≤ s then revOf a g l s * revOf a g l (s - (8 - k.val)) else revOf a g l s := by
  rw [revOf_lt _ _ _ hs, revOf_lt a g l hs]
  unfold stepA
  rw [select_apply, maskR_apply]
  split
  · rename_i h
    have h' : 7 - s < k.val := h
    rw [select_one, mulf_apply, if_pos (by omega), revOf_lt a g l (show s - (8 - k.val) < 8 by omega),
      spin_apply k ⟨7 - s, by omega⟩ ⟨7 - (s - (8 - k.val)), by omega⟩ a g l (by show 7 - (s - (8 - k.val)) = (7 - s + 8 - k.val) % 8; omega)]
  · rename_i h
    have h' : ¬ 7 - s < k.val := h
    rw [select_zero, if_neg (by omega)]

theorem stepB_rev (k : Fin 8) (a b : FVec Ideal S64x8x128 .f32) (g : Fin 64) (l : Fin 128) (s : ℕ) (hs : s < 8) :
    revOf (stepB (maskR (BitVec.ofNat 32 k.val)) (BitVec.ofNat 32 k.val) a b) g l s
      = if 8 - k.val ≤ s then revOf a g l s * revOf b g l (s - (8 - k.val)) + revOf b g l s else revOf b g l s := by
  rw [revOf_lt _ _ _ hs, revOf_lt a g l hs, revOf_lt b g l hs]
  unfold stepB
  rw [select_apply, maskR_apply]
  split
  · rename_i h
    have h' : 7 - s < k.val := h
    rw [select_one, addf_apply, mulf_apply, if_pos (by omega), revOf_lt b g l (show s - (8 - k.val) < 8 by omega),
      spin_apply k ⟨7 - s, by omega⟩ ⟨7 - (s - (8 - k.val)), by omega⟩ b g l (by show 7 - (s - (8 - k.val)) = (7 - s + 8 - k.val) % 8; omega)]
  · rename_i h
    have h' : ¬ 7 - s < k.val := h
    rw [select_zero, if_neg (by omega)]

/-- A forward row: the composition of the group's steps from its first row to this one. -/
theorem scan_fwd (a b : FVec Ideal S64x8x128 .f32) (g : Fin 64) (l : Fin 128) (ha : ∀ s, Tame (a (ix3 g s l))) (s : Fin 8) (x : EReal) :
    scanBF a b (ix3 g s l) + scanAF a (ix3 g s l) * x = aff (colOf a g l) (colOf b g l) 0 (s.val + 1) x := by
  have h := covers_eight (a := colOf a g l) (b := colOf b g l) (fun s hs => by rw [colOf_lt a g l hs]; exact ha _)
    (stepA_fwd 1 a g l) (stepB_fwd 1 a b g l) (stepA_fwd 2 _ g l) (stepB_fwd 2 _ _ g l) (stepA_fwd 4 _ g l) (stepB_fwd 4 _ _ g l) s.val s.isLt x
  rw [colOf_lt _ _ _ s.isLt, colOf_lt _ _ _ s.isLt] at h
  exact h

/-- A reverse row: the composition of the group's steps from its last row back to this one. -/
theorem scan_rev (a b : FVec Ideal S64x8x128 .f32) (g : Fin 64) (l : Fin 128) (ha : ∀ s, Tame (a (ix3 g s l))) (s : Fin 8) (x : EReal) :
    scanBR a b (ix3 g s l) + scanAR a (ix3 g s l) * x = aff (revOf a g l) (revOf b g l) 0 (8 - s.val) x := by
  have h := covers_eight (a := revOf a g l) (b := revOf b g l) (fun s hs => by rw [revOf_lt a g l hs]; exact ha _)
    (stepA_rev 7 a g l) (stepB_rev 7 a b g l) (stepA_rev 6 _ g l) (stepB_rev 6 _ _ g l) (stepA_rev 4 _ g l) (stepB_rev 4 _ _ g l) (7 - s.val) (by omega) x
  rw [revOf_lt _ _ _ (by omega), revOf_lt _ _ _ (by omega)] at h
  have e : (⟨7 - (7 - s.val), by omega⟩ : Fin 8) = s := Fin.ext (by show 7 - (7 - s.val) = s.val; omega)
  rw [e, show 7 - s.val + 1 = 8 - s.val by omega] at h
  exact h

/-! ## The coefficient scratches at an index -/

theorem flat_apply (a : FVec Ideal S64x8x128 .f32) (r : Fin 512) (j : Fin 128) :
    flat a (ix3 0 r j) = a (ix3 ⟨r.val / 8, by omega⟩ ⟨r.val % 8, by omega⟩ j) := by
  unfold flat
  rw [shapeCast_apply _ _ (ix3 0 r j) (ix2 r j) (by rw [Shape.rowMajor_val_two, Shape.rowMajor_val_three]; simp)]
  refine shapeCast_apply _ _ (ix2 r j) _ ?_
  rw [Shape.rowMajor_val_two, Shape.rowMajor_val_three]
  show (r.val / 8 * 8 + r.val % 8) * 128 + j.val = r.val * 128 + j.val
  omega

theorem groups_apply (a : FVec Ideal S512x128 .f32) (g : Fin 64) (s : Fin 8) (j : Fin 128) :
    groups a (ix3 g s j) = a (ix2 ⟨8 * g.val + s.val, by omega⟩ j) := by
  unfold groups
  refine shapeCast_apply _ _ (ix3 g s j) _ ?_
  rw [Shape.rowMajor_val_two, Shape.rowMajor_val_three]
  show (8 * g.val + s.val) * 128 + j.val = (g.val * 8 + s.val) * 128 + j.val
  omega

/-- What sixteen blocks of columns leave in a scratch, as one function of the index. -/
def filled (q : Fin 2 → Fin 8 → FVec Ideal S64x8x128 .f32) : Vec Ideal S2x512x1024 .f32 := fun y =>
  q (y 0) ⟨(y 2).val / 128, by have h : (y 2).val < 1024 := (y 2).isLt; omega⟩
    (ix3 ⟨(y 1).val / 8, by have h : (y 1).val < 512 := (y 1).isLt; omega⟩ ⟨(y 1).val % 8, by omega⟩ ⟨(y 2).val % 128, by omega⟩)

theorem filled_ix3 (q : Fin 2 → Fin 8 → FVec Ideal S64x8x128 .f32) (d : Fin 2) (r : Fin 512) (n : Fin 8) (j : Fin 128) :
    filled q (ix3 d r (col n j)) = q d n (ix3 ⟨r.val / 8, by omega⟩ ⟨r.val % 8, by omega⟩ j) := by
  have e1 : (⟨(128 * n.val + j.val) / 128, by omega⟩ : Fin 8) = n := Fin.ext (by show _ / 128 = _; omega)
  have e2 : (⟨(128 * n.val + j.val) % 128, by omega⟩ : Fin 128) = j := Fin.ext (by show _ % 128 = _; omega)
  show q d ⟨(128 * n.val + j.val) / 128, _⟩ (ix3 ⟨r.val / 8, _⟩ ⟨r.val % 8, _⟩ ⟨(128 * n.val + j.val) % 128, _⟩) = _
  rw [e1, e2]

theorem piece_filled (q : Fin 2 → Fin 8 → FVec Ideal S64x8x128 .f32) (d : Fin 2) (n : Fin 8) (x : S1x512x128.Idx) :
    flat (q d n) x = filled q ((colRect d n).emb x) := by
  obtain ⟨x0, r, j, rfl⟩ : ∃ (x0 : Fin 1) (r : Fin 512) (j : Fin 128), x = ix3 x0 r j := ⟨x 0, x 1, x 2, eq_ix3 x⟩
  obtain rfl : x0 = 0 := Fin.ext (by omega)
  have e : (colRect d n).emb (ix3 (0 : Fin 1) r j : S1x512x128.Idx) = ix3 d r (col n j) := funext fun a => by
    fin_cases a
    · exact Fin.ext (Rect.idx_unit_val _ _ _ _ 0)
    · exact Fin.ext ((Rect.idx_unit_val _ _ _ _ 1).trans (Nat.zero_add _))
    · exact Fin.ext (Rect.idx_unit_val _ _ _ _ 2)
  rw [flat_apply, e, filled_ix3]

theorem mem_eight {p : Fin 8 → View.Piece (Elt Ideal) S2x512x1024 .f32} {z : View.Piece (Elt Ideal) S2x512x1024 .f32} :
    z ∈ eight p ↔ ∃ n, z = p n := by
  unfold eight
  simp only [List.mem_cons, List.not_mem_nil, or_false]
  constructor
  · rintro (h | h | h | h | h | h | h | h) <;> exact ⟨_, h⟩
  · rintro ⟨n, rfl⟩
    fin_cases n <;> simp

/-- The scratch's contents. -/
theorem filled_eq (m : Memref sig .tc .vmem S2x512x1024 .f32) (f : BufTy.Contents (Elt Ideal) m.view.ty) (q : Fin 2 → Fin 8 → FVec Ideal S64x8x128 .f32)
    (pr pf : Fin 8 → View.Piece (Elt Ideal) S2x512x1024 .f32) (hr : ∀ n, pr n = ⟨colRect 1 n, flat (q 1 n)⟩) (hf : ∀ n, pf n = ⟨colRect 0 n, flat (q 0 n)⟩) :
    m.view.read (Elt Ideal) (m.view.writes (Elt Ideal) f (eight pr ++ eight pf)) = filled q := funext fun y => by
  have hm : ∀ d n, (⟨colRect d n, flat (q d n)⟩ : View.Piece (Elt Ideal) S2x512x1024 .f32) ∈ eight pr ++ eight pf := fun d n => by
    rw [List.mem_append, mem_eight, mem_eight]
    match d with
    | 0 => exact .inr ⟨n, (hf n).symm⟩
    | 1 => exact .inl ⟨n, (hr n).symm⟩
  have h0 : (y 0).val < 2 := (y 0).isLt
  have h1 : (y 1).val < 512 := (y 1).isLt
  have h2 : (y 2).val < 1024 := (y 2).isLt
  have hc : ∃ p ∈ eight pr ++ eight pf, y ∈ p.1.set := by
    refine ⟨_, hm (y 0) ⟨(y 2).val / 128, by omega⟩, (Rect.mem_set_unit (inb := inb_col _ _)).mpr fun a => ?_⟩
    fin_cases a
    · exact ⟨le_refl _, Nat.lt_succ_self _⟩
    · exact ⟨Nat.zero_le _, (Nat.zero_add 512).symm ▸ h1⟩
    · show 128 * ((y 2).val / 128) ≤ (y 2).val ∧ (y 2).val < 128 * ((y 2).val / 128) + 128
      omega
  rw [View.read_writes_apply_eq_canon _ _ _ _ hc]
  refine View.canon_apply_of_pieces (filled q) _ (fun p hp x => ?_) y hc
  rw [List.mem_append, mem_eight, mem_eight] at hp
  rcases hp with ⟨n, rfl⟩ | ⟨n, rfl⟩
  · revert x; rw [hr n]; exact fun x => piece_filled q 1 n x
  · revert x; rw [hf n]; exact fun x => piece_filled q 0 n x

end Cert.KernelIdeal.Lru

end
-- ==== Proof.Lru.Loop.lean ====
/- The body's loop over the sixty-four groups of eight rows: what its state before a trip is — the two carried rows by
   recursion over the trips, and the pieces stored into the two outputs, one per trip. -/
module

public import proofs.«01_k».proof.Proof.Lru.Run

@[expose] public section

set_option maxRecDepth 16384

noncomputable section

namespace Cert.KernelIdeal.Lru

open Cert.KernelIdeal Cert.KernelIdeal.Gen
open Idealize.ShloMosaic Idealize.ShloMosaic.TcCoe
open Idealize.SL Idealize.SL.Sem

variable {F : FTy → Type} [FloatOps F] [Named F]

theorem trips_eq : k0_t1_loop.trips = 64 := by decide +kernel

/-- The rows trip `k` reads of a coefficient scratch in the forward direction … -/
abbrev rdF (k : Fin k0_t1_loop.trips) : Rect S2x512x1024 := Rect.unit (k0_off1 k) S1x8x1024.size (Facts₀.k0_off1_inb k)
/-- … and in reverse; -/
abbrev rdR (k : Fin k0_t1_loop.trips) : Rect S2x512x1024 := Rect.unit (k0_off3 k) S1x8x1024.size (Facts₀.k0_off3_inb k)
/-- the rows it stores of the forward output … -/
abbrev wrF (k : Fin k0_t1_loop.trips) : Rect S1x512x1024 := Rect.unit (k0_off2 k) S1x8x1024.size (Facts₀.k0_off2_inb k)
/-- … and of the reverse one. -/
abbrev wrR (k : Fin k0_t1_loop.trips) : Rect S1x512x1024 := Rect.unit (k0_off4 k) S1x8x1024.size (Facts₀.k0_off4_inb k)

/-- The two carried rows before trip `k`, from the two coefficient arrays. -/
def carry (A B : Vec F S2x512x1024 .f32) (init : FVec F S8x1024 .f32 × FVec F S8x1024 .f32) : ℕ → FVec F S8x1024 .f32 × FVec F S8x1024 .f32
  | 0 => init
  | k + 1 => if h : k < k0_t1_loop.trips then
      (k0_pay5 (carry A B init k).1 (View.ld B (rdF ⟨k, h⟩)) (View.ld A (rdF ⟨k, h⟩)),
       k0_pay8 (carry A B init k).2 (View.ld B (rdR ⟨k, h⟩)) (View.ld A (rdR ⟨k, h⟩)))
    else carry A B init k

theorem carry_succ (A B : Vec F S2x512x1024 .f32) (init : FVec F S8x1024 .f32 × FVec F S8x1024 .f32) (k : Fin k0_t1_loop.trips) :
    carry A B init (k.val + 1) =
      (k0_pay5 (carry A B init k.val).1 (View.ld B (rdF k)) (View.ld A (rdF k)),
       k0_pay8 (carry A B init k.val).2 (View.ld B (rdR k)) (View.ld A (rdR k))) := by
  rw [carry, dif_pos k.isLt]

/-- The piece trip `k` stores into the forward output … -/
def outF (A B : Vec F S2x512x1024 .f32) (init : FVec F S8x1024 .f32 × FVec F S8x1024 .f32) (k : Fin k0_t1_loop.trips) :
    View.Piece (Elt F) S1x512x1024 .f32 :=
  ⟨wrF k, k0_pay4 (carry A B init k.val).1 (View.ld B (rdF k)) (View.ld A (rdF k))⟩

/-- … and into the reverse one. -/
def outR (A B : Vec F S2x512x1024 .f32) (init : FVec F S8x1024 .f32 × FVec F S8x1024 .f32) (k : Fin k0_t1_loop.trips) :
    View.Piece (Elt F) S1x512x1024 .f32 :=
  ⟨wrR k, k0_pay7 (carry A B init k.val).2 (View.ld B (rdR k)) (View.ld A (rdR k))⟩

/-- A list holding one piece per trip before `k`, with trip `k`'s put in front, holds one per trip before `k + 1`. -/
theorem mem_next {α : Type*} {N k : ℕ} (h : k < N) (f : Fin N → α) {L : List α} (hL : ∀ p, p ∈ L ↔ ∃ j : Fin N, j.val < k ∧ p = f j) (p : α) :
    p ∈ f ⟨k, h⟩ :: L ↔ ∃ j : Fin N, j.val < k + 1 ∧ p = f j := by
  rw [List.mem_cons, hL]
  constructor
  · rintro (rfl | ⟨j, hj, rfl⟩)
    · exact ⟨⟨k, h⟩, Nat.lt_succ_self k, rfl⟩
    · exact ⟨j, Nat.lt_succ_of_lt hj, rfl⟩
  · rintro ⟨j, hj, rfl⟩
    rcases Nat.lt_succ_iff_lt_or_eq.mp hj with hj | hj
    · exact .inr ⟨j, hj, rfl⟩
    · obtain rfl : j = ⟨k, h⟩ := Fin.ext hj
      exact .inl rfl

section
variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x8x128x128 .bf16) (harg11 : arg11.IsWhole) (arg12 : Memref sig .tc .vmem S2x1024 .f32) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S2x512x1024 .f32) (harg17 : arg17.IsWhole) (arg18 : Memref sig .tc .vmem S2x512x1024 .f32) (harg18 : arg18.IsWhole) (arg19 : Memref sig .tc .vmem S2x8x1024 .f32) (harg19 : arg19.IsWhole)
  (X17 : BufTy.Contents (Elt F) arg17.view.ty) (X18 : BufTy.Contents (Elt F) arg18.view.ty)

theorem tripR_eq (k : Fin k0_t1_loop.trips) (acc : FVec F S8x1024 .f32 × FVec F S8x1024 .f32) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 k acc =
      (k0_pay5 acc.1 (View.ld (arg18.view.read (Elt F) X18) (rdF k)) (View.ld (arg17.view.read (Elt F) X17) (rdF k)),
       k0_pay8 acc.2 (View.ld (arg18.view.read (Elt F) X18) (rdR k)) (View.ld (arg17.view.read (Elt F) X17) (rdR k))) := by
  unfold tripR_k0_t1 trip_k0_t1
  rfl

theorem tripL_eq (k : Fin k0_t1_loop.trips) (acc : FVec F S8x1024 .f32 × FVec F S8x1024 .f32) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 k acc =
      ([⟨wrF k, k0_pay4 acc.1 (View.ld (arg18.view.read (Elt F) X18) (rdF k)) (View.ld (arg17.view.read (Elt F) X17) (rdF k))⟩],
       [⟨wrR k, k0_pay7 acc.2 (View.ld (arg18.view.read (Elt F) X18) (rdR k)) (View.ld (arg17.view.read (Elt F) X17) (rdR k))⟩]) := by
  unfold tripL_k0_t1 trip_k0_t1
  rfl

/-- The state before trip `k`: the carried rows, and one piece of each output per trip before. -/
theorem state_eq (init : FVec F S8x1024 .f32 × FVec F S8x1024 .f32) : ∀ k : ℕ, k ≤ k0_t1_loop.trips →
    (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 init k).1 = carry (arg17.view.read (Elt F) X17) (arg18.view.read (Elt F) X18) init k
    ∧ (∀ p, p ∈ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 init k).2.1 ↔
        ∃ j : Fin k0_t1_loop.trips, j.val < k ∧ p = outF (arg17.view.read (Elt F) X17) (arg18.view.read (Elt F) X18) init j)
    ∧ (∀ p, p ∈ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 init k).2.2 ↔
        ∃ j : Fin k0_t1_loop.trips, j.val < k ∧ p = outR (arg17.view.read (Elt F) X17) (arg18.view.read (Elt F) X18) init j)
  | 0, _ => by
    refine ⟨rfl, fun p => ?_, fun p => ?_⟩
    · simp [st_k0_t1]
    · simp [st_k0_t1]
  | k + 1, h => by
    obtain ⟨h1, h2, h3⟩ := state_eq init k (Nat.le_of_succ_le h)
    have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 init ⟨k, h⟩
    have hc := carry_succ (arg17.view.read (Elt F) X17) (arg18.view.read (Elt F) X18) init ⟨k, h⟩
    rw [tripR_eq, tripL_eq, h1] at hs
    rw [show (⟨k, h⟩ : Fin k0_t1_loop.trips).val + 1 = k + 1 from rfl] at hs hc
    rw [hs]
    exact ⟨hc.symm, mem_next h (outF _ _ init) h2, mem_next h (outR _ _ init) h3⟩

end

end Cert.KernelIdeal.Lru

end
-- ==== Proof.Lru.LoopValue.lean ====
/- The loop's results: when each group's rows compose the steps of a recurrence, the carried rows are the recurrence's values
   at the groups' ends and the stored rows its values at every time — forward from the tile's first row, in reverse from its
   last. -/
module

public import proofs.«01_k».proof.Proof.Lru.Group
public import proofs.«01_k».proof.Proof.Lru.Loop

@[expose] public section

noncomputable section

namespace Cert.KernelIdeal.Lru

open Cert.KernelIdeal Cert.KernelIdeal.Gen Cert.Recur
open Idealize.ShloMosaic Idealize.ShloMosaic.TcCoe Idealize.ShloMosaic.ValueIdx
open Idealize.SL Idealize.SL.Sem

theorem tlt (k : Fin k0_t1_loop.trips) : k.val < 64 := trips_eq ▸ k.isLt

/-! ## A trip's operations at an index -/

theorem ldF_apply (X : Vec Ideal S2x512x1024 .f32) (k : Fin k0_t1_loop.trips) (s : Fin 8) (l : Fin 1024) :
    View.ld X (rdF k) (ix3 (0 : Fin 1) s l : S1x8x1024.Idx) = X (ix3 0 ⟨8 * k.val + s.val, by have := tlt k; omega⟩ l) :=
  View.ld_unit_apply_of X _ _ _ _ _ (fun a => by
    fin_cases a
    · exact (congrFun (k0_off1_eq k) 0).symm
    · exact (congrArg (· + s.val) (congrFun (k0_off1_eq k) 1)).symm
    · exact ((congrArg (· + l.val) (congrFun (k0_off1_eq k) 2)).trans (Nat.zero_add _)).symm)

theorem ldR_apply (X : Vec Ideal S2x512x1024 .f32) (k : Fin k0_t1_loop.trips) (s : Fin 8) (l : Fin 1024) :
    View.ld X (rdR k) (ix3 (0 : Fin 1) s l : S1x8x1024.Idx) = X (ix3 1 ⟨504 - 8 * k.val + s.val, by have := tlt k; omega⟩ l) :=
  View.ld_unit_apply_of X _ _ _ _ _ (fun a => by
    fin_cases a
    · exact (congrFun (k0_off3_eq k) 0).symm
    · exact (congrArg (· + s.val) (congrFun (k0_off3_eq k) 1)).symm
    · exact ((congrArg (· + l.val) (congrFun (k0_off3_eq k) 2)).trans (Nat.zero_add _)).symm)

theorem cast8_apply (v : Vec Ideal S1x8x1024 .f32) (s : Fin 8) (l : Fin 1024) :
    shapeCast S8x1024 v Facts₀.shapeCasts_S1x8x1024_S8x1024 (ix2 s l) = v (ix3 0 s l) :=
  shapeCast_apply v _ (ix2 s l) (ix3 0 s l) (by rw [Shape.rowMajor_val_two, Shape.rowMajor_val_three]; simp)

theorem uncast8_apply (v : FVec Ideal S8x1024 .f32) (s : Fin 8) (l : Fin 1024) :
    shapeCast S1x8x1024 v Facts₀.shapeCasts_S8x1024_S1x8x1024 (ix3 0 s l) = v (ix2 s l) :=
  shapeCast_apply v _ (ix3 0 s l) (ix2 s l) (by rw [Shape.rowMajor_val_two, Shape.rowMajor_val_three]; simp)

theorem pay3_apply (acc : FVec Ideal S8x1024 .f32) (b a : Vec Ideal S1x8x1024 .f32) (s : Fin 8) (l : Fin 1024) :
    k0_pay3 (F := Ideal) acc b a (ix2 s l) = b (ix3 0 s l) + a (ix3 0 s l) * acc (ix2 s l) := by
  unfold k0_pay3
  show shapeCast S8x1024 b Facts₀.shapeCasts_S1x8x1024_S8x1024 (ix2 s l) + shapeCast S8x1024 a Facts₀.shapeCasts_S1x8x1024_S8x1024 (ix2 s l) * acc (ix2 s l) = _
  rw [cast8_apply, cast8_apply]

theorem pay4_apply (acc : FVec Ideal S8x1024 .f32) (b a : Vec Ideal S1x8x1024 .f32) (s : Fin 8) (l : Fin 1024) :
    k0_pay4 (F := Ideal) acc b a (ix3 0 s l) = b (ix3 0 s l) + a (ix3 0 s l) * acc (ix2 s l) :=
  (uncast8_apply _ s l).trans (pay3_apply acc b a s l)

theorem pay7_apply (acc : FVec Ideal S8x1024 .f32) (b a : Vec Ideal S1x8x1024 .f32) (s : Fin 8) (l : Fin 1024) :
    k0_pay7 (F := Ideal) acc b a (ix3 0 s l) = b (ix3 0 s l) + a (ix3 0 s l) * acc (ix2 s l) :=
  (uncast8_apply _ s l).trans (pay3_apply acc b a s l)

theorem pay5_apply (acc : FVec Ideal S8x1024 .f32) (b a : Vec Ideal S1x8x1024 .f32) (s : Fin 8) (l : Fin 1024) :
    k0_pay5 (F := Ideal) acc b a (ix2 s l) = b (ix3 0 7 l) + a (ix3 0 7 l) * acc (ix2 7 l) :=
  (row_apply 7 (k0_pay3 (F := Ideal) acc b a) _ s l).trans (pay3_apply acc b a 7 l)

theorem pay8_apply (acc : FVec Ideal S8x1024 .f32) (b a : Vec Ideal S1x8x1024 .f32) (s : Fin 8) (l : Fin 1024) :
    k0_pay8 (F := Ideal) acc b a (ix2 s l) = b (ix3 0 0 l) + a (ix3 0 0 l) * acc (ix2 0 l) :=
  (row_apply 0 (k0_pay3 (F := Ideal) acc b a) _ s l).trans (pay3_apply acc b a 0 l)

/-! ## The loop -/

/-- Each forward group composes its steps from its first row; each reverse group from its last. -/
structure Composes (A B : Vec Ideal S2x512x1024 .f32) (α β : Fin 2 → Fin 1024 → ℕ → EReal) : Prop where
  fwd : ∀ (l : Fin 1024) (k : Fin 64) (s : Fin 8) (x : EReal),
    B (ix3 0 ⟨8 * k.val + s.val, by omega⟩ l) + A (ix3 0 ⟨8 * k.val + s.val, by omega⟩ l) * x = aff (α 0 l) (β 0 l) (8 * k.val) (s.val + 1) x
  rev : ∀ (l : Fin 1024) (k : Fin 64) (s : Fin 8) (x : EReal),
    B (ix3 1 ⟨504 - 8 * k.val + s.val, by omega⟩ l) + A (ix3 1 ⟨504 - 8 * k.val + s.val, by omega⟩ l) * x = aff (α 1 l) (β 1 l) (8 * k.val) (8 - s.val) x

section
variable {A B : Vec Ideal S2x512x1024 .f32} {α β : Fin 2 → Fin 1024 → ℕ → EReal} (hC : Composes A B α β)
  {init : FVec Ideal S8x1024 .f32 × FVec Ideal S8x1024 .f32} {c0 : Fin 2 → Fin 1024 → EReal}
  (h1 : ∀ s l, init.1 (ix2 s l) = c0 0 l) (h2 : ∀ s l, init.2 (ix2 s l) = c0 1 l)
include hC h1 h2

theorem carry_eq : ∀ k : ℕ, k ≤ 64 → ∀ (s : Fin 8) (l : Fin 1024),
    (carry A B init k).1 (ix2 s l) = aff (α 0 l) (β 0 l) 0 (8 * k) (c0 0 l) ∧ (carry A B init k).2 (ix2 s l) = aff (α 1 l) (β 1 l) 0 (8 * k) (c0 1 l)
  | 0, _, s, l => ⟨h1 s l, h2 s l⟩
  | k + 1, hk, s, l => by
    have hk' : k < k0_t1_loop.trips := trips_eq ▸ hk
    have hs := carry_succ A B init ⟨k, hk'⟩
    rw [show (⟨k, hk'⟩ : Fin k0_t1_loop.trips).val + 1 = k + 1 from rfl] at hs
    have hi := carry_eq k (Nat.le_of_succ_le hk)
    rw [hs]
    constructor
    · show k0_pay5 (F := Ideal) _ _ _ (ix2 s l) = _
      rw [pay5_apply, ldF_apply, ldF_apply, (hi 7 l).1]
      refine (hC.fwd l ⟨k, hk⟩ 7 _).trans ?_
      rw [show 8 * (k + 1) = 8 * k + (7 + 1) from by ring, aff_add _ _ 0 (8 * k) (c0 0 l) (7 + 1), Nat.zero_add]
      rfl
    · show k0_pay8 (F := Ideal) _ _ _ (ix2 s l) = _
      rw [pay8_apply, ldR_apply, ldR_apply, (hi 0 l).2]
      refine (hC.rev l ⟨k, hk⟩ 0 _).trans ?_
      rw [show 8 * (k + 1) = 8 * k + (8 - 0) from by ring, aff_add _ _ 0 (8 * k) (c0 1 l) (8 - 0), Nat.zero_add]
      rfl

theorem outF_apply (k : Fin k0_t1_loop.trips) (s : Fin 8) (l : Fin 1024) :
    k0_pay4 (F := Ideal) (carry A B init k.val).1 (View.ld B (rdF k)) (View.ld A (rdF k)) (ix3 0 s l)
      = aff (α 0 l) (β 0 l) 0 (8 * k.val + s.val + 1) (c0 0 l) := by
  rw [pay4_apply, ldF_apply, ldF_apply, (carry_eq hC h1 h2 k.val (tlt k).le s l).1]
  refine (hC.fwd l ⟨k.val, tlt k⟩ s _).trans ?_
  rw [Nat.add_assoc, aff_add _ _ 0 (8 * k.val) (c0 0 l) (s.val + 1), Nat.zero_add]

theorem outR_apply (k : Fin k0_t1_loop.trips) (s : Fin 8) (l : Fin 1024) :
    k0_pay7 (F := Ideal) (carry A B init k.val).2 (View.ld B (rdR k)) (View.ld A (rdR k)) (ix3 0 s l)
      = aff (α 1 l) (β 1 l) 0 (8 * k.val + (8 - s.val)) (c0 1 l) := by
  rw [pay7_apply, ldR_apply, ldR_apply, (carry_eq hC h1 h2 k.val (tlt k).le s l).2]
  refine (hC.rev l ⟨k.val, tlt k⟩ s _).trans ?_
  rw [aff_add _ _ 0 (8 * k.val) (c0 1 l) (8 - s.val), Nat.zero_add]

/-- The forward output's block: the recurrence's value at every row. -/
theorem outF_eq (m : Memref sig .tc .vmem S1x512x1024 .f32) (f : BufTy.Contents (Elt Ideal) m.view.ty) (L : List (View.Piece (Elt Ideal) S1x512x1024 .f32))
    (hL : ∀ p, p ∈ L ↔ ∃ j : Fin k0_t1_loop.trips, j.val < k0_t1_loop.trips ∧ p = outF A B init j) :
    m.view.read (Elt Ideal) (m.view.writes (Elt Ideal) f L) = fun y => aff (α 0 (y 2)) (β 0 (y 2)) 0 ((y 1).val + 1) (c0 0 (y 2)) := funext fun y => by
  have hy0 : (y 0).val < 1 := (y 0).isLt
  have hy1 : (y 1).val < 512 := (y 1).isLt
  have hy2 : (y 2).val < 1024 := (y 2).isLt
  have hc : ∃ p ∈ L, y ∈ p.1.set := by
    have hk : (y 1).val / 8 < k0_t1_loop.trips := trips_eq ▸ (by omega)
    refine ⟨outF A B init ⟨(y 1).val / 8, hk⟩, (hL _).mpr ⟨_, hk, rfl⟩, ?_⟩
    refine (Rect.mem_set_unit (inb := Facts₀.k0_off2_inb _)).mpr fun a => ?_
    rw [k0_off2_eq]
    fin_cases a
    · show 0 ≤ (y 0).val ∧ (y 0).val < 0 + 1
      omega
    · show 8 * ((y 1).val / 8) ≤ (y 1).val ∧ (y 1).val < 8 * ((y 1).val / 8) + 8
      omega
    · show 0 ≤ (y 2).val ∧ (y 2).val < 0 + 1024
      omega
  rw [View.read_writes_apply_eq_canon _ _ _ _ hc]
  refine View.canon_apply_of_pieces (fun y => aff (α 0 (y 2)) (β 0 (y 2)) 0 ((y 1).val + 1) (c0 0 (y 2))) _ (fun p hp x => ?_) y hc
  obtain ⟨j, -, rfl⟩ := (hL p).mp hp
  obtain ⟨x0, s, l, rfl⟩ : ∃ (x0 : Fin 1) (s : Fin 8) (l : Fin 1024), (x : S1x8x1024.Idx) = ix3 x0 s l := ⟨x 0, x 1, x 2, eq_ix3 (n0 := 1) (n1 := 8) (n2 := 1024) x⟩
  obtain rfl : x0 = 0 := Fin.ext (by omega)
  refine (outF_apply hC h1 h2 j s l).trans ?_
  have e1 : ((wrF j).emb (ix3 (0 : Fin 1) s l : S1x8x1024.Idx) 1).val = 8 * j.val + s.val := (Rect.idx_unit_val _ _ _ _ 1).trans (congrArg (· + s.val) (congrFun (k0_off2_eq j) 1))
  have e2 : (wrF j).emb (ix3 (0 : Fin 1) s l : S1x8x1024.Idx) 2 = l := Fin.ext ((Rect.idx_unit_val _ _ _ _ 2).trans ((congrArg (· + l.val) (congrFun (k0_off2_eq j) 2)).trans (Nat.zero_add _)))
  show _ = aff (α 0 ((wrF j).emb (ix3 (0 : Fin 1) s l : S1x8x1024.Idx) 2)) (β 0 ((wrF j).emb (ix3 (0 : Fin 1) s l : S1x8x1024.Idx) 2)) 0 (((wrF j).emb (ix3 (0 : Fin 1) s l : S1x8x1024.Idx) 1).val + 1) (c0 0 ((wrF j).emb (ix3 (0 : Fin 1) s l : S1x8x1024.Idx) 2))
  rw [e1, e2]

/-- The reverse output's block. -/
theorem outR_eq (m : Memref sig .tc .vmem S1x512x1024 .f32) (f : BufTy.Contents (Elt Ideal) m.view.ty) (L : List (View.Piece (Elt Ideal) S1x512x1024 .f32))
    (hL : ∀ p, p ∈ L ↔ ∃ j : Fin k0_t1_loop.trips, j.val < k0_t1_loop.trips ∧ p = outR A B init j) :
    m.view.read (Elt Ideal) (m.view.writes (Elt Ideal) f L) = fun y => aff (α 1 (y 2)) (β 1 (y 2)) 0 (512 - (y 1).val) (c0 1 (y 2)) := funext fun y => by
  have hy0 : (y 0).val < 1 := (y 0).isLt
  have hy1 : (y 1).val < 512 := (y 1).isLt
  have hy2 : (y 2).val < 1024 := (y 2).isLt
  have hc : ∃ p ∈ L, y ∈ p.1.set := by
    have hk : 63 - (y 1).val / 8 < k0_t1_loop.trips := trips_eq ▸ (by omega)
    refine ⟨outR A B init ⟨63 - (y 1).val / 8, hk⟩, (hL _).mpr ⟨_, hk, rfl⟩, ?_⟩
    refine (Rect.mem_set_unit (inb := Facts₀.k0_off4_inb _)).mpr fun a => ?_
    rw [k0_off4_eq]
    fin_cases a
    · show 0 ≤ (y 0).val ∧ (y 0).val < 0 + 1
      omega
    · show 504 - 8 * (63 - (y 1).val / 8) ≤ (y 1).val ∧ (y 1).val < 504 - 8 * (63 - (y 1).val / 8) + 8
      omega
    · show 0 ≤ (y 2).val ∧ (y 2).val < 0 + 1024
      omega
  rw [View.read_writes_apply_eq_canon _ _ _ _ hc]
  refine View.canon_apply_of_pieces (fun y => aff (α 1 (y 2)) (β 1 (y 2)) 0 (512 - (y 1).val) (c0 1 (y 2))) _ (fun p hp x => ?_) y hc
  obtain ⟨j, -, rfl⟩ := (hL p).mp hp
  have hj := tlt j
  obtain ⟨x0, s, l, rfl⟩ : ∃ (x0 : Fin 1) (s : Fin 8) (l : Fin 1024), (x : S1x8x1024.Idx) = ix3 x0 s l := ⟨x 0, x 1, x 2, eq_ix3 (n0 := 1) (n1 := 8) (n2 := 1024) x⟩
  obtain rfl : x0 = 0 := Fin.ext (by omega)
  refine (outR_apply hC h1 h2 j s l).trans ?_
  have e1 : ((wrR j).emb (ix3 (0 : Fin 1) s l : S1x8x1024.Idx) 1).val = 504 - 8 * j.val + s.val := (Rect.idx_unit_val _ _ _ _ 1).trans (congrArg (· + s.val) (congrFun (k0_off4_eq j) 1))
  have e2 : (wrR j).emb (ix3 (0 : Fin 1) s l : S1x8x1024.Idx) 2 = l := Fin.ext ((Rect.idx_unit_val _ _ _ _ 2).trans ((congrArg (· + l.val) (congrFun (k0_off4_eq j) 2)).trans (Nat.zero_add _)))
  show _ = aff (α 1 ((wrR j).emb (ix3 (0 : Fin 1) s l : S1x8x1024.Idx) 2)) (β 1 ((wrR j).emb (ix3 (0 : Fin 1) s l : S1x8x1024.Idx) 2)) 0 (512 - ((wrR j).emb (ix3 (0 : Fin 1) s l : S1x8x1024.Idx) 1).val) (c0 1 ((wrR j).emb (ix3 (0 : Fin 1) s l : S1x8x1024.Idx) 2))
  rw [e1, e2, show 512 - (504 - 8 * j.val + s.val) = 8 * j.val + (8 - s.val) by omega]

end

end Cert.KernelIdeal.Lru

end
-- ==== Proof.Lru.Whole.lean ====
/- The recurrence over the whole sequence: the convolution at a step, the two directions' coefficients, and the state after a
   number of steps. -/
module

public import proofs.«01_k».proof.Proof.Lru.Coeffs
public import Idealize.ShloMosaic.Lib.IdealHost

@[expose] public section

noncomputable section

namespace Cert.Recur

open Idealize.ShloMosaic Idealize.ShloMosaic.ValueIdx

/-- The block of 128 columns a column is in … -/
def blkOf (l : Fin 1024) : Fin 8 := ⟨l.val / 128, by omega⟩
/-- … and its place there. -/
def laneOf (l : Fin 1024) : Fin 128 := ⟨l.val % 128, by omega⟩

theorem blkOf_col (n : Fin 8) (j : Fin 128) : blkOf (col n j) = n := Fin.ext (by show (128 * n.val + j.val) / 128 = _; omega)
theorem laneOf_col (n : Fin 8) (j : Fin 128) : laneOf (col n j) = j := Fin.ext (by show (128 * n.val + j.val) % 128 = _; omega)
theorem col_blk_lane (l : Fin 1024) : col (blkOf l) (laneOf l) = l := Fin.ext (by show 128 * (l.val / 128) + l.val % 128 = _; omega)

/-- The operands of the recurrence, by coordinates: the sequence's rows (zero beyond its end), the convolution's taps and bias,
    the two gates' weights and biases, the decay parameters. -/
structure Data where
  x : Fin 6 → ℕ → Fin 1024 → EReal
  cw : Fin 4 → Fin 1024 → EReal
  cb : Fin 1024 → EReal
  wr : Fin 2 → Fin 8 → Fin 128 → Fin 128 → EReal
  wi : Fin 2 → Fin 8 → Fin 128 → Fin 128 → EReal
  br : Fin 2 → Fin 1024 → EReal
  bi : Fin 2 → Fin 1024 → EReal
  lam : Fin 2 → Fin 1024 → EReal

/-- The operands read off the argument arrays. -/
def Data.of (x : (⟨3, ![6, 8192, 1024]⟩ : Shape).Idx → EReal) (cw : (⟨2, ![4, 1024]⟩ : Shape).Idx → EReal) (cb : (⟨1, ![1024]⟩ : Shape).Idx → EReal)
    (wr : (⟨4, ![2, 8, 128, 128]⟩ : Shape).Idx → EReal) (br : (⟨2, ![2, 1024]⟩ : Shape).Idx → EReal)
    (wi : (⟨4, ![2, 8, 128, 128]⟩ : Shape).Idx → EReal) (bi lam : (⟨2, ![2, 1024]⟩ : Shape).Idx → EReal) : Data where
  x b T l := if h : T < 8192 then x (ix3 b ⟨T, h⟩ l) else 0
  cw k l := cw (ix2 k l)
  cb l := cb (ix1 l)
  wr d n k j := wr (ix4 d n k j)
  wi d n k j := wi (ix4 d n k j)
  br d l := br (ix2 d l)
  bi d l := bi (ix2 d l)
  lam d l := lam (ix2 d l)

namespace Data
variable (D : Data)

/-- The convolution at a row: two rows back, one row ahead, zero beyond the ends. -/
def conv (b : Fin 6) (T : ℕ) (l : Fin 1024) : EReal :=
  D.cb l + (if 2 ≤ T then D.x b (T - 2) l else 0) * D.cw 0 l + (if 1 ≤ T then D.x b (T - 1) l else 0) * D.cw 1 l
    + D.x b T l * D.cw 2 l + D.x b (T + 1) l * D.cw 3 l

/-- The row a direction's step is at. -/
def stepRow (d : Fin 2) (T : ℕ) : ℕ := match d with | 0 => T | 1 => 8191 - T

/-- A step's decay factor … -/
def fac (d : Fin 2) (b : Fin 6) (l : Fin 1024) (T : ℕ) : EReal :=
  aS (D.wr d) (D.br d) (D.lam d) (D.conv b (stepRow d T)) (blkOf l) (laneOf l)
/-- … and its input term. -/
def term (d : Fin 2) (b : Fin 6) (l : Fin 1024) (T : ℕ) : EReal :=
  bS (D.fac d b l T) (D.wi d) (D.bi d) (D.conv b (stepRow d T)) (blkOf l) (laneOf l)

/-- The state after `T` steps, from zero. -/
def state (d : Fin 2) (b : Fin 6) (l : Fin 1024) (T : ℕ) : EReal := aff (D.fac d b l) (D.term d b l) 0 T 0

/-- Further steps from a state. -/
theorem state_add (d : Fin 2) (b : Fin 6) (l : Fin 1024) (T k : ℕ) :
    D.state d b l (T + k) = aff (D.fac d b l) (D.term d b l) T k (D.state d b l T) := by
  unfold state
  rw [aff_add _ _ 0 T 0 k, Nat.zero_add]

end Data

end Cert.Recur

end
-- ==== Proof.Lru.Point.lean ====
/- One point of the recurrence's launch: the coefficients its two tiles give, and what its run leaves in the two outputs and in
   the carried rows — at each row the composition of the steps so far, applied to the rows carried in. -/
module

public import proofs.«01_k».proof.Proof.Lru.Coef
public import proofs.«01_k».proof.Proof.Lru.LoopValue
public import proofs.«01_k».proof.Proof.Lru.Whole

@[expose] public section

set_option maxRecDepth 16384

noncomputable section

namespace Cert.KernelIdeal.Lru

open Cert.KernelIdeal Cert.KernelIdeal.Gen Cert.Recur
open Idealize.ShloMosaic Idealize.ShloMosaic.TcCoe Idealize.ShloMosaic.ValueIdx
open Idealize.SL Idealize.SL.Sem

/-! ## A tile's coefficients -/

/-- Step `t` of a tile is at row `t` in the forward direction and at row `511 - t` in reverse. -/
def rowAt (d : Fin 2) (t : ℕ) (h : t < 512) : Fin 512 := match d with | 0 => ⟨t, h⟩ | 1 => ⟨511 - t, by omega⟩

/-- A tile's decay factors, by direction, column and step … -/
def tileA (xc : Fin 2 → FVec Ideal S512x1024 .f32) (wr : Vec Ideal S2x8x128x128 .bf16) (br lam : Vec Ideal S2x1024 .f32) (d : Fin 2) (l : Fin 1024) (t : ℕ) : EReal :=
  if h : t < 512 then aS (wOf wr d) (rowOf br d) (rowOf lam d) (lineOf (xc d) (rowAt d t h)) (blkOf l) (laneOf l) else 0
/-- … and its input terms. -/
def tileB (xc : Fin 2 → FVec Ideal S512x1024 .f32) (wr wi : Vec Ideal S2x8x128x128 .bf16) (br bi lam : Vec Ideal S2x1024 .f32) (d : Fin 2) (l : Fin 1024) (t : ℕ) : EReal :=
  if h : t < 512 then bS (tileA xc wr br lam d l t) (wOf wi d) (rowOf bi d) (lineOf (xc d) (rowAt d t h)) (blkOf l) (laneOf l) else 0

section
variable (xc : Fin 2 → FVec Ideal S512x1024 .f32) (wr wi : Vec Ideal S2x8x128x128 .bf16) (br bi lam : Vec Ideal S2x1024 .f32)

theorem blkA_apply (d : Fin 2) (n : Fin 8) (g : Fin 64) (s : Fin 8) (j : Fin 128) :
    blkA d n (xc d) wr br lam (ix3 g s j) = aS (wOf wr d) (rowOf br d) (rowOf lam d) (lineOf (xc d) ⟨8 * g.val + s.val, by omega⟩) n j := by
  unfold blkA
  rw [groups_apply, coefA_apply]

theorem blkB_apply (d : Fin 2) (n : Fin 8) (g : Fin 64) (s : Fin 8) (j : Fin 128) :
    blkB d n (xc d) wr wi br bi lam (ix3 g s j) = bS (blkA d n (xc d) wr br lam (ix3 g s j)) (wOf wi d) (rowOf bi d) (lineOf (xc d) ⟨8 * g.val + s.val, by omega⟩) n j := by
  unfold blkB blkA
  rw [groups_apply, groups_apply, coefB_apply]

/-- Step `t` of a tile within its group. -/
theorem tileA_eq (d : Fin 2) (n : Fin 8) (j : Fin 128) (g : Fin 64) (s : Fin 8) (t : ℕ) (h : t < 512) (hr : (rowAt d t h).val = 8 * g.val + s.val) :
    tileA xc wr br lam d (col n j) t = blkA d n (xc d) wr br lam (ix3 g s j) := by
  rw [blkA_apply, tileA, dif_pos h, blkOf_col, laneOf_col, show rowAt d t h = ⟨8 * g.val + s.val, by omega⟩ from Fin.ext hr]

theorem tileB_eq (d : Fin 2) (n : Fin 8) (j : Fin 128) (g : Fin 64) (s : Fin 8) (t : ℕ) (h : t < 512) (hr : (rowAt d t h).val = 8 * g.val + s.val) :
    tileB xc wr wi br bi lam d (col n j) t = blkB d n (xc d) wr wi br bi lam (ix3 g s j) := by
  rw [blkB_apply, tileB, dif_pos h, tileA_eq xc wr br lam d n j g s t h hr, blkOf_col, laneOf_col, show rowAt d t h = ⟨8 * g.val + s.val, by omega⟩ from Fin.ext hr]

/-- The factors' blocks after the doubling rounds … -/
def fillA (d : Fin 2) (n : Fin 8) : FVec Ideal S64x8x128 .f32 := match d with
  | 0 => scanAF (blkA 0 n (xc 0) wr br lam)
  | 1 => scanAR (blkA 1 n (xc 1) wr br lam)
/-- … and the terms'. -/
def fillB (d : Fin 2) (n : Fin 8) : FVec Ideal S64x8x128 .f32 := match d with
  | 0 => scanBF (blkA 0 n (xc 0) wr br lam) (blkB 0 n (xc 0) wr wi br bi lam)
  | 1 => scanBR (blkA 1 n (xc 1) wr br lam) (blkB 1 n (xc 1) wr wi br bi lam)

theorem blkA_tame (d : Fin 2) (n : Fin 8) (g : Fin 64) (j : Fin 128) (s : Fin 8) : Tame (blkA d n (xc d) wr br lam (ix3 g s j)) := by
  rw [blkA_apply]
  exact aS_tame _ _ _ _ _ _

/-- The two scratches compose the tile's steps within each group. -/
theorem composes : Composes (filled (fillA xc wr br lam)) (filled (fillB xc wr wi br bi lam)) (tileA xc wr br lam) (tileB xc wr wi br bi lam) where
  fwd l k s x := by
    rw [← col_blk_lane l]
    generalize blkOf l = n
    generalize laneOf l = j
    have e1 : (⟨(8 * k.val + s.val) / 8, by omega⟩ : Fin 64) = k := Fin.ext (by show _ / 8 = _; omega)
    have e2 : (⟨(8 * k.val + s.val) % 8, by omega⟩ : Fin 8) = s := Fin.ext (by show _ % 8 = _; omega)
    have hA := filled_ix3 (fillA xc wr br lam) 0 ⟨8 * k.val + s.val, by omega⟩ n j
    have hB := filled_ix3 (fillB xc wr wi br bi lam) 0 ⟨8 * k.val + s.val, by omega⟩ n j
    simp only [e1, e2] at hA hB
    rw [hA, hB]
    refine (scan_fwd _ _ k j (blkA_tame xc wr br lam 0 n k j) s x).trans (aff_congr x _ (fun t ht => ?_) (fun t ht => ?_))
    · rw [Nat.zero_add, colOf_lt _ _ _ (show t < 8 by omega)]
      exact (tileA_eq xc wr br lam 0 n j k ⟨t, by omega⟩ (8 * k.val + t) (by omega) rfl).symm
    · rw [Nat.zero_add, colOf_lt _ _ _ (show t < 8 by omega)]
      exact (tileB_eq xc wr wi br bi lam 0 n j k ⟨t, by omega⟩ (8 * k.val + t) (by omega) rfl).symm
  rev l k s x := by
    rw [← col_blk_lane l]
    generalize blkOf l = n
    generalize laneOf l = j
    have e1 : (⟨(504 - 8 * k.val + s.val) / 8, by omega⟩ : Fin 64) = ⟨63 - k.val, by omega⟩ := Fin.ext (by show _ / 8 = 63 - k.val; omega)
    have e2 : (⟨(504 - 8 * k.val + s.val) % 8, by omega⟩ : Fin 8) = s := Fin.ext (by show _ % 8 = _; omega)
    have hA := filled_ix3 (fillA xc wr br lam) 1 ⟨504 - 8 * k.val + s.val, by omega⟩ n j
    have hB := filled_ix3 (fillB xc wr wi br bi lam) 1 ⟨504 - 8 * k.val + s.val, by omega⟩ n j
    simp only [e1, e2] at hA hB
    rw [hA, hB]
    refine (scan_rev _ _ ⟨63 - k.val, by omega⟩ j (blkA_tame xc wr br lam 1 n ⟨63 - k.val, by omega⟩ j) s x).trans (aff_congr x _ (fun t ht => ?_) (fun t ht => ?_))
    · rw [Nat.zero_add, revOf_lt _ _ _ (show t < 8 by omega)]
      exact (tileA_eq xc wr br lam 1 n j ⟨63 - k.val, by omega⟩ ⟨7 - t, by omega⟩ (8 * k.val + t) (by omega) (by show 511 - (8 * k.val + t) = 8 * (63 - k.val) + (7 - t); omega)).symm
    · rw [Nat.zero_add, revOf_lt _ _ _ (show t < 8 by omega)]
      exact (tileB_eq xc wr wi br bi lam 1 n j ⟨63 - k.val, by omega⟩ ⟨7 - t, by omega⟩ (8 * k.val + t) (by omega) (by show 511 - (8 * k.val + t) = 8 * (63 - k.val) + (7 - t); omega)).symm

end

theorem inb_half (d : Fin 2) : ∀ a, (![d.val, 0, 0] : Fin 3 → Nat) a + S1x8x1024.size a ≤ S2x8x1024.size a :=
  fun a => by fin_cases a <;> simp [Shape.size] <;> omega

/-- A direction's half of the carried rows. -/
abbrev halfRect (d : Fin 2) : Rect S2x8x1024 := Rect.unit ![d.val, 0, 0] S1x8x1024.size (inb_half d)

theorem mem_half (d : Fin 2) (s : Fin 8) (l : Fin 1024) : (ix3 d s l : S2x8x1024.Idx) ∈ (halfRect d).set :=
  (Rect.mem_set_unit (inb := inb_half d)).mpr fun a => by
    fin_cases a
    · exact ⟨le_refl _, Nat.lt_succ_self _⟩
    · exact ⟨Nat.zero_le _, (Nat.zero_add 8).symm ▸ s.isLt⟩
    · exact ⟨Nat.zero_le _, (Nat.zero_add 1024).symm ▸ l.isLt⟩

theorem half_emb (d : Fin 2) (s : Fin 8) (l : Fin 1024) : (halfRect d).emb (ix3 (0 : Fin 1) s l : S1x8x1024.Idx) = (ix3 d s l : S2x8x1024.Idx) :=
  funext fun a => Fin.ext ((Rect.idx_unit_val _ _ _ _ a).trans (by
    fin_cases a
    · rfl
    · exact Nat.zero_add _
    · exact Nat.zero_add _))

theorem mem_all (y : S2x8x1024.Idx) : y ∈ (Rect.unit (s := S2x8x1024) ![0, 0, 0] S2x8x1024.size Facts₀.inb_S2x8x1024_S2x8x1024_0_0_0).set :=
  (Rect.mem_set_unit (inb := Facts₀.inb_S2x8x1024_S2x8x1024_0_0_0)).mpr fun a => by
    rw [zero3]
    exact ⟨Nat.zero_le _, (Nat.zero_add _).symm ▸ (y a).isLt⟩

/-- The carried rows after the reset. -/
theorem read_reset (m : Memref sig .tc .vmem S2x8x1024 .f32) (f : BufTy.Contents (Elt Ideal) m.view.ty) (y : S2x8x1024.Idx) :
    m.view.read (Elt Ideal) (m.view.writes (Elt Ideal) f [⟨Rect.unit (s := S2x8x1024) ![0, 0, 0] S2x8x1024.size Facts₀.inb_S2x8x1024_S2x8x1024_0_0_0, k0_pay11 (F := Ideal)⟩]) y = (0 : EReal) := by
  refine (View.read_writes_apply_eq_canon _ _ _ _ ⟨_, List.mem_singleton_self _, mem_all y⟩).trans ((congrFun (View.canon_unit_zero zero3 _ _) y).trans ?_)
  unfold k0_pay11
  exact Ideal.ofBits_zero_f32

/-- The two stores of the carried rows, read back. -/
theorem carried_eq (m : Memref sig .tc .vmem S2x8x1024 .f32) (f : BufTy.Contents (Elt Ideal) m.view.ty) (P0 P1 : FVec Ideal S8x1024 .f32) (v : Fin 2 → Fin 1024 → EReal)
    (h0 : ∀ s l, P0 (ix2 s l) = v 0 l) (h1 : ∀ s l, P1 (ix2 s l) = v 1 l) :
    m.view.read (Elt Ideal) (m.view.writes (Elt Ideal) f [⟨halfRect 1, k0_pay10 P1⟩, ⟨halfRect 0, k0_pay9 P0⟩]) = fun y => v (y 0) (y 2) := funext fun y => by
  obtain ⟨d, s, l, rfl⟩ : ∃ (d : Fin 2) (s : Fin 8) (l : Fin 1024), y = ix3 d s l := ⟨y 0, y 1, y 2, eq_ix3 (n0 := 2) (n1 := 8) (n2 := 1024) y⟩
  have hc : ∃ p ∈ ([⟨halfRect 1, k0_pay10 P1⟩, ⟨halfRect 0, k0_pay9 P0⟩] : List (View.Piece (Elt Ideal) S2x8x1024 .f32)), (ix3 d s l : S2x8x1024.Idx) ∈ p.1.set := by
    match d with
    | 0 => exact ⟨_, List.mem_cons_of_mem _ List.mem_cons_self, mem_half 0 s l⟩
    | 1 => exact ⟨_, List.mem_cons_self, mem_half 1 s l⟩
  have half : ∀ (d : Fin 2) (P : FVec Ideal S8x1024 .f32) (w : Vec Ideal S1x8x1024 .f32) (hw : w = shapeCast S1x8x1024 P Facts₀.shapeCasts_S8x1024_S1x8x1024)
      (h : ∀ s l, P (ix2 s l) = v d l) (x : S1x8x1024.Idx), w x = v ((halfRect d).emb x 0) ((halfRect d).emb x 2) := fun d P w hw h x => by
    obtain ⟨x0, s, l, rfl⟩ : ∃ (x0 : Fin 1) (s : Fin 8) (l : Fin 1024), x = ix3 x0 s l := ⟨x 0, x 1, x 2, eq_ix3 (n0 := 1) (n1 := 8) (n2 := 1024) x⟩
    obtain rfl : x0 = 0 := Fin.ext (by omega)
    rw [hw, half_emb]
    exact (uncast8_apply P s l).trans (h s l)
  rw [View.read_writes_apply_eq_canon _ _ _ _ hc]
  refine View.canon_apply_of_pieces (fun y => v (y 0) (y 2)) _ (fun p hp => ?_) _ hc
  rcases List.mem_cons.mp hp with rfl | hp
  · exact half 1 P1 _ rfl h1
  · obtain rfl := List.mem_singleton.mp hp
    exact half 0 P0 _ rfl h0

/-- A point's two convolved tiles. -/
def convs (i : grid0.Coords) (x0 : Vec Ideal S1x512x1024 .f32) (x1 x2 : Vec Ideal S1x8x1024 .f32) (x3 : Vec Ideal S1x512x1024 .f32) (x4 x5 : Vec Ideal S1x8x1024 .f32) (x6 : Vec Ideal S4x1024 .f32) (x7 : Vec Ideal S1x1024 .f32) :
    Fin 2 → FVec Ideal S512x1024 .f32 := fun | 0 => convF i x0 x1 x2 x6 x7 | 1 => convR i x3 x4 x5 x6 x7

/-! ## The run's results -/

section
variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x8x128x128 .bf16) (harg11 : arg11.IsWhole) (arg12 : Memref sig .tc .vmem S2x1024 .f32) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S2x512x1024 .f32) (harg17 : arg17.IsWhole) (arg18 : Memref sig .tc .vmem S2x512x1024 .f32) (harg18 : arg18.IsWhole) (arg19 : Memref sig .tc .vmem S2x8x1024 .f32) (harg19 : arg19.IsWhole)
  (x0 : Vec Ideal S1x512x1024 .f32) (x1 : Vec Ideal S1x8x1024 .f32) (x2 : Vec Ideal S1x8x1024 .f32) (x3 : Vec Ideal S1x512x1024 .f32) (x4 : Vec Ideal S1x8x1024 .f32) (x5 : Vec Ideal S1x8x1024 .f32) (x6 : Vec Ideal S4x1024 .f32) (x7 : Vec Ideal S1x1024 .f32) (x8 : Vec Ideal S2x8x128x128 .bf16) (x9 : Vec Ideal S2x8x128x128 .bf16) (x10 : Vec Ideal S2x1024 .f32) (x11 : Vec Ideal S2x1024 .f32) (x12 : Vec Ideal S2x1024 .f32) (xs2 : Vec Ideal S2x8x1024 .f32)

/-- The first scratch as the loop finds it. -/
theorem read_factors (f : BufTy.Contents (Elt Ideal) arg17.view.ty) :
    arg17.view.read (Elt Ideal) (arg17.view.writes (Elt Ideal) f (lruRun.sl.HS0_16 c i arg2 harg2 arg3 harg3 arg4 harg4 arg5 harg5 arg6 harg6 arg7 harg7 arg8 harg8 arg9 harg9 arg10 harg10 arg12 harg12 arg14 harg14 x0 x1 x2 x3 x4 x5 x6 x7 x8 x10 x12)) = filled (fillA (convs i x0 x1 x2 x3 x4 x5 x6 x7) x8 x10 x12) := by
  rw [factors_eq]
  exact filled_eq arg17 f _ _ _ (fun _ => rfl) (fun _ => rfl)

/-- The second. -/
theorem read_terms (f : BufTy.Contents (Elt Ideal) arg18.view.ty) :
    arg18.view.read (Elt Ideal) (arg18.view.writes (Elt Ideal) f (lruRun.sl.HS1_16 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)) = filled (fillB (convs i x0 x1 x2 x3 x4 x5 x6 x7) x8 x9 x10 x11 x12) := by
  rw [terms_eq]
  exact filled_eq arg18 f _ _ _ (fun _ => rfl) (fun _ => rfl)

/-- The carried rows a point starts from: zero at a sequence's first tile, else what the point before left, the eight rows of a
    direction alike. -/
def Starts (c0 : Fin 2 → Fin 1024 → EReal) : Prop :=
  (lruRun.sl.v2 i = 1#1 ∧ ∀ d l, c0 d l = 0) ∨ (lruRun.sl.v2 i ≠ 1#1 ∧ ∀ d s l, xs2 (ix3 d s l) = c0 d l)

variable {c0 : Fin 2 → Fin 1024 → EReal} (hc0 : Starts i xs2 c0)
include hc0

theorem start1 (s : Fin 8) (l : Fin 1024) : k0_pay1 (lruRun.sl.v1208 c i arg19 harg19 xs2) (ix2 s l) = c0 0 l := by
  unfold k0_pay1
  refine (cast8_apply _ s l).trans ?_
  unfold lruRun.sl.v1208
  show View.ld (arg19.view.read (Elt Ideal) _) (Rect.unit ![0, 0, 0] S1x8x1024.size _) (ix3 (0 : Fin 1) s l) = c0 0 l
  rw [View.ld_unit_apply_of _ _ _ _ _ (ix3 0 s l : S2x8x1024.Idx) (fun a => by fin_cases a <;> simp)]
  rcases hc0 with ⟨h, h0⟩ | ⟨h, h0⟩
  · rw [dif_pos h]
    exact (read_reset arg19 _ _).trans (h0 0 l).symm
  · rw [dif_neg h, harg19.read_unread]
    exact h0 0 s l

theorem start2 (s : Fin 8) (l : Fin 1024) : k0_pay2 (lruRun.sl.v1210 c i arg19 harg19 xs2) (ix2 s l) = c0 1 l := by
  unfold k0_pay2
  refine (cast8_apply _ s l).trans ?_
  unfold lruRun.sl.v1210
  show View.ld (arg19.view.read (Elt Ideal) _) (Rect.unit ![1, 0, 0] S1x8x1024.size _) (ix3 (0 : Fin 1) s l) = c0 1 l
  rw [View.ld_unit_apply_of _ _ _ _ _ (ix3 1 s l : S2x8x1024.Idx) (fun a => by fin_cases a <;> simp)]
  rcases hc0 with ⟨h, h0⟩ | ⟨h, h0⟩
  · rw [dif_pos h]
    exact (read_reset arg19 _ _).trans (h0 1 l).symm
  · rw [dif_neg h, harg19.read_unread]
    exact h0 1 s l

/-- The forward output. -/
theorem read_out13 (f : BufTy.Contents (Elt Ideal) arg15.view.ty) :
    arg15.view.read (Elt Ideal) (arg15.view.writes (Elt Ideal) f (lruRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 xs2).1)
      = fun y => aff (tileA (convs i x0 x1 x2 x3 x4 x5 x6 x7) x8 x10 x12 0 (y 2)) (tileB (convs i x0 x1 x2 x3 x4 x5 x6 x7) x8 x9 x10 x11 x12 0 (y 2)) 0 ((y 1).val + 1) (c0 0 (y 2)) := by
  have h := fun X17 X18 init => (state_eq (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 init k0_t1_loop.trips (le_refl _)).2.1
  refine outF_eq (composes (convs i x0 x1 x2 x3 x4 x5 x6 x7) x8 x9 x10 x11 x12) (init := (k0_pay1 (lruRun.sl.v1208 c i arg19 harg19 xs2), k0_pay2 (lruRun.sl.v1210 c i arg19 harg19 xs2)))
    (start1 c i arg19 harg19 xs2 hc0) (start2 c i arg19 harg19 xs2 hc0) arg15 f _ ?_
  intro p
  rw [← read_factors c i arg2 harg2 arg3 harg3 arg4 harg4 arg5 harg5 arg6 harg6 arg7 harg7 arg8 harg8 arg9 harg9 arg10 harg10 arg12 harg12 arg14 harg14 arg17 x0 x1 x2 x3 x4 x5 x6 x7 x8 x10 x12 arg17.view.junk, ← read_terms c i arg2 harg2 arg3 harg3 arg4 harg4 arg5 harg5 arg6 harg6 arg7 harg7 arg8 harg8 arg9 harg9 arg10 harg10 arg11 harg11 arg12 harg12 arg13 harg13 arg14 harg14 arg18 x0 x1 x2 x3 x4 x5 x6 x7 x8 x9 x10 x11 x12 arg18.view.junk]
  exact h _ _ _ p

/-- The reverse output. -/
theorem read_out14 (f : BufTy.Contents (Elt Ideal) arg16.view.ty) :
    arg16.view.read (Elt Ideal) (arg16.view.writes (Elt Ideal) f (lruRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 xs2).2.1)
      = fun y => aff (tileA (convs i x0 x1 x2 x3 x4 x5 x6 x7) x8 x10 x12 1 (y 2)) (tileB (convs i x0 x1 x2 x3 x4 x5 x6 x7) x8 x9 x10 x11 x12 1 (y 2)) 0 (512 - (y 1).val) (c0 1 (y 2)) := by
  have h := fun X17 X18 init => (state_eq (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 init k0_t1_loop.trips (le_refl _)).2.2
  refine outR_eq (composes (convs i x0 x1 x2 x3 x4 x5 x6 x7) x8 x9 x10 x11 x12) (init := (k0_pay1 (lruRun.sl.v1208 c i arg19 harg19 xs2), k0_pay2 (lruRun.sl.v1210 c i arg19 harg19 xs2)))
    (start1 c i arg19 harg19 xs2 hc0) (start2 c i arg19 harg19 xs2 hc0) arg16 f _ ?_
  intro p
  rw [← read_factors c i arg2 harg2 arg3 harg3 arg4 harg4 arg5 harg5 arg6 harg6 arg7 harg7 arg8 harg8 arg9 harg9 arg10 harg10 arg12 harg12 arg14 harg14 arg17 x0 x1 x2 x3 x4 x5 x6 x7 x8 x10 x12 arg17.view.junk, ← read_terms c i arg2 harg2 arg3 harg3 arg4 harg4 arg5 harg5 arg6 harg6 arg7 harg7 arg8 harg8 arg9 harg9 arg10 harg10 arg11 harg11 arg12 harg12 arg13 harg13 arg14 harg14 arg18 x0 x1 x2 x3 x4 x5 x6 x7 x8 x9 x10 x11 x12 arg18.view.junk]
  exact h _ _ _ p

/-- The carried rows. -/
theorem read_carry (f : BufTy.Contents (Elt Ideal) arg19.view.ty) :
    arg19.view.read (Elt Ideal) (arg19.view.writes (Elt Ideal) f (lruRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 xs2).2.2.1)
      = fun y => aff (tileA (convs i x0 x1 x2 x3 x4 x5 x6 x7) x8 x10 x12 (y 0) (y 2)) (tileB (convs i x0 x1 x2 x3 x4 x5 x6 x7) x8 x9 x10 x11 x12 (y 0) (y 2)) 0 512 (c0 (y 0) (y 2)) := by
  have h := fun X17 X18 init => (state_eq (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X17 X18 init k0_t1_loop.trips (le_refl _)).1
  have hc := carry_eq (composes (convs i x0 x1 x2 x3 x4 x5 x6 x7) x8 x9 x10 x11 x12) (init := (k0_pay1 (lruRun.sl.v1208 c i arg19 harg19 xs2), k0_pay2 (lruRun.sl.v1210 c i arg19 harg19 xs2)))
    (start1 c i arg19 harg19 xs2 hc0) (start2 c i arg19 harg19 xs2 hc0) k0_t1_loop.trips trips_eq.le
  rw [← read_factors c i arg2 harg2 arg3 harg3 arg4 harg4 arg5 harg5 arg6 harg6 arg7 harg7 arg8 harg8 arg9 harg9 arg10 harg10 arg12 harg12 arg14 harg14 arg17 x0 x1 x2 x3 x4 x5 x6 x7 x8 x10 x12 arg17.view.junk, ← read_terms c i arg2 harg2 arg3 harg3 arg4 harg4 arg5 harg5 arg6 harg6 arg7 harg7 arg8 harg8 arg9 harg9 arg10 harg10 arg11 harg11 arg12 harg12 arg13 harg13 arg14 harg14 arg18 x0 x1 x2 x3 x4 x5 x6 x7 x8 x9 x10 x11 x12 arg18.view.junk, ← h, trips_eq] at hc
  refine carried_eq arg19 f _ _ (fun d l => aff (tileA (convs i x0 x1 x2 x3 x4 x5 x6 x7) x8 x10 x12 d l) (tileB (convs i x0 x1 x2 x3 x4 x5 x6 x7) x8 x9 x10 x11 x12 d l) 0 512 (c0 d l)) ?_ ?_
  · intro s l
    exact (hc s l).1
  · intro s l
    exact (hc s l).2

end

end Cert.KernelIdeal.Lru

end
-- ==== Proof.Lru.Blocks.lean ====
/- What a grid point's windows hold, at coordinates, and the point's tile coefficients as the whole sequence's at its steps. -/
module

public import proofs.«01_k».proof.Proof.Lru.Point
public import Idealize.ShloMosaic.Lib.Pipeline.ValueKit.Geometry

@[expose] public section

set_option maxRecDepth 16384

noncomputable section

namespace Cert.KernelIdeal.Lru

open Cert.KernelIdeal Cert.KernelIdeal.Gen Cert.Recur
open Idealize.ShloMosaic Idealize.ShloMosaic.TcCoe Idealize.ShloMosaic.ValueIdx
open Idealize.SL Idealize.SL.Sem

variable (m : (ℓ : Loc nD τ sig) → Buf (Elt Ideal) ℓ)

/-- The operands as launched. -/
def dataK (c : Dev nD) : Data :=
  Data.of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The sequence a point is in … -/
def seqOf (t : Fin cfg0.N) : Fin 6 := ⟨t.val / 16, by have : t.val < 96 := N_0 ▸ t.isLt; omega⟩
/-- … and the place of its forward tile there. -/
def tileOf (t : Fin cfg0.N) : ℕ := t.val % 16

theorem tileOf_lt (t : Fin cfg0.N) : tileOf t < 16 := Nat.mod_lt _ (by decide)

theorem index_0 : ∀ t : Fin cfg0.N, win0_0.index t = ![t.val / 16, t.val % 16, 0] := (by decide +kernel : ∀ t : Fin grid0.N, _)
theorem index_1 : ∀ t : Fin cfg0.N, win0_1.index t = ![t.val / 16, 64 * (t.val % 16) - 1, 0] := (by decide +kernel : ∀ t : Fin grid0.N, _)
theorem index_2 : ∀ t : Fin cfg0.N, win0_2.index t = ![t.val / 16, min (64 * (t.val % 16 + 1)) 1023, 0] := (by decide +kernel : ∀ t : Fin grid0.N, _)
theorem index_3 : ∀ t : Fin cfg0.N, win0_3.index t = ![t.val / 16, 15 - t.val % 16, 0] := (by decide +kernel : ∀ t : Fin grid0.N, _)
theorem index_4 : ∀ t : Fin cfg0.N, win0_4.index t = ![t.val / 16, 64 * (15 - t.val % 16) - 1, 0] := (by decide +kernel : ∀ t : Fin grid0.N, _)
theorem index_5 : ∀ t : Fin cfg0.N, win0_5.index t = ![t.val / 16, min (64 * (16 - t.val % 16)) 1023, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0, 0, 0] := (by decide +kernel : ∀ t : Fin grid0.N, _)
theorem index_9 : ∀ t : Fin cfg0.N, win0_9.index t = ![0, 0, 0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)

/-- The input's rows by number. -/
theorem data_x (c : Dev nD) (b : Fin 6) (T : ℕ) (h : T < 8192) (l : Fin 1024) : (dataK m c).x b T l = m ((c : Thread nD τ).loc main_arg0) (ix3 b ⟨T, h⟩ l) := dif_pos h
theorem data_x_end (c : Dev nD) (b : Fin 6) (T : ℕ) (h : 8192 ≤ T) (l : Fin 1024) : (dataK m c).x b T l = 0 := dif_neg (by omega)

theorem iblk_0 (c : Dev nD) (t : Fin cfg0.N) (r : Fin 512) (l : Fin 1024) :
    iblk m c 0 t (ix3 (0 : Fin 1) r l : S1x512x1024.Idx) = (dataK m c).x (seqOf t) (512 * tileOf t + r.val) l := by
  have ht := tileOf_lt t
  have ht' : t.val % 16 < 16 := ht
  unfold tileOf at *
  rw [data_x m c _ _ (by omega), ← V_main_arg0 m c]
  blk_simp [iblk]
  congr 1
  blk_ext [index_0, seqOf]
  change _ + r.val = _
  omega

theorem iblk_1 (c : Dev nD) (t : Fin cfg0.N) (r : Fin 8) (l : Fin 1024) (h : tileOf t ≠ 0) :
    iblk m c 1 t (ix3 (0 : Fin 1) r l : S1x8x1024.Idx) = (dataK m c).x (seqOf t) (512 * tileOf t - 8 + r.val) l := by
  have ht := tileOf_lt t
  have ht' : t.val % 16 < 16 := ht
  unfold tileOf at *
  rw [data_x m c _ _ (by omega), ← V_main_arg0 m c]
  blk_simp [iblk]
  congr 1
  blk_ext [index_1, seqOf]
  change _ + r.val = _
  omega

theorem iblk_2 (c : Dev nD) (t : Fin cfg0.N) (r : Fin 8) (l : Fin 1024) (h : tileOf t ≠ 15) :
    iblk m c 2 t (ix3 (0 : Fin 1) r l : S1x8x1024.Idx) = (dataK m c).x (seqOf t) (512 * (tileOf t + 1) + r.val) l := by
  have ht := tileOf_lt t
  have ht' : t.val % 16 < 16 := ht
  unfold tileOf at *
  rw [data_x m c _ _ (by omega), ← V_main_arg0 m c]
  blk_simp [iblk]
  congr 1
  blk_ext [index_2, seqOf]
  change _ + r.val = _
  omega

theorem iblk_3 (c : Dev nD) (t : Fin cfg0.N) (r : Fin 512) (l : Fin 1024) :
    iblk m c 3 t (ix3 (0 : Fin 1) r l : S1x512x1024.Idx) = (dataK m c).x (seqOf t) (512 * (15 - tileOf t) + r.val) l := by
  have ht := tileOf_lt t
  have ht' : t.val % 16 < 16 := ht
  unfold tileOf at *
  rw [data_x m c _ _ (by omega), ← V_main_arg0 m c]
  blk_simp [iblk]
  congr 1
  blk_ext [index_3, seqOf]
  change _ + r.val = _
  omega

theorem iblk_4 (c : Dev nD) (t : Fin cfg0.N) (r : Fin 8) (l : Fin 1024) (h : 15 - tileOf t ≠ 0) :
    iblk m c 4 t (ix3 (0 : Fin 1) r l : S1x8x1024.Idx) = (dataK m c).x (seqOf t) (512 * (15 - tileOf t) - 8 + r.val) l := by
  have ht := tileOf_lt t
  have ht' : t.val % 16 < 16 := ht
  unfold tileOf at *
  rw [data_x m c _ _ (by omega), ← V_main_arg0 m c]
  blk_simp [iblk]
  congr 1
  blk_ext [index_4, seqOf]
  change _ + r.val = _
  omega

theorem iblk_5 (c : Dev nD) (t : Fin cfg0.N) (r : Fin 8) (l : Fin 1024) (h : 15 - tileOf t ≠ 15) :
    iblk m c 5 t (ix3 (0 : Fin 1) r l : S1x8x1024.Idx) = (dataK m c).x (seqOf t) (512 * (15 - tileOf t + 1) + r.val) l := by
  have ht := tileOf_lt t
  have ht' : t.val % 16 < 16 := ht
  unfold tileOf at *
  rw [data_x m c _ _ (by omega), ← V_main_arg0 m c]
  blk_simp [iblk]
  congr 1
  blk_ext [index_5, seqOf]
  change _ + r.val = _
  omega

theorem V_main_v0 (c : Dev nD) : V m c main_v0 = broadcastInDim S1x1024 ![1] Facts₀.bcast_S1024_S1x1024_1 (m ((c : Thread nD τ).loc main_arg2) : FVec Ideal S1024 .f32) := by
  show StableHlo.after hostOps0 _ (Proc.devRef .tc main_v0) = _
  after_results
theorem V_main_v1 (c : Dev nD) : V m c main_v1 = m ((c : Thread nD τ).loc main_arg3) := by
  show StableHlo.after hostOps0 _ (Proc.devRef .tc main_v1) = _
  after_results
  rfl
theorem V_main_v2 (c : Dev nD) : V m c main_v2 = m ((c : Thread nD τ).loc main_arg5) := by
  show StableHlo.after hostOps0 _ (Proc.devRef .tc main_v2) = _
  after_results
  rfl

theorem iblk_6 (c : Dev nD) (t : Fin cfg0.N) (k : Fin 4) (l : Fin 1024) : iblk m c 6 t (ix2 k l : S4x1024.Idx) = (dataK m c).cw k l := by
  show _ = (m ((c : Thread nD τ).loc main_arg1)) (ix2 k l)
  rw [← V_main_arg1 m c]
  blk_simp [iblk]
  congr 1
  blk_ext [index_6]

theorem iblk_7 (c : Dev nD) (t : Fin cfg0.N) (l : Fin 1024) : iblk m c 7 t (ix2 (0 : Fin 1) l : S1x1024.Idx) = (dataK m c).cb l := by
  have e : V m c main_v0 (ix2 (0 : Fin 1) l : S1x1024.Idx) = (m ((c : Thread nD τ).loc main_arg2)) (ix1 l) := by
    rw [V_main_v0]
    exact broadcastInDim_apply _ _ _ _ _ (fun a => by fin_cases a; rfl)
  refine Eq.trans ?_ e
  blk_simp [iblk]
  congr 1
  blk_ext [index_7]

theorem iblk_8 (c : Dev nD) (t : Fin cfg0.N) (d : Fin 2) (n : Fin 8) (k j : Fin 128) : iblk m c 8 t (ix4 d n k j : S2x8x128x128.Idx) = (dataK m c).wr d n k j := by
  refine Eq.trans ?_ (congrFun (V_main_v1 m c) (ix4 d n k j : S2x8x128x128.Idx))
  blk_simp [iblk]
  congr 1
  blk_ext [index_8]

theorem iblk_9 (c : Dev nD) (t : Fin cfg0.N) (d : Fin 2) (n : Fin 8) (k j : Fin 128) : iblk m c 9 t (ix4 d n k j : S2x8x128x128.Idx) = (dataK m c).wi d n k j := by
  refine Eq.trans ?_ (congrFun (V_main_v2 m c) (ix4 d n k j : S2x8x128x128.Idx))
  blk_simp [iblk]
  congr 1
  blk_ext [index_9]

theorem iblk_10 (c : Dev nD) (t : Fin cfg0.N) (d : Fin 2) (l : Fin 1024) : iblk m c 10 t (ix2 d l : S2x1024.Idx) = (dataK m c).br d l := by
  refine Eq.trans ?_ (congrFun (V_main_arg4 m c) (ix2 d l : S2x1024.Idx))
  blk_simp [iblk]
  congr 1
  blk_ext [index_10]

theorem iblk_11 (c : Dev nD) (t : Fin cfg0.N) (d : Fin 2) (l : Fin 1024) : iblk m c 11 t (ix2 d l : S2x1024.Idx) = (dataK m c).bi d l := by
  refine Eq.trans ?_ (congrFun (V_main_arg6 m c) (ix2 d l : S2x1024.Idx))
  blk_simp [iblk]
  congr 1
  blk_ext [index_11]

theorem iblk_12 (c : Dev nD) (t : Fin cfg0.N) (d : Fin 2) (l : Fin 1024) : iblk m c 12 t (ix2 d l : S2x1024.Idx) = (dataK m c).lam d l := by
  refine Eq.trans ?_ (congrFun (V_main_arg7 m c) (ix2 d l : S2x1024.Idx))
  blk_simp [iblk]
  congr 1
  blk_ext [index_12]

/-! ## The tiles' convolution -/

/-- A tile of the convolution is the sequence's, at the tile's rows. -/
theorem convTile_eq (c : Dev nD) (t : Fin cfg0.N) (q : ℕ) (hq : q < 16) (cw : Vec Ideal S4x1024 .f32) (cb : Vec Ideal S1x1024 .f32)
    (hcw : ∀ k l, cw (ix2 k l) = (dataK m c).cw k l) (hcb : ∀ l, cb (ix2 0 l) = (dataK m c).cb l)
    (x : FVec Ideal S512x1024 .f32) (before after : FVec Ideal S8x1024 .f32)
    (hx : ∀ r l, x (ix2 r l) = (dataK m c).x (seqOf t) (512 * q + r.val) l)
    (hbefore : ∀ r l, before (ix2 r l) = if q = 0 then 0 else (dataK m c).x (seqOf t) (512 * q - 8 + r.val) l)
    (hafter : ∀ r l, after (ix2 r l) = if q = 15 then 0 else (dataK m c).x (seqOf t) (512 * (q + 1) + r.val) l)
    (r : Fin 512) (l : Fin 1024) : convTile (F := Ideal) cw cb x before after (ix2 r l) = (dataK m c).conv (seqOf t) (512 * q + r.val) l := by
  rw [convTile_apply, Data.conv, hcb, hcw, hcw, hcw, hcw, hx]
  congr 1
  · congr 1
    congr 1
    · congr 2
      by_cases h : 2 ≤ r.val
      · rw [dif_pos h, hx, if_pos (by omega)]
        congr 1
        show 512 * q + (r.val - 2) = _
        omega
      · rw [dif_neg h, hbefore]
        by_cases hq0 : q = 0
        · rw [if_pos hq0, if_neg (by omega)]
        · rw [if_neg hq0, if_pos (by omega)]
          congr 1
          show 512 * q - 8 + (6 + r.val) = _
          omega
    · congr 1
      by_cases h : 1 ≤ r.val
      · rw [dif_pos h, hx, if_pos (by omega)]
        congr 1
        show 512 * q + (r.val - 1) = _
        omega
      · rw [dif_neg h, hbefore]
        by_cases hq0 : q = 0
        · rw [if_pos hq0, if_neg (by omega)]
        · rw [if_neg hq0, if_pos (by omega)]
          congr 1
          show 512 * q - 8 + 7 = _
          omega
  · congr 1
    by_cases h : r.val < 511
    · rw [dif_pos h, hx]
      congr 1
    · rw [dif_neg h, hafter]
      by_cases hq0 : q = 15
      · rw [if_pos hq0, data_x_end m c _ _ (by omega)]
      · rw [if_neg hq0]
        congr 1
        show 512 * (q + 1) + 0 = _
        omega

theorem first_F : ∀ t : Fin cfg0.N, (Scalar.cmpi .eq (BitVec.ofNat 32 (grid0.coords t 1).val) 0#32 = 1#1) ↔ t.val % 16 = 0 := (by decide +kernel : ∀ t : Fin grid0.N, _)
theorem last_F : ∀ t : Fin cfg0.N, (Scalar.cmpi .eq (BitVec.ofNat 32 (grid0.coords t 1).val) 15#32 = 1#1) ↔ t.val % 16 = 15 := (by decide +kernel : ∀ t : Fin grid0.N, _)
theorem first_R : ∀ t : Fin cfg0.N, (Scalar.cmpi .eq (Scalar.subi 15#32 (BitVec.ofNat 32 (grid0.coords t 1).val)) 0#32 = 1#1) ↔ 15 - t.val % 16 = 0 := (by decide +kernel : ∀ t : Fin grid0.N, _)
theorem last_R : ∀ t : Fin cfg0.N, (Scalar.cmpi .eq (Scalar.subi 15#32 (BitVec.ofNat 32 (grid0.coords t 1).val)) 15#32 = 1#1) ↔ 15 - t.val % 16 = 15 := (by decide +kernel : ∀ t : Fin grid0.N, _)
theorem reset_at : ∀ t : Fin cfg0.N, lruRun.sl.v2 (grid0.coords t) = 1#1 ↔ t.val % 16 = 0 := (by decide +kernel : ∀ t : Fin grid0.N, _)

theorem cast512_apply (v : Vec Ideal S1x512x1024 .f32) (r : Fin 512) (l : Fin 1024) :
    shapeCast S512x1024 v Facts₀.shapeCasts_S1x512x1024_S512x1024 (ix2 r l) = v (ix3 0 r l) :=
  shapeCast_apply v _ (ix2 r l) (ix3 0 r l) (by rw [Shape.rowMajor_val_two, Shape.rowMajor_val_three]; simp)

/-- A halo's rows: zero at a sequence's end. -/
theorem halo_eq (b : BitVec 1) (P : Prop) [Decidable P] (hb : b = 1#1 ↔ P) (v : Vec Ideal S1x8x1024 .f32) (X : Fin 8 → Fin 1024 → EReal) (hv : ¬ P → ∀ r l, v (ix3 0 r l) = X r l)
    (r : Fin 8) (l : Fin 1024) : halo (F := Ideal) b v (ix2 r l) = if P then 0 else X r l := by
  rw [halo_apply]
  by_cases h : P
  · rw [if_pos (hb.mpr h), if_pos h]
  · rw [if_neg (fun e => h (hb.mp e)), if_neg h, hv h]

/-- A point's two convolved tiles. -/
abbrev convsAt (c : Dev nD) (t : Fin cfg0.N) : Fin 2 → FVec Ideal S512x1024 .f32 :=
  convs (grid0.coords t) (iblk m c 0 t) (iblk m c 1 t) (iblk m c 2 t) (iblk m c 3 t) (iblk m c 4 t) (iblk m c 5 t) (iblk m c 6 t) (iblk m c 7 t)

theorem convsAt_eq (c : Dev nD) (t : Fin cfg0.N) (d : Fin 2) (s : ℕ) (hs : s < 512) (l : Fin 1024) :
    convsAt m c t d (ix2 (rowAt d s hs) l) = (dataK m c).conv (seqOf t) (Data.stepRow d (512 * tileOf t + s)) l := by
  have ht := tileOf_lt t
  match d with
  | 0 =>
    exact convTile_eq m c t (tileOf t) ht _ _ (iblk_6 m c t) (iblk_7 m c t) _ _ _ (fun r l => (cast512_apply _ r l).trans (iblk_0 m c t r l))
      (halo_eq _ _ (first_F t) _ _ fun h r l => iblk_1 m c t r l h) (halo_eq _ _ (last_F t) _ _ fun h r l => iblk_2 m c t r l h) ⟨s, hs⟩ l
  | 1 =>
    refine (convTile_eq m c t (15 - tileOf t) (by omega) _ _ (iblk_6 m c t) (iblk_7 m c t) _ _ _ (fun r l => (cast512_apply _ r l).trans (iblk_3 m c t r l))
      (halo_eq _ _ (first_R t) _ _ fun h r l => iblk_4 m c t r l h) (halo_eq _ _ (last_R t) _ _ fun h r l => iblk_5 m c t r l h) ⟨511 - s, by omega⟩ l).trans ?_
    congr 1
    show 512 * (15 - tileOf t) + (511 - s) = 8191 - (512 * tileOf t + s)
    omega

/-- A point's factors are the sequence's at its steps … -/
theorem tileA_at (c : Dev nD) (t : Fin cfg0.N) (d : Fin 2) (l : Fin 1024) (s : ℕ) (hs : s < 512) :
    tileA (convsAt m c t) (iblk m c 8 t) (iblk m c 10 t) (iblk m c 12 t) d l s = (dataK m c).fac d (seqOf t) l (512 * tileOf t + s) := by
  rw [tileA, dif_pos hs, Data.fac]
  congr 1
  · exact funext fun n => funext fun k => funext fun j => iblk_8 m c t d n k j
  · exact funext fun l => iblk_10 m c t d l
  · exact funext fun l => iblk_12 m c t d l
  · exact funext fun l => convsAt_eq m c t d s hs l

/-- … and so are its terms. -/
theorem tileB_at (c : Dev nD) (t : Fin cfg0.N) (d : Fin 2) (l : Fin 1024) (s : ℕ) (hs : s < 512) :
    tileB (convsAt m c t) (iblk m c 8 t) (iblk m c 9 t) (iblk m c 10 t) (iblk m c 11 t) (iblk m c 12 t) d l s = (dataK m c).term d (seqOf t) l (512 * tileOf t + s) := by
  rw [tileB, dif_pos hs, Data.term, tileA_at m c t d l s hs]
  congr 1
  · exact funext fun n => funext fun k => funext fun j => iblk_9 m c t d n k j
  · exact funext fun l => iblk_11 m c t d l
  · exact funext fun l => convsAt_eq m c t d s hs l

/-- Steps of a point's tile, from the state before it, are steps of the sequence. -/
theorem tile_steps (c : Dev nD) (t : Fin cfg0.N) (d : Fin 2) (l : Fin 1024) (k : ℕ) (hk : k ≤ 512) :
    aff (tileA (convsAt m c t) (iblk m c 8 t) (iblk m c 10 t) (iblk m c 12 t) d l) (tileB (convsAt m c t) (iblk m c 8 t) (iblk m c 9 t) (iblk m c 10 t) (iblk m c 11 t) (iblk m c 12 t) d l) 0 k
        ((dataK m c).state d (seqOf t) l (512 * tileOf t))
      = (dataK m c).state d (seqOf t) l (512 * tileOf t + k) := by
  rw [Data.state_add]
  refine aff_congr _ _ (fun s hs => ?_) (fun s hs => ?_)
  · rw [Nat.zero_add, tileA_at m c t d l s (by omega)]
  · rw [Nat.zero_add, tileB_at m c t d l s (by omega)]

end Cert.KernelIdeal.Lru

end
-- ==== Proof.Lru.Launch.lean ====
/- The launch of the recurrence over its grid: what each point leaves in the two outputs' blocks and in the carried rows, the
   pipeline run over the grid, and what the run leaves in memory. -/
module

public import proofs.«01_k».proof.Proof.Lru.Blocks
public import Idealize.ShloMosaic.Lib.Claim

@[expose] public section

set_option maxRecDepth 16384

noncomputable section

namespace Cert.KernelIdeal.Lru

open Cert.KernelIdeal Cert.KernelIdeal.Gen Cert.Recur
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The values -/

/-- The carried rows after a point: each direction's state after the point's last step. -/
def carryAt (c : Dev nD) (t : Fin cfg0.N) : Vec Ideal S2x8x1024 .f32 := fun y => (dataK m c).state (y 0) (seqOf t) (y 2) (512 * tileOf t + 512)
/-- The forward output's block at a point … -/
def fwdAt (c : Dev nD) (t : Fin cfg0.N) : Vec Ideal S1x512x1024 .f32 := fun y => (dataK m c).state 0 (seqOf t) (y 2) (512 * tileOf t + ((y 1).val + 1))
/-- … and the reverse output's. -/
def revAt (c : Dev nD) (t : Fin cfg0.N) : Vec Ideal S1x512x1024 .f32 := fun y => (dataK m c).state 1 (seqOf t) (y 2) (512 * tileOf t + (512 - (y 1).val))

/-- The states a point starts from. -/
def startAt (c : Dev nD) (t : Fin cfg0.N) (d : Fin 2) (l : Fin 1024) : EReal := (dataK m c).state d (seqOf t) l (512 * tileOf t)

/-- At a sequence's first tile they are zero, whatever the carried rows held. -/
theorem starts_first (c : Dev nD) (t : Fin cfg0.N) (h : t.val % 16 = 0) (xs : Vec Ideal S2x8x1024 .f32) : Starts (grid0.coords t) xs (startAt m c t) :=
  .inl ⟨(reset_at t).mpr h, fun d l => by
    unfold startAt tileOf
    rw [h]
    rfl⟩

/-- At another tile they are what the point before left. -/
theorem starts_next (c : Dev nD) (t : Fin cfg0.N) (h : t.val % 16 ≠ 0) (s : Fin cfg0.N) (hs : s.val = t.val - 1) : Starts (grid0.coords t) (carryAt m c s) (startAt m c t) :=
  .inr ⟨fun e => h ((reset_at t).mp e), fun d r l => by
    have e1 : seqOf s = seqOf t := Fin.ext (by show s.val / 16 = t.val / 16; omega)
    have e2 : 512 * tileOf s + 512 = 512 * tileOf t := by unfold tileOf; omega
    show (dataK m c).state d (seqOf s) l (512 * tileOf s + 512) = _
    rw [e1, e2]
    rfl⟩

/-! ## The proof data -/

abbrev ms0 (t : Fin cfg0.N) : Memref sig .tc .vmem S1x512x1024 .f32 := win0_0.stage (cfg0.slots t 0)
abbrev ms1 (t : Fin cfg0.N) : Memref sig .tc .vmem S1x8x1024 .f32 := win0_1.stage (cfg0.slots t 1)
abbrev ms2 (t : Fin cfg0.N) : Memref sig .tc .vmem S1x8x1024 .f32 := win0_2.stage (cfg0.slots t 2)
abbrev ms3 (t : Fin cfg0.N) : Memref sig .tc .vmem S1x512x1024 .f32 := win0_3.stage (cfg0.slots t 3)
abbrev ms4 (t : Fin cfg0.N) : Memref sig .tc .vmem S1x8x1024 .f32 := win0_4.stage (cfg0.slots t 4)
abbrev ms5 (t : Fin cfg0.N) : Memref sig .tc .vmem S1x8x1024 .f32 := win0_5.stage (cfg0.slots t 5)
abbrev ms6 (t : Fin cfg0.N) : Memref sig .tc .vmem S4x1024 .f32 := win0_6.stage (cfg0.slots t 6)
abbrev ms7 (t : Fin cfg0.N) : Memref sig .tc .vmem S1x1024 .f32 := win0_7.stage (cfg0.slots t 7)
abbrev ms8 (t : Fin cfg0.N) : Memref sig .tc .vmem S2x8x128x128 .bf16 := win0_8.stage (cfg0.slots t 8)
abbrev ms9 (t : Fin cfg0.N) : Memref sig .tc .vmem S2x8x128x128 .bf16 := win0_9.stage (cfg0.slots t 9)
abbrev ms10 (t : Fin cfg0.N) : Memref sig .tc .vmem S2x1024 .f32 := win0_10.stage (cfg0.slots t 10)
abbrev ms11 (t : Fin cfg0.N) : Memref sig .tc .vmem S2x1024 .f32 := win0_11.stage (cfg0.slots t 11)
abbrev ms12 (t : Fin cfg0.N) : Memref sig .tc .vmem S2x1024 .f32 := win0_12.stage (cfg0.slots t 12)
abbrev ms13 (t : Fin cfg0.N) : Memref sig .tc .vmem S1x512x1024 .f32 := win0_13.stage (cfg0.slots t 13)
abbrev ms14 (t : Fin cfg0.N) : Memref sig .tc .vmem S1x512x1024 .f32 := win0_14.stage (cfg0.slots t 14)

/-- The three scratches. -/
abbrev cell0 : Memref sig .tc .vmem S2x512x1024 .f32 := Memref.whole cc0_scratch0
abbrev cell1 : Memref sig .tc .vmem S2x512x1024 .f32 := Memref.whole cc0_scratch1
abbrev cell2 : Memref sig .tc .vmem S2x8x1024 .f32 := Memref.whole cc0_scratch2

/-- What the region is entered with, the scratches as owned references. -/
theorem enter_eq (c : Dev nD) :
    (Pipeline.ΦA spec0 c : sProp 𝕄) = iprop(iprop((∃ d, owns (c : Thread nD τ) cell0 fullShare d) ∗ (∃ d, owns (c : Thread nD τ) cell1 fullShare d) ∗ (∃ d, owns (c : Thread nD τ) cell2 fullShare d)) ∗ (∃ r, prngReg c r)) := by
  unfold Pipeline.ΦA
  rw [scopedRest0_eq]
  simp only [cell0, cell1, cell2, owns_whole]
  rfl

/-- The invariant between points: after a point the carried rows are known, the two coefficient scratches hold anything. -/
def inv (c : Dev nD) : (n : ℕ) → n ≤ cfg0.N → sProp 𝕄
  | 0, _ => Pipeline.ΦA spec0 c
  | n + 1, h => iprop(iprop((∃ d, owns (c : Thread nD τ) cell0 fullShare d) ∗ (∃ d, owns (c : Thread nD τ) cell1 fullShare d) ∗ owns (c : Thread nD τ) cell2 fullShare (carryAt m c ⟨n, h⟩)) ∗ (∃ r, prngReg c r))

/-- Before a point, whatever the point: carried rows a point may start from. -/
theorem inv_open (c : Dev nD) (t : Fin cfg0.N) : inv m c t.val t.isLt.le
    ⊢ iprop(∃ xs, iprop(⌜Starts (grid0.coords t) xs (startAt m c t)⌝ ∗ iprop(iprop((∃ d, owns (c : Thread nD τ) cell0 fullShare d) ∗ (∃ d, owns (c : Thread nD τ) cell1 fullShare d) ∗ owns (c : Thread nD τ) cell2 fullShare xs) ∗ (∃ r, prngReg c r)))) := by
  by_cases hz : t.val = 0
  · have e : inv m c t.val t.isLt.le = Pipeline.ΦA spec0 c := by
      obtain ⟨n, hn⟩ := t
      obtain rfl : n = 0 := hz
      rfl
    rw [e, enter_eq]
    iintro ⟨⟨H0, H1, ⟨%xs, H2⟩⟩, Hg⟩
    iexists xs
    isplitr
    · ipureintro
      exact starts_first m c t (by omega) xs
    isplitr [Hg]
    · isplitl [H0]; · iexact H0
      isplitl [H1]; · iexact H1
      iexact H2
    iexact Hg
  · have e : inv m c t.val t.isLt.le = iprop(iprop((∃ d, owns (c : Thread nD τ) cell0 fullShare d) ∗ (∃ d, owns (c : Thread nD τ) cell1 fullShare d) ∗ owns (c : Thread nD τ) cell2 fullShare (carryAt m c ⟨t.val - 1, by omega⟩)) ∗ (∃ r, prngReg c r)) := by
      obtain ⟨n, hn⟩ := Nat.exists_eq_succ_of_ne_zero hz
      obtain ⟨t, ht⟩ := t
      subst hn
      rfl
    rw [e]
    iintro ⟨⟨H0, H1, H2⟩, Hg⟩
    iexists carryAt m c ⟨t.val - 1, by omega⟩
    isplitr
    · ipureintro
      by_cases h : t.val % 16 = 0
      · exact starts_first m c t h _
      · exact starts_next m c t h _ rfl
    isplitr [Hg]
    · isplitl [H0]; · iexact H0
      isplitl [H1]; · iexact H1
      iexact H2
    iexact Hg

/-- The pipeline's proof data: the inputs' buffers keep their blocks, the outputs' get their values. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => fwdAt m c t
    | ⟨14, _⟩ => revAt m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = fwdAt m c t := by dsimp only [dats]
theorem after_14 (c : Dev nD) (t : Fin cfg0.N) : (dats m 0 c).after 14 t = revAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d

/-! ## A point -/

/-- A point's run on its staging buffers. -/
abbrev runAt (c : Dev nD) (t : Fin cfg0.N) (xs : Vec Ideal S2x8x1024 .f32) :=
  lruRun (F := Ideal) c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) cell0 (Memref.isWhole_whole _) cell1 (Memref.isWhole_whole _) cell2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs

section
variable (c : Dev nD) (t : Fin cfg0.N) {xs : Vec Ideal S2x8x1024 .f32} (hxs : Starts (grid0.coords t) xs (startAt m c t))
include hxs

theorem left_13 (f : BufTy.Contents (Elt Ideal) (ms13 t).view.ty) : (ms13 t).view.read (Elt Ideal) ((ms13 t).view.writes (Elt Ideal) f (runAt m c t xs).1) = fwdAt m c t :=
  (read_out13 c (grid0.coords t) _ _ _ _ _ _ _ _ _ _ _ _ _ _ _ _ _ _ _ _ _ _ _ _ _ _ _ _ _ _ _ _ _ _ _ _ _ _ _ _ _ _ _ _ _ _ _ _ _ _ hxs f).trans (funext fun y => tile_steps m c t 0 (y 2) _ (by
    have hy : (y 1).val < 512 := (y 1).isLt
    omega))

theorem left_14 (f : BufTy.Contents (Elt Ideal) (ms14 t).view.ty) : (ms14 t).view.read (Elt Ideal) ((ms14 t).view.writes (Elt Ideal) f (runAt m c t xs).2.1) = revAt m c t :=
  (read_out14 c (grid0.coords t) _ _ _ _ _ _ _ _ _ _ _ _ _ _ _ _ _ _ _ _ _ _ _ _ _ _ _ _ _ _ _ _ _ _ _ _ _ _ _ _ _ _ _ _ _ _ _ _ _ _ hxs f).trans (funext fun y => tile_steps m c t 1 (y 2) _ (Nat.sub_le _ _))

theorem left_carry (f : BufTy.Contents (Elt Ideal) cell2.view.ty) : cell2.view.read (Elt Ideal) (cell2.view.writes (Elt Ideal) f (runAt m c t xs).2.2.1) = carryAt m c t :=
  (read_carry c (grid0.coords t) _ _ _ _ _ _ _ _ _ _ _ _ _ _ _ _ _ _ _ _ _ _ _ _ _ _ _ _ _ _ _ _ _ _ _ _ _ _ _ _ _ _ _ _ _ _ _ _ _ _ hxs f).trans (funext fun y => tile_steps m c t (y 0) (y 2) 512 (le_refl _))

end

/-- A separating conjunction's left side may be weakened before what follows is shown. -/
theorem swap_left {P Q R S : sProp 𝕄} (h : P ⊢ Q) (g : iprop(Q ∗ R) ⊢ S) : iprop(P ∗ R) ⊢ S := (sep_mono_l h).trans g

/-- What the body is called with at a point … -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- … and what it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t))

set_option maxHeartbeats 3200000 in
/-- The body at any point. -/
theorem body_sound (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14]
  rw [show (dats m 0 c).Φ t.succ = iprop(iprop((∃ d, owns (c : Thread nD τ) cell0 fullShare d) ∗ (∃ d, owns (c : Thread nD τ) cell1 fullShare d) ∗ owns (c : Thread nD τ) cell2 fullShare (carryAt m c t)) ∗ (∃ r, prngReg c r)) from rfl,
    show (dats m 0 c).Φ t.castSucc = inv m c t.val t.isLt.le from rfl]
  refine swap_left (inv_open m c t) ?_
  iintro ⟨⟨%xs, %hxs, ⟨⟨S0, S1, S2⟩, Hg⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((runAt m c t xs).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [S0]; · iexact S0
  isplitl [S1]; · iexact S1
  isplitl [S2]; · iexact S2
  iintro ⟨H0, H1, H2, H3, H4, H5, H6, H7, H8, H9, H10, H11, H12, ⟨%e13, H13⟩, ⟨%e14, H14⟩, S0, S1, ⟨%e2, S2⟩⟩
  isplitl [S0 S1 S2 Hg]
  · isplitl [S0 S1 S2]
    · isplitl [S0]; · iexact S0
      isplitl [S1]; · iexact S1
      unfold owns
      iexists _
      isplitr
      swap; · iexact S2
      ipureintro
      exact left_carry m c t hxs _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns
    iexists _
    isplitr
    swap; · iexact H13
    ipureintro
    exact left_13 m c t hxs _
  unfold owns
  iexists _
  isplitr
  swap; · iexact H14
  ipureintro
  exact left_14 m c t hxs _

theorem obligation (c : Dev nD) : BodyObligation (dats m 0 c) (defs₀ (F := Ideal)) Variants.none () Set.univ := fun t => by
  rw [bigSep_W0, bigSep_W0, show defs₀ (F := Ideal) .tc cfg0.body (cfg0.bodyArgs t (cfg0.slots t)) = bodyAt0 t by unfold defs₀; rw [Defs.onTc_tc]]
  exact triple_restated (body_sound m c t) rfl .rfl fun _ => .rfl

theorem entered (c : Dev nD) : Pipeline.ΦA spec0 c ⊢ (dats m 0 c).Φ 0 := .rfl

theorem left (c : Dev nD) : (dats m 0 c).Φ (Fin.last cfg0.N) ⊢ Pipeline.ΦA spec0 c := by
  rw [show (dats m 0 c).Φ (Fin.last cfg0.N) = iprop(iprop((∃ d, owns (c : Thread nD τ) cell0 fullShare d) ∗ (∃ d, owns (c : Thread nD τ) cell1 fullShare d) ∗ owns (c : Thread nD τ) cell2 fullShare (carryAt m c ⟨95, by rw [show cfg0.N = 96 from N_0]; omega⟩)) ∗ (∃ r, prngReg c r)) from rfl, enter_eq]
  iintro ⟨⟨S0, S1, S2⟩, Hg⟩
  isplitl [S0 S1 S2]
  · isplitl [S0]; · iexact S0
    isplitl [S1]; · iexact S1
    iexists _; iexact S2
  iexact Hg

/-! ## The run -/

set_option backward.isDefEq.respectTransparency.types false in
/-- The launch: every array at its final contents, every counter at zero. -/
theorem launch : θ_run defs (onTc (τ := τ) (main (F := Ideal))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := entered m) (hout := left m)

end Cert.KernelIdeal.Lru

end
-- ==== Proof.Lru.Result.lean ====
/- What a run of the recurrence leaves: its arguments unchanged, and at each step the state of each direction. -/
module

public import proofs.«01_k».proof.Proof.Lru.Launch

@[expose] public section

set_option maxRecDepth 16384

noncomputable section

namespace Cert.KernelIdeal.Lru

open Cert.KernelIdeal Cert.KernelIdeal.Gen Cert.Recur
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The forward output: the state after the row's own step. -/
def fwdOf (c : Dev nD) : Vec Ideal S6x8192x1024 .f32 := fun y => (dataK m c).state 0 (y 0) (y 2) ((y 1).val + 1)

/-- The reverse output: the state after the steps down to the row. -/
def backOf (c : Dev nD) : Vec Ideal S6x8192x1024 .f32 := fun y => (dataK m c).state 1 (y 0) (y 2) (8192 - (y 1).val)

theorem index_13 : ∀ t : Fin cfg0.N, win0_13.index t = ![t.val / 16, t.val % 16, 0] := (by decide +kernel : ∀ t : Fin grid0.N, _)
theorem index_14 : ∀ t : Fin cfg0.N, win0_14.index t = ![t.val / 16, 15 - t.val % 16, 0] := (by decide +kernel : ∀ t : Fin grid0.N, _)

/-- Where an element of an output's block lies in the output. -/
theorem emb_13 (t : Fin cfg0.N) (r : Fin 512) (l : Fin 1024) : (win0_13.blk t).view.emb (ix3 (0 : Fin 1) r l : S1x512x1024.Idx)
    = (ix3 (seqOf t) ⟨512 * tileOf t + r.val, by have := tileOf_lt t; omega⟩ l : S6x8192x1024.Idx) := by
  have ht := tileOf_lt t
  unfold tileOf at *
  blk_ext [index_13, seqOf]
  change _ + r.val = _
  omega

theorem emb_14 (t : Fin cfg0.N) (r : Fin 512) (l : Fin 1024) : (win0_14.blk t).view.emb (ix3 (0 : Fin 1) r l : S1x512x1024.Idx)
    = (ix3 (seqOf t) ⟨512 * (15 - tileOf t) + r.val, by have := tileOf_lt t; omega⟩ l : S6x8192x1024.Idx) := by
  have ht := tileOf_lt t
  unfold tileOf at *
  blk_ext [index_14, seqOf]
  change _ + r.val = _
  omega

theorem array_13 (c : Dev nD) : (dats m 0 c).arrAt 13 cfg0.N = fwdOf m c :=
  (dats m 0 c).arrAt_eq_of_covers 13 (fwdOf m c) (by decide +kernel) fun t hf y => by
    blk_simp []
    rw [after_13]
    obtain ⟨z, r, l, rfl⟩ : ∃ z r l, y = ix3 z r l := ⟨_, _, _, eq_ix3 y⟩
    obtain rfl : z = 0 := Subsingleton.elim _ _
    rw [emb_13]
    show (dataK m c).state 0 (seqOf t) l (512 * tileOf t + (r.val + 1)) = (dataK m c).state 0 (seqOf t) l (512 * tileOf t + r.val + 1)
    rw [Nat.add_assoc]

theorem array_14 (c : Dev nD) : (dats m 0 c).arrAt 14 cfg0.N = backOf m c :=
  (dats m 0 c).arrAt_eq_of_covers 14 (backOf m c) (by decide +kernel) fun t hf y => by
    blk_simp []
    rw [after_14]
    obtain ⟨z, r, l, rfl⟩ : ∃ z r l, y = ix3 z r l := ⟨_, _, _, eq_ix3 y⟩
    obtain rfl : z = 0 := Subsingleton.elim _ _
    rw [emb_14]
    have e3 : 8192 - (512 * (15 - tileOf t) + r.val) = 512 * tileOf t + (512 - r.val) := by
      have := tileOf_lt t
      omega
    show (dataK m c).state 1 (seqOf t) l (512 * tileOf t + (512 - r.val)) = (dataK m c).state 1 (seqOf t) l (8192 - (512 * (15 - tileOf t) + r.val))
    rw [e3]

/-- The arguments end as they were. -/
theorem kept {r} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.in_eq c 5 rfl).trans ((A_eq m c 5).trans (V_main_arg0 m c)),
    (h.in_eq c 6 rfl).trans ((A_eq m c 6).trans (V_main_arg1 m c)),
    (h.rest_eq c main_arg2 (Pipeline.mem_restRefs_of main_arg2 (by decide) (by decide))).trans (V_main_arg2 m c),
    (h.rest_eq c main_arg3 (Pipeline.mem_restRefs_of main_arg3 (by decide) (by decide))).trans (V_main_arg3 m c),
    (h.in_eq c 10 rfl).trans ((A_eq m c 10).trans (V_main_arg4 m c)),
    (h.rest_eq c main_arg5 (Pipeline.mem_restRefs_of main_arg5 (by decide) (by decide))).trans (V_main_arg5 m c),
    (h.in_eq c 11 rfl).trans ((A_eq m c 11).trans (V_main_arg6 m c)),
    (h.in_eq c 12 rfl).trans ((A_eq m c 12).trans (V_main_arg7 m c))⟩

/-- The whole of what the run leaves. -/
theorem finished : θ_run defs (onTc (τ := τ) (main (F := Ideal))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v3_0) = fwdOf m c
      ∧ r.2.mem ((c.tc : Thread nD τ).loc main_v3_1) = backOf m c) ∧ r.2.sem = fun _ => 0) :=
  (θ_run defs _ _).mono (fun _ h => ⟨fun c => ⟨kept m h.1 c, (h.1.out_eq c 13).trans (array_13 m c), (h.1.out_eq c 14).trans (array_14 m c)⟩, h.2⟩) (launch m ρ)

end Cert.KernelIdeal.Lru

end
-- ==== Proof.Lru.WordRun.lean ====
/- The body of the recurrence's kernel as it is printed, run once at any float values: it ends, its thirteen inputs' staging
   buffers keep what they held, and its outputs and scratches hold something. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Lru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1120000 in
/-- One point of the launch, run on whole staging buffers: the inputs' at `x0 … x12`, all else at anything before and after.
    The first tile's reset is taken both ways. -/
theorem word_run (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x512x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S4x1024 .f32) (harg8 : arg8.IsWhole) (arg9 : Memref sig .tc .vmem S1x1024 .f32) (harg9 : arg9.IsWhole) (arg10 : Memref sig .tc .vmem S2x8x128x128 .bf16) (harg10 : arg10.IsWhole) (arg11 : Memref sig .tc .vmem S2x8x128x128 .bf16) (harg11 : arg11.IsWhole) (arg12 : Memref sig .tc .vmem S2x1024 .f32) (harg12 : arg12.IsWhole) (arg13 : Memref sig .tc .vmem S2x1024 .f32) (harg13 : arg13.IsWhole) (arg14 : Memref sig .tc .vmem S2x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S2x512x1024 .f32) (harg17 : arg17.IsWhole) (arg18 : Memref sig .tc .vmem S2x512x1024 .f32) (harg18 : arg18.IsWhole) (arg19 : Memref sig .tc .vmem S2x8x1024 .f32) (harg19 : arg19.IsWhole)
    (x0 : Vec F S1x512x1024 .f32) (x1 : Vec F S1x8x1024 .f32) (x2 : Vec F S1x8x1024 .f32) (x3 : Vec F S1x512x1024 .f32) (x4 : Vec F S1x8x1024 .f32) (x5 : Vec F S1x8x1024 .f32) (x6 : Vec F S4x1024 .f32) (x7 : Vec F S1x1024 .f32) (x8 : Vec F S2x8x128x128 .bf16) (x9 : Vec F S2x8x128x128 .bf16) (x10 : Vec F S2x1024 .f32) (x11 : Vec F S2x1024 .f32) (x12 : Vec F S2x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) E (cc0__lru_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__lru_kernel_eq_skeleton]; unfold cc0__lru_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%ds0, %fs0, -, HS0⟩, ⟨%ds1, %fs1, -, HS1⟩, ⟨%xs2, %fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg19.eq_unread hfs2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _, _; isplitr; swap; · iexact H13
    ipureintro; rfl
  isplitl [H14]
  · iexists _, _; isplitr; swap; · iexact H14
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.Kernel.Lru

end
-- ==== Proof.Lru.WordFrame.lean ====
/- The launch of the recurrence's kernel as it is printed, at any float values: it ends with the program's arguments as they
   were and every counter at zero. Of the two outputs and of the scratches nothing is said. -/
module

public import proofs.«01_k».proof.Proof.Lru.WordRun
public import Idealize.ShloMosaic.Lib.Claim

@[expose] public section

set_option maxRecDepth 16384

noncomputable section

namespace Cert.Kernel.Lru

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The two outputs' windows, of which nothing is said. -/
def silent : Fin 15 → Bool := fun w => w.val == 13 || w.val == 14

/-- The pipeline's proof data: the inputs' buffers keep their blocks, and between points the scratches hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d

/-! ## A point -/

abbrev ms0 (t : Fin cfg0.N) : Memref sig .tc .vmem S1x512x1024 .f32 := win0_0.stage (cfg0.slots t 0)
abbrev ms1 (t : Fin cfg0.N) : Memref sig .tc .vmem S1x8x1024 .f32 := win0_1.stage (cfg0.slots t 1)
abbrev ms2 (t : Fin cfg0.N) : Memref sig .tc .vmem S1x8x1024 .f32 := win0_2.stage (cfg0.slots t 2)
abbrev ms3 (t : Fin cfg0.N) : Memref sig .tc .vmem S1x512x1024 .f32 := win0_3.stage (cfg0.slots t 3)
abbrev ms4 (t : Fin cfg0.N) : Memref sig .tc .vmem S1x8x1024 .f32 := win0_4.stage (cfg0.slots t 4)
abbrev ms5 (t : Fin cfg0.N) : Memref sig .tc .vmem S1x8x1024 .f32 := win0_5.stage (cfg0.slots t 5)
abbrev ms6 (t : Fin cfg0.N) : Memref sig .tc .vmem S4x1024 .f32 := win0_6.stage (cfg0.slots t 6)
abbrev ms7 (t : Fin cfg0.N) : Memref sig .tc .vmem S1x1024 .f32 := win0_7.stage (cfg0.slots t 7)
abbrev ms8 (t : Fin cfg0.N) : Memref sig .tc .vmem S2x8x128x128 .bf16 := win0_8.stage (cfg0.slots t 8)
abbrev ms9 (t : Fin cfg0.N) : Memref sig .tc .vmem S2x8x128x128 .bf16 := win0_9.stage (cfg0.slots t 9)
abbrev ms10 (t : Fin cfg0.N) : Memref sig .tc .vmem S2x1024 .f32 := win0_10.stage (cfg0.slots t 10)
abbrev ms11 (t : Fin cfg0.N) : Memref sig .tc .vmem S2x1024 .f32 := win0_11.stage (cfg0.slots t 11)
abbrev ms12 (t : Fin cfg0.N) : Memref sig .tc .vmem S2x1024 .f32 := win0_12.stage (cfg0.slots t 12)
abbrev ms13 (t : Fin cfg0.N) : Memref sig .tc .vmem S1x512x1024 .f32 := win0_13.stage (cfg0.slots t 13)
abbrev ms14 (t : Fin cfg0.N) : Memref sig .tc .vmem S1x512x1024 .f32 := win0_14.stage (cfg0.slots t 14)

/-- The three scratches. -/
abbrev cell0 : Memref sig .tc .vmem S2x512x1024 .f32 := Memref.whole cc0_scratch0
abbrev cell1 : Memref sig .tc .vmem S2x512x1024 .f32 := Memref.whole cc0_scratch1
abbrev cell2 : Memref sig .tc .vmem S2x8x1024 .f32 := Memref.whole cc0_scratch2

/-- What holds between points, the scratches as owned references. -/
theorem between_eq (c : Dev nD) :
    (Pipeline.ΦA spec0 c : sProp 𝕄) = iprop(iprop((∃ d, owns (c : Thread nD τ) cell0 fullShare d) ∗ (∃ d, owns (c : Thread nD τ) cell1 fullShare d) ∗ (∃ d, owns (c : Thread nD τ) cell2 fullShare d)) ∗ (∃ r, prngReg c r)) := by
  unfold Pipeline.ΦA
  rw [scopedRest0_eq]
  simp only [cell0, cell1, cell2, owns_whole]
  rfl

/-- What the body is called with at a point … -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare d)
    ∗ (∃ d, owns (c : Thread nD τ) (ms14 t) fullShare d))

/-- … and what it returns. -/
def post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ (∃ d, owns (c : Thread nD τ) (ms13 t) fullShare d)
    ∗ (∃ d, owns (c : Thread nD τ) (ms14 t) fullShare d))

set_option maxHeartbeats 3200000 in
/-- The body at any point. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12,
    show (dats m 0 c).Φ t.succ = Pipeline.ΦA spec0 c from rfl, show (dats m 0 c).Φ t.castSucc = Pipeline.ΦA spec0 c from rfl, between_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14⟩
  iapply (word_run c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) cell0 (Memref.isWhole_whole _) cell1 (Memref.isWhole_whole _) cell2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  iintro ⟨H0, H1, H2, H3, H4, H5, H6, H7, H8, H9, H10, H11, H12, H13, H14, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem obligation (c : Dev nD) : BodyObligation (dats (F := F) m 0 c) (defs₀ (F := F)) Variants.none () Set.univ silent := fun t => by
  rw [bigSep_W0, bigSep_W0, show defs₀ (F := F) .tc cfg0.body (cfg0.bodyArgs t (cfg0.slots t)) = bodyAt0 t by unfold defs₀; rw [Defs.onTc_tc]]
  exact triple_restated (body_sound m c t) rfl .rfl fun _ => .rfl

/-! ## The run -/

set_option backward.isDefEq.respectTransparency.types false in
/-- The launch: every input's array as the region finds it, every counter at zero. -/
theorem launch : θ_run defs (onTc (τ := τ) (main (F := F))) (s₀ m ρ) (fun r => Pipeline.RDat.FramePost (cfgs 0) (fun c => (dats m 0 c).toRForget silent) (V m) r ∧ r.2.sem = fun _ => 0) :=
  Pipeline.θ_run_frame_track_forget_shared (Q' := _) cfgs (dats m) (0 : Fin 1) launch₀0 defs₀ Variants.none silent m ρ main
    (hbody := fun c => (obligation m c).loose) (hq := fun _ _ _ => rfl)
    (howed := fun _ _ => rfl) (V := V m) (hmain := hmain m Variants.none) (hA := A_eq m) (hin := fun _ => .rfl) (hout := fun _ => .rfl)

/-- The program's arguments end as they were, and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(Pipeline.RDat.FramePost.arr_in h.1 c 5 rfl).trans ((A_eq m c 5).trans (V_main_arg0 m c)),
      (Pipeline.RDat.FramePost.arr_in h.1 c 6 rfl).trans ((A_eq m c 6).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 10 rfl).trans ((A_eq m c 10).trans (V_main_arg4 m c)),
      ((h.1 c).2 main_arg5 (Pipeline.mem_restRefs_of main_arg5 (by decide) (by decide))).trans (V_main_arg5 m c),
      (Pipeline.RDat.FramePost.arr_in h.1 c 11 rfl).trans ((A_eq m c 11).trans (V_main_arg6 m c)),
      (Pipeline.RDat.FramePost.arr_in h.1 c 12 rfl).trans ((A_eq m c 12).trans (V_main_arg7 m c))⟩, h.2⟩) (launch m ρ)

end Cert.Kernel.Lru

end
-- ==== Proof.Ref.Stretch.lean ====
/- The reference's operations before its loop, a stretch at a time, read at an index: what a stretch leaves of the convolution,
   the gates, the decay factors and the input terms, from any contents before it. -/
module

public import proofs.«01_k».proof.Proof.Gen.ReferenceIdeal.Run
public import proofs.«01_k».proof.Proof.Lru.Whole
public import Idealize.ShloMosaic.Lib.StableHlo.ReadAt
public import Idealize.ShloMosaic.Lib.Pointwise
public import Idealize.ShloMosaic.Lib.IdealHost

@[expose] public section

set_option maxRecDepth 8192

noncomputable section

namespace Cert.ReferenceIdeal.Lru

open Cert.ReferenceIdeal Cert.ReferenceIdeal.Gen Cert.ReferenceIdeal.Value Cert.Recur
open Idealize.ShloMosaic Idealize.ShloMosaic.TcCoe Idealize.ShloMosaic.StableHlo

/-! ## Scalars -/

/-- The decay's logarithm: minus eight times a gate times a softplus. -/
def logA (r s : EReal) : EReal := ((-8 : ℝ) : EReal) * r * s

/-- The input term beside a decay's logarithm. -/
def termR (e i ξ : EReal) : EReal := Ideal.sqrt (max (-(Ideal.expm1 (((2 : ℝ) : EReal) * e))) 0) * (i * ξ)

theorem bits_two : Ideal.ofBits .f32 1073741824#32 = ((2 : ℝ) : EReal) := by
  simp [Ideal.ofBits, Ideal.ieee, -EReal.coe_mul]; norm_num

theorem bits_minus_eight : Ideal.ofBits .f32 3238002688#32 = ((-8 : ℝ) : EReal) := by
  simp [Ideal.ofBits, Ideal.ieee, -EReal.coe_mul, -EReal.coe_neg]; norm_num

/-- The softplus with a guard that never fires: a value is not unequal to itself. -/
theorem softplus_guarded (v : EReal) :
    (if -v ≠ -v then -v else max (-v) 0 + Ideal.log1p (Ideal.exp (-(max (-v) (-(-v))))) : EReal) = spS v := by
  rw [if_neg (not_not.mpr rfl), neg_neg, max_comm (-v) v]
  unfold spS
  rw [zero_sub, zero_sub]

/-- What is read of the arguments. -/
structure Holds (D : Data) (V : Valuation τ sig (Elt Ideal)) : Prop where
  cw : ∀ k l, V (Proc.devRef .tc main_arg1) (ix2 k l) = D.cw k l
  cb : ∀ l, V (Proc.devRef .tc main_arg2) (ix1 l) = D.cb l
  wr : ∀ d n k j, V (Proc.devRef .tc main_arg3) (ix4 d n k j) = D.wr d n k j
  br : ∀ d l, V (Proc.devRef .tc main_arg4) (ix2 d l) = D.br d l
  wi : ∀ d n k j, V (Proc.devRef .tc main_arg5) (ix4 d n k j) = D.wi d n k j
  bi : ∀ d l, V (Proc.devRef .tc main_arg6) (ix2 d l) = D.bi d l
  lam : ∀ d l, V (Proc.devRef .tc main_arg7) (ix2 d l) = D.lam d l

/-- What is read of the padded rows. -/
def Padded (D : Data) (V : Valuation τ sig (Elt Ideal)) : Prop :=
  ∀ (b : Fin 6) (T : Fin 8195) (l : Fin 1024), V (Proc.devRef .tc main_v0) (ix3 b T l) = if 2 ≤ T.val then D.x b (T.val - 2) l else 0

variable {D : Data} {V : Valuation τ sig (Elt Ideal)}

/-- A direction's gates at a row. -/
def rG (D : Data) (d : Fin 2) (b : Fin 6) (T : ℕ) (l : Fin 1024) : EReal := gateS (D.wr d) (D.br d) (D.conv b T) (blkOf l) (laneOf l)
def iG (D : Data) (d : Fin 2) (b : Fin 6) (T : ℕ) (l : Fin 1024) : EReal := gateS (D.wi d) (D.bi d) (D.conv b T) (blkOf l) (laneOf l)

theorem conv_eq (D : Data) (b : Fin 6) (T : ℕ) (l : Fin 1024) {c x0 x1 x2 x3 w0 w1 w2 w3 : EReal} (hc : c = D.cb l)
    (h0 : x0 = if 2 ≤ T then D.x b (T - 2) l else 0) (h1 : x1 = if 2 ≤ 1 + T then D.x b (1 + T - 2) l else 0)
    (h2 : x2 = if 2 ≤ 2 + T then D.x b (2 + T - 2) l else 0) (h3 : x3 = if 2 ≤ 3 + T then D.x b (3 + T - 2) l else 0)
    (k0 : w0 = D.cw 0 l) (k1 : w1 = D.cw 1 l) (k2 : w2 = D.cw 2 l) (k3 : w3 = D.cw 3 l) :
    c + x0 * w0 + x1 * w1 + x2 * w2 + x3 * w3 = D.conv b T l := by
  subst hc h0 h1 h2 h3 k0 k1 k2 k3
  unfold Data.conv
  rw [if_pos (show 2 ≤ 2 + T by omega), if_pos (show 2 ≤ 3 + T by omega), show 2 + T - 2 = T by omega, show 3 + T - 2 = T + 1 by omega,
    show 1 + T - 2 = T - 1 by omega]
  by_cases h : 1 ≤ T
  · rw [if_pos (show 2 ≤ 1 + T by omega), if_pos h]
  · rw [if_neg (show ¬ 2 ≤ 1 + T by omega), if_neg h]

theorem gate_eq (W : Fin 8 → Fin 128 → Fin 128 → EReal) (B : Fin 1024 → EReal) (ξ : Fin 1024 → EReal) (l : Fin 1024) (s : EReal)
    (hs : s = ∑ k : Fin 128, W (blkOf l) k (laneOf l) * ξ (col (blkOf l) k)) :
    Ideal.div 1 (1 + Ideal.exp (-(s + B l))) = gateS W B ξ (blkOf l) (laneOf l) := by
  unfold gateS Ideal.logistic
  rw [hs, col_blk_lane, Finset.sum_congr rfl fun k _ => mul_comm _ _]

theorem col_eq (l : Fin 1024) (k : Fin 128) (h) : (⟨l.val / 128 * 128 + k.val, h⟩ : Fin 1024) = col (blkOf l) k :=
  Fin.ext (by show l.val / 128 * 128 + k.val = 128 * (l.val / 128) + k.val; omega)

theorem conv_at (hH : Holds D V) (hP : Padded D V) (b : Fin 6) (T : Fin 8192) (l : Fin 1024) :
    after hostOps0_2 V (Proc.devRef .tc main_v30) (ix3 b T l) = D.conv b T.val l := by
  after_reads_at
  exact (conv_eq D b T.val _ (hH.cb _) (hP _ _ _) (hP _ _ _) (hP _ _ _) (hP _ _ _) (hH.cw _ _) (hH.cw _ _) (hH.cw _ _) (hH.cw _ _))

theorem convBlk_at (hH : Holds D V) (hP : Padded D V) (b : Fin 6) (T : Fin 8192) (n : Fin 8) (k : Fin 128) :
    after hostOps0_2 V (Proc.devRef .tc main_v31) (ix4 b T n k) = D.conv b T.val (col n k) := by
  after_reads_at
  exact (conv_eq D b T.val _ (hH.cb _) (hP _ _ _) (hP _ _ _) (hP _ _ _) (hP _ _ _) (hH.cw _ _) (hH.cw _ _) (hH.cw _ _) (hH.cw _ _)).trans (congrArg _ (Fin.ext (by show n.val * 128 + k.val = 128 * n.val + k.val; omega)))

/-- The stretch of the convolution and of the first direction's gates, cut behind the convolution. -/
theorem cut_gates (V : Valuation τ sig (Elt Ideal)) :
    after hostOps0_2 V = after (List.drop 31 hostOps0_2) (after (List.take 31 hostOps0_2) V) := rfl

theorem block_conv_at (hH : Holds D V) (hP : Padded D V) (b : Fin 6) (T : Fin 8192) (n : Fin 8) (k : Fin 128) :
    after (List.take 31 hostOps0_2) V (Proc.devRef .tc main_v31) (ix4 b T n k) = D.conv b T.val (col n k) := by
  simp only [hostOps0_2, List.take_succ_cons, List.take_zero]
  after_reads_at
  exact (conv_eq D b T.val _ (hH.cb _) (hP _ _ _) (hP _ _ _) (hP _ _ _) (hP _ _ _) (hH.cw _ _) (hH.cw _ _) (hH.cw _ _) (hH.cw _ _)).trans (congrArg _ (Fin.ext (by show n.val * 128 + k.val = 128 * n.val + k.val; omega)))

/-- Operations that write none of the arguments keep what is read of them. -/
theorem Holds.keep {W : List (Ref sig .tc)} (ops : List (HloOp τ sig (Elt Ideal)))
    (hW : ops.Forall fun op => op.writes ⊆ (W.map (Proc.devRef (τ := τ) .tc)).toFinset)
    (hr : ∀ r ∈ [main_arg1, main_arg2, main_arg3, main_arg4, main_arg5, main_arg6, main_arg7], r ∉ W) (hH : Holds D V) :
    Holds D (after ops V) := by
  have key (r) (h) := after_of_writes_sub ops V hW (hr r h)
  constructor <;> intros
  · rw [key main_arg1 (by simp), hH.cw]
  · rw [key main_arg2 (by simp), hH.cb]
  · rw [key main_arg3 (by simp), hH.wr]
  · rw [key main_arg4 (by simp), hH.br]
  · rw [key main_arg5 (by simp), hH.wi]
  · rw [key main_arg6 (by simp), hH.bi]
  · rw [key main_arg7 (by simp), hH.lam]

theorem holds_cut (hH : Holds D V) : Holds D (after (List.take 31 hostOps0_2) V) :=
  hH.keep _ (List.forall_iff_forall_mem.mpr fun op h => List.forall_iff_forall_mem.mp hostOps0_2_writes op (List.mem_of_mem_take h))
    (by decide +kernel)

theorem rgate_at (hH : Holds D V) (hP : Padded D V) (b : Fin 6) (T : Fin 8192) (l : Fin 1024) :
    after hostOps0_2 V (Proc.devRef .tc main_v65) (ix3 b T l) = (((-8 : ℝ) : EReal) * rG D 0 b T.val l : EReal) := by
  rw [cut_gates]
  have hx := block_conv_at hH hP
  have hH' := holds_cut hH
  generalize after (List.take 31 hostOps0_2) V = W at hx hH'
  simp only [hostOps0_2, List.drop_succ_cons, List.drop_zero]
  after_reads_at
  rw [bits_minus_eight, hH'.br]
  refine congrArg (((-8 : ℝ) : EReal) * ·) (gate_eq (D.wr 0) (D.br 0) (D.conv b T.val) l _ (Finset.sum_congr rfl fun k _ => ?_))
  rw [hx, hH'.wr]
  rfl

theorem igate_at (hH : Holds D V) (hP : Padded D V) (b : Fin 6) (T : Fin 8192) (l : Fin 1024) :
    after hostOps0_2 V (Proc.devRef .tc main_v63) (ix3 b T l) = iG D 0 b T.val l := by
  rw [cut_gates]
  have hx := block_conv_at hH hP
  have hH' := holds_cut hH
  generalize after (List.take 31 hostOps0_2) V = W at hx hH'
  simp only [hostOps0_2, List.drop_succ_cons, List.drop_zero]
  after_reads_at
  rw [hH'.bi]
  refine gate_eq (D.wi 0) (D.bi 0) (D.conv b T.val) l _ (Finset.sum_congr rfl fun k _ => ?_)
  rw [hx, hH'.wi]
  rfl

theorem decay0_at (hH : Holds D V) (l : Fin 1024) : after hostOps0_2 V (Proc.devRef .tc main_v68) (ix1 l) = (-(D.lam 0 l) : EReal) := by
  after_reads_at
  rw [hH.lam]

theorem soft0_at (h : ∀ l, V (Proc.devRef .tc main_v68) (ix1 l) = (-(D.lam 0 l) : EReal)) (l : Fin 1024) :
    after hostOps0_3 V (Proc.devRef .tc main_v69) (ix1 l) = spS (D.lam 0 l) := by
  after_reads_at
  rw [h]
  exact softplus_guarded _

theorem soft1_at (h : ∀ l, V (Proc.devRef .tc main_v121) (ix1 l) = (-(D.lam 1 l) : EReal)) (l : Fin 1024) :
    after hostOps0_5 V (Proc.devRef .tc main_v122) (ix1 l) = spS (D.lam 1 l) := by
  after_reads_at
  rw [h]
  exact softplus_guarded _

theorem fac0_at (hr : ∀ (b : Fin 6) (T : Fin 8192) (l : Fin 1024), V (Proc.devRef .tc main_v65) (ix3 b T l) = (((-8 : ℝ) : EReal) * rG D 0 b T.val l : EReal))
    (hs : ∀ l, V (Proc.devRef .tc main_v69) (ix1 l) = spS (D.lam 0 l)) (b : Fin 6) (T : Fin 8192) (l : Fin 1024) :
    after hostOps0_4 V (Proc.devRef .tc main_v83) (ix3 T b l) = Ideal.exp (logA (rG D 0 b T.val l) (spS (D.lam 0 l))) := by
  after_reads_at
  rw [hr, hs]
  rfl

theorem term0_at (hr : ∀ (b : Fin 6) (T : Fin 8192) (l : Fin 1024), V (Proc.devRef .tc main_v65) (ix3 b T l) = (((-8 : ℝ) : EReal) * rG D 0 b T.val l : EReal))
    (hs : ∀ l, V (Proc.devRef .tc main_v69) (ix1 l) = spS (D.lam 0 l))
    (hi : ∀ (b : Fin 6) (T : Fin 8192) (l : Fin 1024), V (Proc.devRef .tc main_v63) (ix3 b T l) = iG D 0 b T.val l)
    (hx : ∀ (b : Fin 6) (T : Fin 8192) (l : Fin 1024), V (Proc.devRef .tc main_v30) (ix3 b T l) = D.conv b T.val l) (b : Fin 6) (T : Fin 8192) (l : Fin 1024) :
    after hostOps0_4 V (Proc.devRef .tc main_v84) (ix3 T b l) = termR (logA (rG D 0 b T.val l) (spS (D.lam 0 l))) (iG D 0 b T.val l) (D.conv b T.val l) := by
  after_reads_at
  rw [hr, hs, hi, hx, bits_two]
  rfl

theorem rgate1_at (hH : Holds D V) (hx : ∀ b T n k, V (Proc.devRef .tc main_v31) (ix4 b T n k) = D.conv b T.val (col n k)) (b : Fin 6) (T : Fin 8192) (l : Fin 1024) :
    after hostOps0_4 V (Proc.devRef .tc main_v118) (ix3 b T l) = (((-8 : ℝ) : EReal) * rG D 1 b T.val l : EReal) := by
  after_reads_at
  rw [bits_minus_eight, hH.br]
  refine congrArg (((-8 : ℝ) : EReal) * ·) (gate_eq (D.wr 1) (D.br 1) (D.conv b T.val) l _ (Finset.sum_congr rfl fun k _ => ?_))
  rw [hx, hH.wr]
  rfl

theorem igate1_at (hH : Holds D V) (hx : ∀ b T n k, V (Proc.devRef .tc main_v31) (ix4 b T n k) = D.conv b T.val (col n k)) (b : Fin 6) (T : Fin 8192) (l : Fin 1024) :
    after hostOps0_4 V (Proc.devRef .tc main_v116) (ix3 b T l) = iG D 1 b T.val l := by
  after_reads_at
  rw [hH.bi]
  refine gate_eq (D.wi 1) (D.bi 1) (D.conv b T.val) l _ (Finset.sum_congr rfl fun k _ => ?_)
  rw [hx, hH.wi]
  rfl

theorem decay1_at (hH : Holds D V) (l : Fin 1024) : after hostOps0_4 V (Proc.devRef .tc main_v121) (ix1 l) = (-(D.lam 1 l) : EReal) := by
  after_reads_at
  rw [hH.lam]

theorem fac1_at (hr : ∀ (b : Fin 6) (T : Fin 8192) (l : Fin 1024), V (Proc.devRef .tc main_v118) (ix3 b T l) = (((-8 : ℝ) : EReal) * rG D 1 b T.val l : EReal))
    (hs : ∀ l, V (Proc.devRef .tc main_v122) (ix1 l) = spS (D.lam 1 l)) (b : Fin 6) (T : Fin 8192) (l : Fin 1024) :
    after hostOps0_6 V (Proc.devRef .tc main_v136) (ix3 T b l) = Ideal.exp (logA (rG D 1 b T.val l) (spS (D.lam 1 l))) := by
  after_reads_at
  rw [hr, hs]
  rfl

theorem term1_at (hr : ∀ (b : Fin 6) (T : Fin 8192) (l : Fin 1024), V (Proc.devRef .tc main_v118) (ix3 b T l) = (((-8 : ℝ) : EReal) * rG D 1 b T.val l : EReal))
    (hs : ∀ l, V (Proc.devRef .tc main_v122) (ix1 l) = spS (D.lam 1 l))
    (hi : ∀ (b : Fin 6) (T : Fin 8192) (l : Fin 1024), V (Proc.devRef .tc main_v116) (ix3 b T l) = iG D 1 b T.val l)
    (hx : ∀ (b : Fin 6) (T : Fin 8192) (l : Fin 1024), V (Proc.devRef .tc main_v30) (ix3 b T l) = D.conv b T.val l) (b : Fin 6) (T : Fin 8192) (l : Fin 1024) :
    after hostOps0_6 V (Proc.devRef .tc main_v137) (ix3 T b l) = termR (logA (rG D 1 b T.val l) (spS (D.lam 1 l))) (iG D 1 b T.val l) (D.conv b T.val l) := by
  after_reads_at
  rw [hr, hs, hi, hx, bits_two]
  rfl

theorem zero_at (b : Fin 6) (l : Fin 1024) : after hostOps0_6 V (Proc.devRef .tc main_v138) (ix2 b l) = (0 : EReal) := by
  after_reads_at

theorem flipA_at (T : Fin 8192) (b : Fin 6) (l : Fin 1024) : after hostOps0_7 V (Proc.devRef .tc main_v139) (ix3 T b l) = V (Proc.devRef .tc main_v136) (ix3 T.rev b l) := by
  after_reads_at
  rfl

theorem flipB_at (T : Fin 8192) (b : Fin 6) (l : Fin 1024) : after hostOps0_8 V (Proc.devRef .tc main_v140) (ix3 T b l) = V (Proc.devRef .tc main_v137) (ix3 T.rev b l) := by
  after_reads_at
  rfl

theorem pad_at (hx : ∀ (b : Fin 6) (T : Fin 8192) l, V (Proc.devRef .tc main_arg0) (ix3 b T l) = D.x b T.val l) (hz : ∀ b T l, 8192 ≤ T → D.x b T l = 0)
    (hc : V (Proc.devRef .tc main_c) = constantI S_ 32 0#32) : Padded D (after hostOps0_1 V) := by
  intro b T l
  after_reads_at
  rw [hc]
  by_cases h : 2 ≤ T.val
  · rw [if_pos h]
    by_cases h' : T.val - 2 < 8192
    · rw [dif_pos ⟨h, h'⟩]
      exact hx b ⟨T.val - 2, h'⟩ l
    · rw [dif_neg (fun e => h' e.2), hz b _ l (by omega)]
      show (((0#32 : BitVec 32).toInt : ℝ) : EReal) = 0
      simp
  · rw [if_neg h, dif_neg (fun e => h e.1)]
    show (((0#32 : BitVec 32).toInt : ℝ) : EReal) = 0
    simp

end Cert.ReferenceIdeal.Lru

end
-- ==== Proof.Ref.Entry.lean ====
/- What the reference's loop starts from: both directions' decay factors and input terms, time first and the backward
   direction's turned round, and two zero states. -/
module

public import proofs.«01_k».proof.Proof.Ref.Stretch

@[expose] public section

set_option maxRecDepth 8192

noncomputable section

namespace Cert.ReferenceIdeal.Lru

open Cert.ReferenceIdeal Cert.ReferenceIdeal.Gen Cert.ReferenceIdeal.Value Cert.Recur
open Idealize.ShloMosaic Idealize.ShloMosaic.TcCoe Idealize.ShloMosaic.StableHlo

/-! ## The two spellings of a coefficient -/

/-- A decay factor, as a power of e and as a power of two. -/
theorem factor_eq (D : Data) (d : Fin 2) (b : Fin 6) (T : ℕ) (l : Fin 1024) :
    Ideal.exp (logA (rG D d b T l) (spS (D.lam d l))) = aS (D.wr d) (D.br d) (D.lam d) (D.conv b T) (blkOf l) (laneOf l) := by
  unfold aS logA rG
  rw [col_blk_lane]
  obtain ⟨r, hr, e⟩ : ∃ r : ℝ, 0 ≤ r ∧ gateS (D.wr d) (D.br d) (D.conv b T) (blkOf l) (laneOf l) = (r : EReal) := logistic_range _
  rw [e, exp2_rate r hr]

/-- An input term, by the exponential less one and by one less a square. -/
theorem term_eq (D : Data) (d : Fin 2) (b : Fin 6) (T : ℕ) (l : Fin 1024) :
    termR (logA (rG D d b T l) (spS (D.lam d l))) (iG D d b T l) (D.conv b T l) =
      bS (aS (D.wr d) (D.br d) (D.lam d) (D.conv b T) (blkOf l) (laneOf l)) (D.wi d) (D.bi d) (D.conv b T) (blkOf l) (laneOf l) := by
  rw [← factor_eq]
  unfold bS termR logA rG iG
  rw [col_blk_lane]
  obtain ⟨r, hr, e⟩ : ∃ r : ℝ, 0 ≤ r ∧ gateS (D.wr d) (D.br d) (D.conv b T) (blkOf l) (laneOf l) = (r : EReal) := logistic_range _
  rw [e]
  obtain ⟨z, hz, hz0⟩ := exp_decay_range r hr (D.lam d l)
  rw [hz, one_sub_sq hz0]

/-! ## The stretches in a row -/

/-- What the loop starts from. -/
structure Entry (D : Data) (V : Valuation τ sig (Elt Ideal)) : Prop where
  fac0 : ∀ (T : Fin 8192) (b : Fin 6) (l : Fin 1024), V (Proc.devRef .tc main_v143_0) (ix3 T b l) = D.fac 0 b l T.val
  term0 : ∀ (T : Fin 8192) (b : Fin 6) (l : Fin 1024), V (Proc.devRef .tc main_v143_1) (ix3 T b l) = D.term 0 b l T.val
  fac1 : ∀ (T : Fin 8192) (b : Fin 6) (l : Fin 1024), V (Proc.devRef .tc main_v143_2) (ix3 T b l) = D.fac 1 b l T.val
  term1 : ∀ (T : Fin 8192) (b : Fin 6) (l : Fin 1024), V (Proc.devRef .tc main_v143_3) (ix3 T b l) = D.term 1 b l T.val
  zero0 : ∀ (b : Fin 6) (l : Fin 1024), V (Proc.devRef .tc main_v143_5) (ix2 b l) = (0 : EReal)
  zero1 : ∀ (b : Fin 6) (l : Fin 1024), V (Proc.devRef .tc main_v143_6) (ix2 b l) = (0 : EReal)

theorem rev_row (T : Fin 8192) : T.rev.val = 8191 - T.val := by rw [Fin.val_rev]; omega

theorem entry_of (D : Data) (V : Valuation τ sig (Elt Ideal)) (hH : Holds D V)
    (hx : ∀ (b : Fin 6) (T : Fin 8192) l, V (Proc.devRef .tc main_arg0) (ix3 b T l) = D.x b T.val l)
    (hz : ∀ b T l, 8192 ≤ T → D.x b T l = 0) :
    Entry D (after hostOps0_9 (after hostOps0_8 (after hostOps0_7 (after hostOps0_6 (after hostOps0_5 (after hostOps0_4 (after hostOps0_3
      (after hostOps0_2 (after hostOps0_1 (after hostOps0 V)))))))))) := by
  -- the padded rows
  have hH0 := hH.keep hostOps0 hostOps0_writes (by decide +kernel)
  have hx0 : ∀ (b : Fin 6) (T : Fin 8192) l, after hostOps0 V (Proc.devRef .tc main_arg0) (ix3 b T l) = D.x b T.val l := fun b T l => by
    rw [keep_main_arg0_hostOps0]; exact hx b T l
  have hc0 : after hostOps0 V (Proc.devRef .tc main_c) = constantI S_ 32 0#32 := by after_reads_simp
  generalize after hostOps0 V = V0 at *
  have hH1 := hH0.keep hostOps0_1 hostOps0_1_writes (by decide +kernel)
  have hP := pad_at hx0 hz hc0
  generalize after hostOps0_1 V0 = V1 at *
  -- the convolution, the first direction's gates
  have hH2 := hH1.keep hostOps0_2 hostOps0_2_writes (by decide +kernel)
  have c2 := conv_at hH1 hP
  have d2 := convBlk_at hH1 hP
  have r2 := rgate_at hH1 hP
  have i2 := igate_at hH1 hP
  have l2 := decay0_at hH1
  generalize after hostOps0_2 V1 = V2 at *
  have hH3 := hH2.keep hostOps0_3 hostOps0_3_writes (by decide +kernel)
  have s3 := soft0_at l2
  have k3 (r) (h : r ∉ hostOps0_3_W) := after_of_writes_sub hostOps0_3 V2 hostOps0_3_writes h
  rw [← k3 main_v30 (by decide +kernel)] at c2
  rw [← k3 main_v31 (by decide +kernel)] at d2
  rw [← k3 main_v65 (by decide +kernel)] at r2
  rw [← k3 main_v63 (by decide +kernel)] at i2
  clear k3 l2
  generalize after hostOps0_3 V2 = V3 at *
  -- its factors and terms, the second direction's gates
  have f4 := fac0_at r2 s3
  have t4 := term0_at r2 s3 i2 c2
  have r4 := rgate1_at hH3 d2
  have i4 := igate1_at hH3 d2
  have l4 := decay1_at hH3
  have k4 (r) (h : r ∉ hostOps0_4_W) := after_of_writes_sub hostOps0_4 V3 hostOps0_4_writes h
  rw [← k4 main_v30 (by decide +kernel)] at c2
  clear k4 r2 s3 i2 d2 hH3
  generalize after hostOps0_4 V3 = V4 at *
  have s5 := soft1_at l4
  have k5 (r) (h : r ∉ hostOps0_5_W) := after_of_writes_sub hostOps0_5 V4 hostOps0_5_writes h
  rw [← k5 main_v30 (by decide +kernel)] at c2
  rw [← k5 main_v83 (by decide +kernel)] at f4
  rw [← k5 main_v84 (by decide +kernel)] at t4
  rw [← k5 main_v118 (by decide +kernel)] at r4
  rw [← k5 main_v116 (by decide +kernel)] at i4
  clear k5 l4
  generalize after hostOps0_5 V4 = V5 at *
  -- its factors and terms, turned round
  have f6 := fac1_at r4 s5
  have t6 := term1_at r4 s5 i4 c2
  have z6 := zero_at (V := V5)
  have k6 (r) (h : r ∉ hostOps0_6_W) := after_of_writes_sub hostOps0_6 V5 hostOps0_6_writes h
  rw [← k6 main_v83 (by decide +kernel)] at f4
  rw [← k6 main_v84 (by decide +kernel)] at t4
  clear k6 r4 s5 i4 c2
  generalize after hostOps0_6 V5 = V6 at *
  have g7 := fun T b l => (flipA_at (V := V6) T b l).trans (f6 b T.rev l)
  have k7 (r) (h : r ∉ hostOps0_7_W) := after_of_writes_sub hostOps0_7 V6 hostOps0_7_writes h
  rw [← k7 main_v83 (by decide +kernel)] at f4
  rw [← k7 main_v84 (by decide +kernel)] at t4
  rw [← k7 main_v137 (by decide +kernel)] at t6
  rw [← k7 main_v138 (by decide +kernel)] at z6
  clear k7 f6
  generalize after hostOps0_7 V6 = V7 at *
  have u8 := fun T b l => (flipB_at (V := V7) T b l).trans (t6 b T.rev l)
  have k8 (r) (h : r ∉ hostOps0_8_W) := after_of_writes_sub hostOps0_8 V7 hostOps0_8_writes h
  rw [← k8 main_v83 (by decide +kernel)] at f4
  rw [← k8 main_v84 (by decide +kernel)] at t4
  rw [← k8 main_v139 (by decide +kernel)] at g7
  rw [← k8 main_v138 (by decide +kernel)] at z6
  clear k8 t6
  generalize after hostOps0_8 V7 = V8 at *
  constructor
  · intro T b l
    after_reads_at
    exact (f4 b T l).trans (factor_eq D 0 b T.val l)
  · intro T b l
    after_reads_at
    exact (t4 b T l).trans (term_eq D 0 b T.val l)
  · intro T b l
    after_reads_at
    exact (g7 T b l).trans (by rw [rev_row]; exact factor_eq D 1 b _ l)
  · intro T b l
    after_reads_at
    exact (u8 T b l).trans (by rw [rev_row]; exact term_eq D 1 b _ l)
  · intro b l
    after_reads_at
    exact z6 b l
  · intro b l
    after_reads_at
    exact z6 b l

end Cert.ReferenceIdeal.Lru

end
-- ==== Proof.Ref.Iterate.lean ====
/- The reference's loop: before every trip the states are the recurrences' own, and the rows that have been written hold the
   states behind them. -/
module

public import proofs.«01_k».proof.Proof.Ref.Entry

@[expose] public section

set_option maxRecDepth 8192

noncomputable section

namespace Cert.ReferenceIdeal.Lru

open Cert.ReferenceIdeal Cert.ReferenceIdeal.Gen Cert.ReferenceIdeal.Value Cert.Recur
open Idealize.ShloMosaic Idealize.ShloMosaic.TcCoe Idealize.ShloMosaic.StableHlo

/-- The counter's word at a trip. -/
theorem word_toInt {n : ℕ} (hn : n ≤ 8192) : (BitVec.ofNat 32 n).toInt = (n : ℤ) := by
  rw [BitVec.toInt_ofNat', Int.bmod_def]; omega

/-- Where a trip's row lies. -/
def rowStart (c : (⟨S_, .i32⟩ : BufTy).Contents (Elt Ideal)) : Fin 3 → ℤ := fun k =>
  (((![c, constantI S_ 32 0#32, constantI S_ 32 0#32] : Fin 3 → (⟨S_, .i32⟩ : BufTy).Contents (Elt Ideal))) k (Shape.Idx.first h_S_)).toInt

theorem start_row (n : ℕ) (hn : n < 8192) (ht) :
    Host.clampedStart S8192x6x1024 S1x6x1024 ht (rowStart fun _ => BitVec.ofNat 32 n) 0 = n :=
  Host.clampedStart_of_le _ _ _ n (word_toInt (by omega)) (by show n + 1 ≤ 8192; omega)
theorem start_seq (n : ℕ) (ht) : Host.clampedStart S8192x6x1024 S1x6x1024 ht (rowStart fun _ => BitVec.ofNat 32 n) 1 = 0 :=
  Host.clampedStart_of_le _ _ _ 0 (by show (0#32 : BitVec 32).toInt = ((0 : ℕ) : ℤ); decide) (by show 0 + 6 ≤ 6; omega)
theorem start_lane (n : ℕ) (ht) : Host.clampedStart S8192x6x1024 S1x6x1024 ht (rowStart fun _ => BitVec.ofNat 32 n) 2 = 0 :=
  Host.clampedStart_of_le _ _ _ 0 (by show (0#32 : BitVec 32).toInt = ((0 : ℕ) : ℤ); decide) (by show 0 + 1024 ≤ 1024; omega)

/-- A trip's row of an array of rows. -/
theorem row_at (x : S8192x6x1024.Idx → EReal) (n : ℕ) (hn : n < 8192) (c : (⟨S_, .i32⟩ : BufTy).Contents (Elt Ideal))
    (hc : c = fun _ => BitVec.ofNat 32 n) (b : Fin 6) (l : Fin 1024) :
    shapeCast S6x1024 (Host.dynamicSlice S1x6x1024 x (rowStart c) sliceFits_S8192x6x1024_S1x6x1024) shapeCasts_S1x6x1024_S6x1024 (ix2 b l)
      = x (ix3 ⟨n, hn⟩ b l) := by
  subst hc
  pointwise
  simp only [start_row n hn, start_seq, start_lane, Nat.zero_add]

/-- A row written into an array of rows. -/
theorem put_at (x : S8192x6x1024.Idx → EReal) (u : S6x1024.Idx → EReal) (n : ℕ) (hn : n < 8192) (c : (⟨S_, .i32⟩ : BufTy).Contents (Elt Ideal))
    (hc : c = fun _ => BitVec.ofNat 32 n) (T : Fin 8192) (b : Fin 6) (l : Fin 1024) :
    Host.dynamicUpdateSlice x (broadcastInDim S1x6x1024 ![1, 2] bcast_S6x1024_S1x6x1024_1_2 u) (rowStart c) updateFits_S8192x6x1024_S1x6x1024 (ix3 T b l)
      = if T.val = n then u (ix2 b l) else x (ix3 T b l) := by
  subst hc
  pointwise
  simp only [start_row n hn, start_seq, start_lane, Nat.sub_zero]
  split
  · rw [if_pos (by omega)]
  · rw [if_neg (by omega)]

/-- The loop's contents before trip `n`. -/
structure Before (D : Data) (n : ℕ) (V : Valuation τ sig (Elt Ideal)) : Prop where
  fac0 : ∀ (T : Fin 8192) (b : Fin 6) (l : Fin 1024), V (Proc.devRef .tc main_v143_0) (ix3 T b l) = D.fac 0 b l T.val
  term0 : ∀ (T : Fin 8192) (b : Fin 6) (l : Fin 1024), V (Proc.devRef .tc main_v143_1) (ix3 T b l) = D.term 0 b l T.val
  fac1 : ∀ (T : Fin 8192) (b : Fin 6) (l : Fin 1024), V (Proc.devRef .tc main_v143_2) (ix3 T b l) = D.fac 1 b l T.val
  term1 : ∀ (T : Fin 8192) (b : Fin 6) (l : Fin 1024), V (Proc.devRef .tc main_v143_3) (ix3 T b l) = D.term 1 b l T.val
  word : V (Proc.devRef .tc main_v143_4) = fun _ => BitVec.ofNat 32 n
  state0 : ∀ (b : Fin 6) (l : Fin 1024), V (Proc.devRef .tc main_v143_5) (ix2 b l) = D.state 0 b l n
  state1 : ∀ (b : Fin 6) (l : Fin 1024), V (Proc.devRef .tc main_v143_6) (ix2 b l) = D.state 1 b l n
  rows0 : ∀ (T : Fin 8192) (b : Fin 6) (l : Fin 1024), T.val < n → V (Proc.devRef .tc main_v143_7) (ix3 T b l) = D.state 0 b l (T.val + 1)
  rows1 : ∀ (T : Fin 8192) (b : Fin 6) (l : Fin 1024), T.val < n → V (Proc.devRef .tc main_v143_8) (ix3 T b l) = D.state 1 b l (T.val + 1)

variable {D : Data} {V : Valuation τ sig (Elt Ideal)}

/-- One more step of a state. -/
theorem state_succ (d : Fin 2) (b : Fin 6) (l : Fin 1024) (n : ℕ) :
    D.state d b l (n + 1) = D.fac d b l n * D.state d b l n + D.term d b l n := by
  unfold Data.state
  show D.fac d b l (0 + n) * aff (D.fac d b l) (D.term d b l) 0 n 0 + D.term d b l (0 + n) = _
  rw [Nat.zero_add]

theorem new0_at {n : ℕ} (hn : n < 8192) (h : Before D n V) (b : Fin 6) (l : Fin 1024) :
    res_main_while0b_v152 V (ix2 b l) = D.state 0 b l (n + 1) := by
  rw [state_succ, ← h.state0 b l]
  exact congrArg₂ (fun p q : EReal => p * (V (Proc.devRef .tc main_v143_5) (ix2 b l) : EReal) + q)
    ((row_at _ n hn _ h.word b l).trans (h.fac0 ⟨n, hn⟩ b l)) ((row_at _ n hn _ h.word b l).trans (h.term0 ⟨n, hn⟩ b l))

theorem new1_at {n : ℕ} (hn : n < 8192) (h : Before D n V) (b : Fin 6) (l : Fin 1024) :
    res_main_while0b_v154 V (ix2 b l) = D.state 1 b l (n + 1) := by
  rw [state_succ, ← h.state1 b l]
  exact congrArg₂ (fun p q : EReal => p * (V (Proc.devRef .tc main_v143_6) (ix2 b l) : EReal) + q)
    ((row_at _ n hn _ h.word b l).trans (h.fac1 ⟨n, hn⟩ b l)) ((row_at _ n hn _ h.word b l).trans (h.term1 ⟨n, hn⟩ b l))

/-- A trip. -/
theorem Before.step {n : ℕ} (hn : n < 8192) (h : Before D n V) : Before D (n + 1) (STEP V) where
  fac0 := by rw [STEP_main_v143_0]; exact h.fac0
  term0 := by rw [STEP_main_v143_1]; exact h.term0
  fac1 := by rw [STEP_main_v143_2]; exact h.fac1
  term1 := by rw [STEP_main_v143_3]; exact h.term1
  word := by
    rw [STEP_main_v143_4]
    funext i
    exact (congrArg (fun w : S_.Idx → BitVec 32 => w i + 1#32) h.word).trans (BitVec.ofNat_add n 1).symm
  state0 b l := by rw [STEP_main_v143_5]; exact new0_at hn h b l
  state1 b l := by rw [STEP_main_v143_6]; exact new1_at hn h b l
  rows0 T b l hT := by
    rw [STEP_main_v143_7]
    refine (put_at _ _ n hn _ h.word T b l).trans ?_
    split
    · next e => rw [e]; exact new0_at hn h b l
    · next e => exact h.rows0 T b l (by omega)
  rows1 T b l hT := by
    rw [STEP_main_v143_8]
    refine (put_at _ _ n hn _ h.word T b l).trans ?_
    split
    · next e => rw [e]; exact new1_at hn h b l
    · next e => exact h.rows1 T b l (by omega)

/-- Before every trip, and behind the last. -/
theorem before_all (h : Before D 0 V) : ∀ n ≤ 8192, Before D n (STEP^[n] V)
  | 0, _ => h
  | n + 1, hn => by
    rw [Function.iterate_succ_apply']
    exact (before_all h n (by omega)).step (by omega)

/-- The results: the rows, sequence first … -/
theorem forward_at (h : Before D 8192 V) (b : Fin 6) (T : Fin 8192) (l : Fin 1024) :
    out_main_v144 V (ix3 b T l) = D.state 0 b l (T.val + 1) := by
  refine Eq.trans ?_ (h.rows0 T b l T.isLt)
  unfold out_main_v144
  pointwise

/-- … and the backward direction's turned round again. -/
theorem backward_at (h : Before D 8192 V) (b : Fin 6) (T : Fin 8192) (l : Fin 1024) :
    out_main_v146 V (ix3 b T l) = D.state 1 b l (8192 - T.val) := by
  rw [show 8192 - T.val = T.rev.val + 1 by rw [rev_row]; omega]
  refine Eq.trans ?_ (h.rows1 T.rev b l T.rev.isLt)
  unfold out_main_v146
  pointwise
  rfl

end Cert.ReferenceIdeal.Lru

end
-- ==== Proof.Ref.Results.lean ====
/- The reference's two results, of its argument arrays. -/
module

public import proofs.«01_k».proof.Proof.Ref.Iterate

@[expose] public section

set_option maxRecDepth 8192

noncomputable section

namespace Cert.ReferenceIdeal.Lru

open Cert.ReferenceIdeal Cert.ReferenceIdeal.Gen Cert.ReferenceIdeal.Value Cert.Recur
open Idealize.ShloMosaic Idealize.ShloMosaic.TcCoe Idealize.ShloMosaic.StableHlo

/-- The forward direction's states, as an array … -/
def forwardRows (D : Data) : S6x8192x1024.Idx → EReal := fun y => D.state 0 (y 0) (y 2) ((y 1).val + 1)
/-- … and the backward direction's. -/
def backwardRows (D : Data) : S6x8192x1024.Idx → EReal := fun y => D.state 1 (y 0) (y 2) (8192 - (y 1).val)

/-- The sequences' rows among the operands. -/
theorem rows_of (x : S6x8192x1024.Idx → EReal) (cw : S4x1024.Idx → EReal) (cb : S1024.Idx → EReal) (wr : S2x8x128x128.Idx → EReal)
    (br : S2x1024.Idx → EReal) (wi : S2x8x128x128.Idx → EReal) (bi lam : S2x1024.Idx → EReal) (b : Fin 6) (T : Fin 8192) (l : Fin 1024) :
    (Data.of x cw cb wr br wi bi lam).x b T.val l = x (ix3 b T l) := dif_pos T.isLt

variable (m : (ℓ : Loc nD τ sig) → Buf (Elt Ideal) ℓ)

/-- The operands, of the launch's argument arrays. -/
def dataR (c : Dev nD) : Data :=
  Data.of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- What the loop starts from, at a launch. -/
theorem entry_at (c : Dev nD) : Entry (dataR m c) (entryContents preI m c) := by
  refine entry_of (dataR m c) (launchContents m c) ⟨fun _ _ => rfl, fun _ => rfl, fun _ _ _ _ => rfl, fun _ _ => rfl, fun _ _ _ _ => rfl, fun _ _ => rfl, fun _ _ => rfl⟩ ?_ ?_
  · intro b T l
    exact (rows_of _ _ _ _ _ _ _ _ b T l).symm
  · intro b T l h
    exact dif_neg (by omega)

theorem before_first (c : Dev nD) : Before (dataR m c) 0 (entryContents preI m c) where
  fac0 := (entry_at m c).fac0
  term0 := (entry_at m c).term0
  fac1 := (entry_at m c).fac1
  term1 := (entry_at m c).term1
  word := ctr_entry m c
  state0 := (entry_at m c).zero0
  state1 := (entry_at m c).zero1
  rows0 _ _ _ h := absurd h (by omega)
  rows1 _ _ _ h := absurd h (by omega)

theorem forward_eq (c : Dev nD) : out_main_v144 (STEP^[8192] (entryContents preI m c)) = forwardRows (dataR m c) := by
  funext y
  obtain ⟨b, T, l, rfl⟩ : ∃ b T l, y = ix3 b T l := ⟨_, _, _, eq_ix3 y⟩
  exact forward_at (before_all (before_first m c) 8192 (le_refl _)) b T l

theorem backward_eq (c : Dev nD) : out_main_v146 (STEP^[8192] (entryContents preI m c)) = backwardRows (dataR m c) := by
  funext y
  obtain ⟨b, T, l, rfl⟩ : ∃ b T l, y = ix3 b T l := ⟨_, _, _, eq_ix3 y⟩
  exact backward_at (before_all (before_first m c) 8192 (le_refl _)) b T l

end Cert.ReferenceIdeal.Lru

end
-- ==== Proof.InProj.Row.lean ====
/- One row of the layer's input, normalised and modulated, and its product with a column of the projection. -/
module

public import Idealize.ShloMosaic.Lib.KernelVsHost
public import Idealize.ShloMosaic.Lib.IdealHost
public import Idealize.ShloMosaic.Lib.Pointwise

@[expose] public section

noncomputable section

namespace Cert.InRow

open Idealize.ShloMosaic

/-- The row `x` over the root of its mean square, times the gain `g`, modulated by the scale `c` and the shift `s`. -/
def normed (x g s c : Fin 2048 → EReal) (k : Fin 2048) : EReal :=
  x k * Ideal.rsqrt (Ideal.div (∑ j, x j * x j) (Ideal.ofBits .f32 0x45000000#32) + Ideal.ofBits .f32 0x358637BD#32) * g k * (1 + c k) + s k

/-- The row against a column. -/
def against (h w : Fin 2048 → EReal) : EReal := ∑ k, h k * w k

variable (a : (⟨3, ![4, 8192, 2048]⟩ : Shape).Idx → EReal) (b : (⟨3, ![2, 8192, 2048]⟩ : Shape).Idx → EReal) (md : (⟨3, ![6, 6, 2048]⟩ : Shape).Idx → EReal)
  (g : (⟨1, ![2048]⟩ : Shape).Idx → EReal) (w : (⟨2, ![2048, 5120]⟩ : Shape).Idx → EReal)

/-- The layer's input: the four sequences of the first operand, then the two of the second. -/
def input (s : Fin 6) (T : Fin 8192) (j : Fin 2048) : EReal :=
  if h : s.val < 4 then a (ix3 ⟨s.val, h⟩ T j) else b (ix3 ⟨s.val - 4, by omega⟩ T j)

/-- Token `T` of sequence `s`, normalised and modulated by the sequence's first two rows of `md`. -/
def token (s : Fin 6) (T : Fin 8192) : Fin 2048 → EReal :=
  normed (input a b s T) (fun j => g (ix1 j)) (fun j => md (ix3 s 0 j)) (fun j => md (ix3 s 1 j))

/-- The projection of that token at a column. -/
def projected (s : Fin 6) (T : Fin 8192) (col : Fin 5120) : EReal := against (token a b md g s T) (fun k => w (ix2 k col))

/-- A thousand and twenty-four columns of the projection, from column `n` on. -/
def columns (n : ℕ) (hn : n + 1024 ≤ 5120) : (⟨3, ![6, 8192, 1024]⟩ : Shape).Idx → EReal :=
  fun y => projected a b md g w (y 0) (y 1) ⟨n + (y 2).val, by have : (y 2).val < 1024 := (y 2).isLt; omega⟩

/-- A head of 128 numbers, its two halves turned into one another by the angles whose cosines and sines are given. -/
def rotated (z : Fin 128 → EReal) (cs sn : Fin 64 → EReal) (e : Fin 128) : EReal :=
  if h : e.val < 64 then z e * cs ⟨e.val, h⟩ - z ⟨e.val + 64, by omega⟩ * sn ⟨e.val, h⟩
  else z e * cs ⟨e.val - 64, by omega⟩ + z ⟨e.val - 64, by omega⟩ * sn ⟨e.val - 64, by omega⟩

/-- The same with one table for each factor: a number against the first, and the number half a head away against the second. -/
def wheel (z c s : Fin 128 → EReal) (e : Fin 128) : EReal := z e * c e + z ⟨(e.val + 128 - 64) % 128, by omega⟩ * s e

/-- The cosines laid down twice. -/
def twice (cs : Fin 64 → EReal) (e : Fin 128) : EReal := if h : e.val < 64 then cs ⟨e.val, h⟩ else cs ⟨e.val - 64, by omega⟩
/-- The sines, first negated and then as they are. -/
def signed (sn : Fin 64 → EReal) (e : Fin 128) : EReal := if h : e.val < 64 then -sn ⟨e.val, h⟩ else sn ⟨e.val - 64, by omega⟩

theorem wheel_eq (z : Fin 128 → EReal) (cs sn : Fin 64 → EReal) (e : Fin 128) : wheel z (twice cs) (signed sn) e = rotated z cs sn e := by
  unfold wheel twice signed rotated
  by_cases h : e.val < 64
  · have i : (⟨(e.val + 128 - 64) % 128, by omega⟩ : Fin 128) = ⟨e.val + 64, by omega⟩ := Fin.ext (by show (e.val + 128 - 64) % 128 = e.val + 64; omega)
    rw [dif_pos h, dif_pos h, dif_pos h, i, mul_neg, sub_eq_add_neg]
  · have i : (⟨(e.val + 128 - 64) % 128, by omega⟩ : Fin 128) = ⟨e.val - 64, by omega⟩ := Fin.ext (by show (e.val + 128 - 64) % 128 = e.val - 64; omega)
    rw [dif_neg h, dif_neg h, dif_neg h, i]

/-- Every place among 1024 is a place in one of eight heads. -/
theorem split_head (l : Fin 1024) : ∃ (d : Fin 8) (e : Fin 128), l = ⟨128 * d.val + e.val, by omega⟩ :=
  ⟨⟨l.val / 128, by omega⟩, ⟨l.val % 128, by omega⟩, Fin.ext (by show l.val = 128 * (l.val / 128) + l.val % 128; omega)⟩

variable (cs sn : (⟨2, ![8192, 64]⟩ : Shape).Idx → EReal)

/-- Head `d` of token `T`, among the columns of the projection from `n` on, turned by the token's angles. -/
def turnedHead (n : ℕ) (hn : n + 1024 ≤ 5120) (s : Fin 6) (T : Fin 8192) (d : Fin 8) (e : Fin 128) : EReal :=
  rotated (fun j => projected a b md g w s T ⟨n + (128 * d.val + j.val), by omega⟩) (fun j => cs (ix2 T j)) (fun j => sn (ix2 T j)) e

/-- The columns of the projection from `n` on, each head turned. -/
def turned (n : ℕ) (hn : n + 1024 ≤ 5120) : (⟨3, ![6, 8192, 1024]⟩ : Shape).Idx → EReal :=
  fun y => turnedHead a b md g w cs sn n hn (y 0) (y 1) ⟨(y 2).val / 128, by have : (y 2).val < 1024 := (y 2).isLt; omega⟩ ⟨(y 2).val % 128, by omega⟩

theorem turned_apply (n : ℕ) (hn : n + 1024 ≤ 5120) (s : Fin 6) (T : Fin 8192) (d : Fin 8) (e : Fin 128) :
    turned a b md g w cs sn n hn (ix3 s T ⟨128 * d.val + e.val, by omega⟩) = turnedHead a b md g w cs sn n hn s T d e := by
  have hd : (⟨(128 * d.val + e.val) / 128, by omega⟩ : Fin 8) = d := Fin.ext (by show (128 * d.val + e.val) / 128 = d.val; omega)
  have he : (⟨(128 * d.val + e.val) % 128, by omega⟩ : Fin 128) = e := Fin.ext (by show (128 * d.val + e.val) % 128 = e.val; omega)
  show turnedHead a b md g w cs sn n hn s T ⟨(128 * d.val + e.val) / 128, _⟩ ⟨(128 * d.val + e.val) % 128, _⟩ = _
  rw [hd, he]

/-- The queries: the first of the turned columns, times the factor of the scores. -/
def queries : (⟨3, ![6, 8192, 1024]⟩ : Shape).Idx → EReal := fun y => turned a b md g w cs sn 0 (by decide) y * Ideal.ofBits .f32 0x3E0293EE#32

/-- The keys. -/
def keys : (⟨3, ![6, 8192, 1024]⟩ : Shape).Idx → EReal := turned a b md g w cs sn 1024 (by decide)

end Cert.InRow
-- ==== Proof.InProj.Point.lean ====
/- The values of one grid point of the input projection, read at an index. -/
module

public import proofs.«01_k».proof.Proof.InProj.Row
public import proofs.«01_k».proof.Proof.Gen.InProjIdeal.Frame
public import Idealize.ShloMosaic.Lib.Pipeline.Value
public import Idealize.ShloMosaic.Lib.ValueIdx
public import Idealize.ShloMosaic.Lib.KernelVsHost
public import Idealize.ShloMosaic.Lib.MatmulPlain
public import Idealize.ShloMosaic.Lib.IdealHost
public import Idealize.ShloMosaic.Lib.Pointwise
public import Idealize.ShloMosaic.Lib.Pipeline.ValueKit.Tiles
public import Idealize.ShloMosaic.Lib.Pipeline.ValueKit.Geometry

@[expose] public section

set_option maxRecDepth 16384

noncomputable section

namespace Cert.InProjIdeal.Hand

open Cert.InProjIdeal Cert.InProjIdeal.Gen Cert.InRow
open Idealize.ShloMosaic Idealize.ShloMosaic.TcCoe
open Idealize.SL Idealize.SL.Sem

/-- The test of the batch: the first four sequences come from the first operand. -/
theorem first_four : ∀ a : Fin 6, Scalar.cmpi .slt (BitVec.ofNat 32 a.val) 4#32 = if a.val < 4 then 1#1 else 0#1 := by decide

theorem normed_apply (i : grid0.Coords) (v1 v3 : Vec Ideal S1x256x2048 .f32) (v6 : Vec Ideal S1x6x2048 .f32) (v10 : Vec Ideal S1x2048 .f32)
    (r : Fin 256) (k : Fin 2048) : k0_pay5 (F := Ideal) i v1 v3 v6 v10 (ix2 r k)
      = normed (fun j => if (i 0).val < 4 then v1 (ix3 0 r j) else v3 (ix3 0 r j)) (fun j => v10 (ix2 0 j)) (fun j => v6 (ix3 0 0 j)) (fun j => v6 (ix3 0 1 j)) k := by
  have e := first_four (i 0)
  unfold normed
  by_cases h : (i 0).val < 4
  · rw [if_pos h] at e
    simp only [if_pos h]
    unfold k0_pay5
    rw [e]
    pointwise
  · rw [if_neg h] at e
    simp only [if_neg h]
    unfold k0_pay5
    rw [e]
    pointwise

theorem product_f32 (h : FVec Ideal S256x2048 .bf16) (w : Vec Ideal S2048x1024 .bf16) (r : Fin 256) (l : Fin 1024) :
    k0_pay3 (F := Ideal) h w (ix3 0 r l) = against (fun k => h (ix2 r k)) (fun k => w (ix2 k l)) := by
  unfold against
  pointwise [k0_pay3]

theorem product_gate (h : FVec Ideal S256x2048 .bf16) (w : Vec Ideal S2048x1024 .bf16) (r : Fin 256) (l : Fin 1024) :
    k0_pay4 (F := Ideal) h w (ix3 0 r l) = against (fun k => h (ix2 r k)) (fun k => w (ix2 k l)) := by
  unfold against
  pointwise [k0_pay4]

theorem product_v (h : FVec Ideal S256x2048 .bf16) (w : Vec Ideal S2048x1024 .bf16) (r : Fin 256) (l : Fin 1024) :
    k0_pay35 (F := Ideal) h w (ix3 0 r l) = against (fun k => h (ix2 r k)) (fun k => w (ix2 k l)) := by
  unfold against
  pointwise [k0_pay35, k0_pay34]

section out

variable (i : grid0.Coords) (x0 x1 : Vec Ideal S1x256x2048 .f32) (x2 : Vec Ideal S1x6x2048 .f32) (x3 : Vec Ideal S1x2048 .f32) (x4 : Vec Ideal S2048x5120 .bf16)
  (x5 x6 : Vec Ideal S256x128 .f32) (x7 x8 : Vec Ideal S256x256 .bf16)

theorem zeros2 : (![0, 0] : Fin 2 → ℕ) = fun _ => 0 := by decide
theorem zeros3 : (![0, 0, 0] : Fin 3 → ℕ) = fun _ => 0 := by decide

/-- The point's row, normalised, from its windows. -/
def rowOf (r : Fin 256) : Fin 2048 → EReal :=
  normed (fun j => if (i 0).val < 4 then x0 (ix3 0 r j) else x1 (ix3 0 r j)) (fun j => x3 (ix2 0 j)) (fun j => x2 (ix3 0 0 j)) (fun j => x2 (ix3 0 1 j))

theorem rows (r : Fin 256) (k : Fin 2048) : k0_pay37 (F := Ideal) i x0 x1 x2 x3 x4 x5 x6 x7 x8 (ix2 r k) = rowOf i x0 x1 x2 x3 r k := by
  unfold k0_pay37
  rw [View.ld_unit_zero zeros3, View.ld_unit_zero zeros3, View.ld_unit_zero zeros3, View.ld_unit_zero zeros2]
  exact normed_apply i x0 x1 x2 x3 r k

theorem out_v (r : Fin 256) (l : Fin 1024) : out0_11 (F := Ideal) i x0 x1 x2 x3 x4 x5 x6 x7 x8 (ix3 0 r l)
    = against (rowOf i x0 x1 x2 x3 r) (fun k => x4 (ix2 k ⟨2048 + l.val, by omega⟩)) := by
  unfold out0_11
  rw [View.canon_unit_zero zeros3, product_v]
  refine congrArg₂ against (funext fun k => rows i x0 x1 x2 x3 x4 x5 x6 x7 x8 r k) (funext fun k => ?_)
  exact View.ld_unit_apply_of x4 _ _ _ _ (ix2 k ⟨2048 + l.val, by omega⟩) (fun a => by fin_cases a <;> simp)

theorem out_xb (r : Fin 256) (l : Fin 1024) : out0_18 (F := Ideal) i x0 x1 x2 x3 x4 x5 x6 x7 x8 (ix3 0 r l)
    = against (rowOf i x0 x1 x2 x3 r) (fun k => x4 (ix2 k ⟨3072 + l.val, by omega⟩)) := by
  unfold out0_18
  rw [View.canon_unit_zero zeros3, product_f32]
  refine congrArg₂ against (funext fun k => rows i x0 x1 x2 x3 x4 x5 x6 x7 x8 r k) (funext fun k => ?_)
  exact View.ld_unit_apply_of x4 _ _ _ _ (ix2 k ⟨3072 + l.val, by omega⟩) (fun a => by fin_cases a <;> simp)

theorem out_gate (r : Fin 256) (l : Fin 1024) : out0_19 (F := Ideal) i x0 x1 x2 x3 x4 x5 x6 x7 x8 (ix3 0 r l)
    = against (rowOf i x0 x1 x2 x3 r) (fun k => x4 (ix2 k ⟨4096 + l.val, by omega⟩)) := by
  unfold out0_19
  rw [View.canon_unit_zero zeros3, product_gate]
  refine congrArg₂ against (funext fun k => rows i x0 x1 x2 x3 x4 x5 x6 x7 x8 r k) (funext fun k => ?_)
  exact View.ld_unit_apply_of x4 _ _ _ _ (ix2 k ⟨4096 + l.val, by omega⟩) (fun a => by fin_cases a <;> simp)

end out

end Cert.InProjIdeal.Hand
-- ==== Proof.InProj.Heads.lean ====
/- The queries and the keys of a grid point: a product with a thousand and twenty-four columns of the projection, each head of 128 columns
turned by half its length against a table. -/
module

public import proofs.«01_k».proof.Proof.InProj.Point

@[expose] public section

set_option maxRecDepth 16384

noncomputable section

namespace Cert.InProjIdeal.Hand

open Cert.InProjIdeal Cert.InProjIdeal.Gen Cert.InRow
open Idealize.ShloMosaic Idealize.ShloMosaic.TcCoe
open Idealize.SL Idealize.SL.Sem

theorem product_q (h : FVec Ideal S256x2048 .bf16) (w : Vec Ideal S2048x1024 .bf16) (r : Fin 256) (l : Fin 1024) :
    k0_pay8 (F := Ideal) h w (ix2 r l) = against (fun k => h (ix2 r k)) (fun k => w (ix2 k l)) := by
  unfold against
  pointwise [k0_pay8]

theorem product_k (h : FVec Ideal S256x2048 .bf16) (w : Vec Ideal S2048x1024 .bf16) (r : Fin 256) (l : Fin 1024) :
    k0_pay19 (F := Ideal) h w (ix2 r l) = against (fun k => h (ix2 r k)) (fun k => w (ix2 k l)) := by
  unfold against
  pointwise [k0_pay19]

/-- Eight heads side by side, read at one of them. -/
theorem eight (a0 a1 a2 a3 a4 a5 a6 a7 : S256x128.Idx → EReal) (h) (r : Fin 256) (d : Fin 8) (e : Fin 128) :
    concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩] h
      (ix2 r ⟨128 * d.val + e.val, by omega⟩) = (![a0, a1, a2, a3, a4, a5, a6, a7] : Fin 8 → S256x128.Idx → EReal) d (ix2 r e) :=
  concatenate_apply_piece 1 _ h _ d.val d.isLt S256x128 _ (by fin_cases d <;> rfl) rfl (128 * d.val) (by fin_cases d <;> rfl) (ix2 r e)
    (fun b hb => by fin_cases b <;> first | rfl | exact absurd rfl hb) rfl

theorem lift (x : S256x1024.Idx → EReal) (h) (r : Fin 256) (l : Fin 1024) : shapeCast S1x256x1024 x h (ix3 0 r l) = x (ix2 r l) := by
  pointwise

theorem heads_q (h : FVec Ideal S256x2048 .bf16) (w : Vec Ideal S2048x1024 .bf16) (c s : FVec Ideal S256x128 .f32) (r : Fin 256) (d : Fin 8) (e : Fin 128) :
    k0_pay16 (F := Ideal) c s (k0_pay8 h w) (k0_pay9 h c s w) (k0_pay10 h c s w) (k0_pay11 h c s w) (k0_pay12 h c s w) (k0_pay13 h c s w) (k0_pay14 h c s w)
      (Scalar.ofBits .f32 0x3E0293EE#32) (ix3 0 r ⟨128 * d.val + e.val, by omega⟩)
      = wheel (fun j => k0_pay8 (F := Ideal) h w (ix2 r ⟨128 * d.val + j.val, by omega⟩)) (fun j => c (ix2 r j)) (fun j => s (ix2 r j)) e * Ideal.ofBits .f32 0x3E0293EE#32 := by
  unfold k0_pay16 k0_pay15
  refine (lift _ _ r _).trans ((eight _ _ _ _ _ _ _ _ _ r d e).trans ?_)
  unfold wheel k0_pay9 k0_pay10 k0_pay11 k0_pay12 k0_pay13 k0_pay14
  generalize k0_pay8 h w = p
  fin_cases d <;> pointwise

theorem heads_k (h : FVec Ideal S256x2048 .bf16) (w : Vec Ideal S2048x1024 .bf16) (c s : FVec Ideal S256x128 .f32) (r : Fin 256) (d : Fin 8) (e : Fin 128) :
    k0_pay31 (F := Ideal) s (k0_pay20 h c s w) (k0_pay21 h c s w) (k0_pay22 h c s w) (k0_pay23 h c s w) (k0_pay24 h c s w) (k0_pay25 h c s w) (k0_pay26 h c s w)
      (k0_pay28 h w) (k0_pay29 h c w) (ix3 0 r ⟨128 * d.val + e.val, by omega⟩)
      = wheel (fun j => k0_pay19 (F := Ideal) h w (ix2 r ⟨128 * d.val + j.val, by omega⟩)) (fun j => c (ix2 r j)) (fun j => s (ix2 r j)) e := by
  unfold k0_pay31 k0_pay30
  refine (lift _ _ r _).trans ((eight _ _ _ _ _ _ _ _ _ r d e).trans ?_)
  unfold wheel k0_pay20 k0_pay21 k0_pay22 k0_pay23 k0_pay24 k0_pay25 k0_pay26 k0_pay28 k0_pay29 k0_pay27
  generalize k0_pay19 h w = p
  fin_cases d <;> pointwise

section out

variable (i : grid0.Coords) (x0 x1 : Vec Ideal S1x256x2048 .f32) (x2 : Vec Ideal S1x6x2048 .f32) (x3 : Vec Ideal S1x2048 .f32) (x4 : Vec Ideal S2048x5120 .bf16)
  (x5 x6 : Vec Ideal S256x128 .f32) (x7 x8 : Vec Ideal S256x256 .bf16)

theorem table_c (r : Fin 256) (e : Fin 128) : k0_pay38 (F := Ideal) i x0 x1 x2 x3 x4 x5 x6 x7 x8 (ix2 r e) = x5 (ix2 r e) := by
  unfold k0_pay38
  rw [View.ld_unit_zero zeros2]
  pointwise [k0_pay6]

theorem table_s (r : Fin 256) (e : Fin 128) : k0_pay39 (F := Ideal) i x0 x1 x2 x3 x4 x5 x6 x7 x8 (ix2 r e) = x6 (ix2 r e) := by
  unfold k0_pay39
  rw [View.ld_unit_zero zeros2]
  pointwise [k0_pay7]

theorem out_q (r : Fin 256) (d : Fin 8) (e : Fin 128) : out0_9 (F := Ideal) i x0 x1 x2 x3 x4 x5 x6 x7 x8 (ix3 0 r ⟨128 * d.val + e.val, by omega⟩)
    = wheel (fun j => against (rowOf i x0 x1 x2 x3 r) (fun k => x4 (ix2 k ⟨0 + (128 * d.val + j.val), by omega⟩))) (fun j => x5 (ix2 r j)) (fun j => x6 (ix2 r j)) e
      * Ideal.ofBits .f32 0x3E0293EE#32 := by
  unfold out0_9
  rw [View.canon_unit_zero zeros3]
  refine (heads_q (k0_pay37 i x0 x1 x2 x3 x4 x5 x6 x7 x8) (View.ld x4 r0_4) (k0_pay38 i x0 x1 x2 x3 x4 x5 x6 x7 x8) (k0_pay39 i x0 x1 x2 x3 x4 x5 x6 x7 x8) r d e).trans ?_
  refine congrArg (· * _) ?_
  simp only [table_c, table_s, product_q, rows]
  refine congrArg (fun z => wheel z _ _ e) (funext fun j => congrArg (against _) (funext fun k => ?_))
  exact View.ld_unit_apply_of x4 _ _ _ _ (ix2 k ⟨0 + (128 * d.val + j.val), by omega⟩) (fun a => by fin_cases a <;> simp)

theorem out_k (r : Fin 256) (d : Fin 8) (e : Fin 128) : out0_10 (F := Ideal) i x0 x1 x2 x3 x4 x5 x6 x7 x8 (ix3 0 r ⟨128 * d.val + e.val, by omega⟩)
    = wheel (fun j => against (rowOf i x0 x1 x2 x3 r) (fun k => x4 (ix2 k ⟨1024 + (128 * d.val + j.val), by omega⟩))) (fun j => x5 (ix2 r j)) (fun j => x6 (ix2 r j)) e := by
  unfold out0_10
  rw [View.canon_unit_zero zeros3]
  refine (heads_k (k0_pay37 i x0 x1 x2 x3 x4 x5 x6 x7 x8) (View.ld x4 r0_9) (k0_pay38 i x0 x1 x2 x3 x4 x5 x6 x7 x8) (k0_pay39 i x0 x1 x2 x3 x4 x5 x6 x7 x8) r d e).trans ?_
  simp only [table_c, table_s, product_k, rows]
  refine congrArg (fun z => wheel z _ _ e) (funext fun j => congrArg (against _) (funext fun k => ?_))
  exact View.ld_unit_apply_of x4 _ _ _ _ (ix2 k ⟨1024 + (128 * d.val + j.val), by omega⟩) (fun a => by fin_cases a <;> simp)

end out

end Cert.InProjIdeal.Hand
-- ==== Proof.InProj.Blocks.lean ====
/- What a grid point's windows hold of the launched operands, and where its output blocks lie. -/
module

public import proofs.«01_k».proof.Proof.InProj.Heads

@[expose] public section

set_option maxRecDepth 16384

noncomputable section

namespace Cert.InProjIdeal.Hand

open Cert.InProjIdeal Cert.InProjIdeal.Gen Cert.InRow
open Idealize.ShloMosaic Idealize.ShloMosaic.TcCoe
open Idealize.SL Idealize.SL.Sem

variable (m : (ℓ : Loc nD τ sig) → Buf (Elt Ideal) ℓ)

/-- The sequence a point is in … -/
def seqOf (t : Fin cfg0.N) : Fin 6 := ⟨t.val / 32, by have : t.val < 192 := N_0 ▸ t.isLt; omega⟩
/-- … and the token of its row `r`. -/
def tokOf (t : Fin cfg0.N) (r : Fin 256) : Fin 8192 := ⟨256 * (t.val % 32) + r.val, by omega⟩

theorem coord_0 : ∀ t : Fin cfg0.N, ((grid0.coords t) 0).val = t.val / 32 := (by decide +kernel : ∀ t : Fin grid0.N, _)

theorem index_0 : ∀ t : Fin cfg0.N, win0_0.index t = ![min (t.val / 32) 3, if t.val / 32 < 4 then t.val % 32 else 31, 0] := (by decide +kernel : ∀ t : Fin grid0.N, _)
theorem index_1 : ∀ t : Fin cfg0.N, win0_1.index t = ![t.val / 32 - 4, if t.val / 32 < 4 then 0 else t.val % 32, 0] := (by decide +kernel : ∀ t : Fin grid0.N, _)
theorem index_2 : ∀ t : Fin cfg0.N, win0_2.index t = ![t.val / 32, 0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val % 32, 0] := (by decide +kernel : ∀ t : Fin grid0.N, _)
theorem index_6 : ∀ t : Fin cfg0.N, win0_6.index t = ![t.val % 32, 0] := (by decide +kernel : ∀ t : Fin grid0.N, _)
theorem index_9 : ∀ t : Fin cfg0.N, win0_9.index t = ![t.val / 32, t.val % 32, 0] := (by decide +kernel : ∀ t : Fin grid0.N, _)
theorem index_10 : ∀ t : Fin cfg0.N, win0_10.index t = ![t.val / 32, t.val % 32, 0] := (by decide +kernel : ∀ t : Fin grid0.N, _)
theorem index_11 : ∀ t : Fin cfg0.N, win0_11.index t = ![t.val / 32, t.val % 32, 0] := (by decide +kernel : ∀ t : Fin grid0.N, _)
theorem index_18 : ∀ t : Fin cfg0.N, win0_18.index t = ![t.val / 32, t.val % 32, 0] := (by decide +kernel : ∀ t : Fin grid0.N, _)
theorem index_19 : ∀ t : Fin cfg0.N, win0_19.index t = ![t.val / 32, t.val % 32, 0] := (by decide +kernel : ∀ t : Fin grid0.N, _)

/-- A point of the first four sequences reads the first operand … -/
theorem iblk_0 (c : Dev nD) (t : Fin cfg0.N) (r : Fin 256) (j : Fin 2048) (h : (seqOf t).val < 4) :
    iblk m c 0 t (ix3 (0 : Fin 1) r j : S1x256x2048.Idx) = m ((c : Thread nD τ).loc main_arg0) (ix3 ⟨(seqOf t).val, h⟩ (tokOf t r) j) := by
  have h' : t.val / 32 < 4 := h
  rw [← V_main_arg0 m c]
  blk_simp [iblk]
  congr 1
  blk_ext [index_0, seqOf, tokOf, if_pos h']

/-- … and one of the last two the second. -/
theorem iblk_1 (c : Dev nD) (t : Fin cfg0.N) (r : Fin 256) (j : Fin 2048) (h : ¬(seqOf t).val < 4) :
    iblk m c 1 t (ix3 (0 : Fin 1) r j : S1x256x2048.Idx) = m ((c : Thread nD τ).loc main_arg1) (ix3 ⟨(seqOf t).val - 4, by omega⟩ (tokOf t r) j) := by
  have h' : ¬t.val / 32 < 4 := h
  rw [← V_main_arg1 m c]
  blk_simp [iblk]
  congr 1
  blk_ext [index_1, seqOf, tokOf, if_neg h']

theorem iblk_2 (c : Dev nD) (t : Fin cfg0.N) (n : Fin 6) (j : Fin 2048) :
    iblk m c 2 t (ix3 (0 : Fin 1) n j : S1x6x2048.Idx) = m ((c : Thread nD τ).loc main_arg2) (ix3 (seqOf t) n j) := by
  rw [← V_main_arg2 m c]
  blk_simp [iblk]
  congr 1
  blk_ext [index_2, seqOf]

theorem V_gain (c : Dev nD) : V m c main_v3 = broadcastInDim S1x2048 ![1] Facts₀.bcast_S2048_S1x2048_1 (m ((c : Thread nD τ).loc main_arg3) : FVec Ideal S2048 .f32) := by
  show StableHlo.after hostOps0 _ (Proc.devRef .tc main_v3) = _
  after_results

theorem V_weight (c : Dev nD) : V m c main_v4 = m ((c : Thread nD τ).loc main_arg4) := by
  show StableHlo.after hostOps0 _ (Proc.devRef .tc main_v4) = _
  after_results
  rfl

theorem iblk_3 (c : Dev nD) (t : Fin cfg0.N) (j : Fin 2048) : iblk m c 3 t (ix2 (0 : Fin 1) j : S1x2048.Idx) = m ((c : Thread nD τ).loc main_arg3) (ix1 j) := by
  have e : V m c main_v3 (ix2 (0 : Fin 1) j : S1x2048.Idx) = (m ((c : Thread nD τ).loc main_arg3)) (ix1 j) := by
    rw [V_gain]
    exact broadcastInDim_apply _ _ _ _ _ (fun a => by fin_cases a; rfl)
  refine Eq.trans ?_ e
  blk_simp [iblk]
  congr 1
  blk_ext [index_3]

theorem iblk_4 (c : Dev nD) (t : Fin cfg0.N) (k : Fin 2048) (j : Fin 5120) : iblk m c 4 t (ix2 k j : S2048x5120.Idx) = m ((c : Thread nD τ).loc main_arg4) (ix2 k j) := by
  refine Eq.trans ?_ (congrFun (V_weight m c) (ix2 k j : S2048x5120.Idx))
  blk_simp [iblk]
  congr 1
  blk_ext [index_4]

/-- The first table holds the cosines twice … -/
theorem V_cos (c : Dev nD) (T : Fin 8192) (e : Fin 128) : V m c main_v0 (ix2 T e : S8192x128.Idx) = twice (fun j => m ((c : Thread nD τ).loc main_arg5) (ix2 T j)) e := by
  have h : V m c main_v0 = concatenate S8192x128 1 [⟨S8192x64, m ((c : Thread nD τ).loc main_arg5)⟩, ⟨S8192x64, m ((c : Thread nD τ).loc main_arg5)⟩] Facts₀.concatenates_S8192x64_S8192x64_S8192x128_d1 := by
    show StableHlo.after hostOps0 _ (Proc.devRef .tc main_v0) = _
    after_results
  rw [h]
  unfold twice
  pointwise

/-- … and the second the sines, negated and plain. -/
theorem V_sin (c : Dev nD) (T : Fin 8192) (e : Fin 128) : V m c main_v2 (ix2 T e : S8192x128.Idx) = signed (fun j => m ((c : Thread nD τ).loc main_arg6) (ix2 T j)) e := by
  have h : V m c main_v2 = concatenate (α := Ideal .f32) S8192x128 1 [⟨S8192x64, Host.negf (F := Ideal) (φ := .f32) (m ((c : Thread nD τ).loc main_arg6) : FVec Ideal S8192x64 .f32)⟩, ⟨S8192x64, m ((c : Thread nD τ).loc main_arg6)⟩] Facts₀.concatenates_S8192x64_S8192x64_S8192x128_d1 := by
    show StableHlo.after hostOps0 _ (Proc.devRef .tc main_v2) = _
    after_results
  rw [h]
  unfold signed
  pointwise

theorem iblk_5 (c : Dev nD) (t : Fin cfg0.N) (r : Fin 256) (e : Fin 128) :
    iblk m c 5 t (ix2 r e : S256x128.Idx) = twice (fun j => m ((c : Thread nD τ).loc main_arg5) (ix2 (tokOf t r) j)) e := by
  refine Eq.trans ?_ (V_cos m c (tokOf t r) e)
  blk_simp [iblk]
  congr 1
  blk_ext [index_5, tokOf]

theorem iblk_6 (c : Dev nD) (t : Fin cfg0.N) (r : Fin 256) (e : Fin 128) :
    iblk m c 6 t (ix2 r e : S256x128.Idx) = signed (fun j => m ((c : Thread nD τ).loc main_arg6) (ix2 (tokOf t r) j)) e := by
  refine Eq.trans ?_ (V_sin m c (tokOf t r) e)
  blk_simp [iblk]
  congr 1
  blk_ext [index_6, tokOf]

theorem emb_9 (t : Fin cfg0.N) (r : Fin 256) (l : Fin 1024) : (win0_9.blk t).view.emb (ix3 (0 : Fin 1) r l : S1x256x1024.Idx) = (ix3 (seqOf t) (tokOf t r) l : S6x8192x1024.Idx) := by
  blk_ext [index_9, seqOf, tokOf]
theorem emb_10 (t : Fin cfg0.N) (r : Fin 256) (l : Fin 1024) : (win0_10.blk t).view.emb (ix3 (0 : Fin 1) r l : S1x256x1024.Idx) = (ix3 (seqOf t) (tokOf t r) l : S6x8192x1024.Idx) := by
  blk_ext [index_10, seqOf, tokOf]
theorem emb_11 (t : Fin cfg0.N) (r : Fin 256) (l : Fin 1024) : (win0_11.blk t).view.emb (ix3 (0 : Fin 1) r l : S1x256x1024.Idx) = (ix3 (seqOf t) (tokOf t r) l : S6x8192x1024.Idx) := by
  blk_ext [index_11, seqOf, tokOf]
theorem emb_18 (t : Fin cfg0.N) (r : Fin 256) (l : Fin 1024) : (win0_18.blk t).view.emb (ix3 (0 : Fin 1) r l : S1x256x1024.Idx) = (ix3 (seqOf t) (tokOf t r) l : S6x8192x1024.Idx) := by
  blk_ext [index_18, seqOf, tokOf]
theorem emb_19 (t : Fin cfg0.N) (r : Fin 256) (l : Fin 1024) : (win0_19.blk t).view.emb (ix3 (0 : Fin 1) r l : S1x256x1024.Idx) = (ix3 (seqOf t) (tokOf t r) l : S6x8192x1024.Idx) := by
  blk_ext [index_19, seqOf, tokOf]

end Cert.InProjIdeal.Hand
-- ==== Proof.InProj.Result.lean ====
/- What a run of the input projection leaves: its arguments unchanged, and the columns of the projection, plain or turned, in five of its results. -/
module

public import proofs.«01_k».proof.Proof.InProj.Blocks

@[expose] public section

set_option maxRecDepth 16384

noncomputable section

namespace Cert.InProjIdeal.Hand

open Cert.InProjIdeal Cert.InProjIdeal.Gen Cert.InRow
open Idealize.ShloMosaic Idealize.ShloMosaic.TcCoe
open Idealize.SL Idealize.SL.Sem

variable (m : (ℓ : Loc nD τ sig) → Buf (Elt Ideal) ℓ) (ρ : Dev nD → PrngReg)

/-- The projection's columns from `n` on, of the launched operands. -/
def columnsK (c : Dev nD) (n : ℕ) (hn : n + 1024 ≤ 5120) : S6x8192x1024.Idx → EReal :=
  columns (m ((c : Thread nD τ).loc main_arg0)) (m ((c : Thread nD τ).loc main_arg1)) (m ((c : Thread nD τ).loc main_arg2))
    (m ((c : Thread nD τ).loc main_arg3)) (m ((c : Thread nD τ).loc main_arg4)) n hn

/-- The queries and the keys of the launched operands. -/
def queriesK (c : Dev nD) : S6x8192x1024.Idx → EReal :=
  queries (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
@[inherit_doc queriesK]
def keysK (c : Dev nD) : S6x8192x1024.Idx → EReal :=
  keys (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- A point's row is its token, normalised. -/
theorem row_eq (c : Dev nD) (t : Fin cfg0.N) (r : Fin 256) : rowOf (grid0.coords t) (iblk m c 0 t) (iblk m c 1 t) (iblk m c 2 t) (iblk m c 3 t) r
    = token (m ((c : Thread nD τ).loc main_arg0)) (m ((c : Thread nD τ).loc main_arg1)) (m ((c : Thread nD τ).loc main_arg2)) (m ((c : Thread nD τ).loc main_arg3))
      (seqOf t) (tokOf t r) := by
  unfold rowOf token
  congr 1
  · funext j
    rw [coord_0 t]
    unfold input
    by_cases h : t.val / 32 < 4
    · rw [if_pos h, dif_pos (show (seqOf t).val < 4 from h)]
      exact iblk_0 m c t r j h
    · rw [if_neg h, dif_neg (show ¬(seqOf t).val < 4 from h)]
      exact iblk_1 m c t r j h
  · exact funext fun j => iblk_3 m c t j
  · exact funext fun j => iblk_2 m c t 0 j
  · exact funext fun j => iblk_2 m c t 1 j

/-- A head of a point's row is that head of its token, turned. -/
theorem head_eq (c : Dev nD) (t : Fin cfg0.N) (r : Fin 256) (n : ℕ) (hn : n + 1024 ≤ 5120) (d : Fin 8) (e : Fin 128) :
    wheel (fun j => against (rowOf (grid0.coords t) (iblk m c 0 t) (iblk m c 1 t) (iblk m c 2 t) (iblk m c 3 t) r)
        (fun k => (iblk m c 4 t : S2048x5120.Idx → EReal) (ix2 k ⟨n + (128 * d.val + j.val), by omega⟩)))
      (fun j => (iblk m c 5 t : S256x128.Idx → EReal) (ix2 r j)) (fun j => (iblk m c 6 t : S256x128.Idx → EReal) (ix2 r j)) e
      = turnedHead (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) n hn (seqOf t) (tokOf t r) d e := by
  unfold turnedHead
  refine Eq.trans ?_ (wheel_eq _ _ _ e)
  refine congrFun (congr (congrArg₂ wheel (funext fun j => ?_) (funext fun j => iblk_5 m c t r j)) (funext fun j => iblk_6 m c t r j)) e
  exact congrArg₂ against (row_eq m c t r) (funext fun k => iblk_4 m c t k _)

theorem array_9 (c : Dev nD) : (dats m 0 c).arrAt 9 cfg0.N = queriesK m c :=
  (dats m 0 c).arrAt_eq_of_covers 9 (queriesK m c) (by decide +kernel) fun t hf y => by
    blk_simp []
    rw [after0_9]
    idx_vars y
    obtain rfl : y0 = 0 := Subsingleton.elim _ _
    obtain ⟨d, e, rfl⟩ := split_head y2
    rw [emb_9]
    refine (out_q (grid0.coords t) (iblk m c 0 t) (iblk m c 1 t) (iblk m c 2 t) (iblk m c 3 t) (iblk m c 4 t) (iblk m c 5 t) (iblk m c 6 t) (iblk m c 7 t) (iblk m c 8 t) y1 d e).trans ?_
    exact congrArg (· * Ideal.ofBits .f32 0x3E0293EE#32) ((head_eq m c t y1 0 (by decide) d e).trans (turned_apply _ _ _ _ _ _ _ _ _ _ _ _ _).symm)

theorem array_10 (c : Dev nD) : (dats m 0 c).arrAt 10 cfg0.N = keysK m c :=
  (dats m 0 c).arrAt_eq_of_covers 10 (keysK m c) (by decide +kernel) fun t hf y => by
    blk_simp []
    rw [after0_10]
    idx_vars y
    obtain rfl : y0 = 0 := Subsingleton.elim _ _
    obtain ⟨d, e, rfl⟩ := split_head y2
    rw [emb_10]
    refine (out_k (grid0.coords t) (iblk m c 0 t) (iblk m c 1 t) (iblk m c 2 t) (iblk m c 3 t) (iblk m c 4 t) (iblk m c 5 t) (iblk m c 6 t) (iblk m c 7 t) (iblk m c 8 t) y1 d e).trans ?_
    exact (head_eq m c t y1 1024 (by decide) d e).trans (turned_apply _ _ _ _ _ _ _ _ _ _ _ _ _).symm

theorem array_11 (c : Dev nD) : (dats m 0 c).arrAt 11 cfg0.N = columnsK m c 2048 (by decide) :=
  (dats m 0 c).arrAt_eq_of_covers 11 (columnsK m c 2048 (by decide)) (by decide +kernel) fun t hf y => by
    blk_simp []
    rw [after0_11]
    idx_vars y
    obtain rfl : y0 = 0 := Subsingleton.elim _ _
    rw [emb_11]
    refine (out_v (grid0.coords t) (iblk m c 0 t) (iblk m c 1 t) (iblk m c 2 t) (iblk m c 3 t) (iblk m c 4 t) (iblk m c 5 t) (iblk m c 6 t) (iblk m c 7 t) (iblk m c 8 t) y1 y2).trans ?_
    exact congrArg₂ against (row_eq m c t y1) (funext fun k => iblk_4 m c t k _)

theorem array_18 (c : Dev nD) : (dats m 0 c).arrAt 18 cfg0.N = columnsK m c 3072 (by decide) :=
  (dats m 0 c).arrAt_eq_of_covers 18 (columnsK m c 3072 (by decide)) (by decide +kernel) fun t hf y => by
    blk_simp []
    rw [after0_18]
    idx_vars y
    obtain rfl : y0 = 0 := Subsingleton.elim _ _
    rw [emb_18]
    refine (out_xb (grid0.coords t) (iblk m c 0 t) (iblk m c 1 t) (iblk m c 2 t) (iblk m c 3 t) (iblk m c 4 t) (iblk m c 5 t) (iblk m c 6 t) (iblk m c 7 t) (iblk m c 8 t) y1 y2).trans ?_
    exact congrArg₂ against (row_eq m c t y1) (funext fun k => iblk_4 m c t k _)

theorem array_19 (c : Dev nD) : (dats m 0 c).arrAt 19 cfg0.N = columnsK m c 4096 (by decide) :=
  (dats m 0 c).arrAt_eq_of_covers 19 (columnsK m c 4096 (by decide)) (by decide +kernel) fun t hf y => by
    blk_simp []
    rw [after0_19]
    idx_vars y
    obtain rfl : y0 = 0 := Subsingleton.elim _ _
    rw [emb_19]
    refine (out_gate (grid0.coords t) (iblk m c 0 t) (iblk m c 1 t) (iblk m c 2 t) (iblk m c 3 t) (iblk m c 4 t) (iblk m c 5 t) (iblk m c 6 t) (iblk m c 7 t) (iblk m c 8 t) y1 y2).trans ?_
    exact congrArg₂ against (row_eq m c t y1) (funext fun k => iblk_4 m c t k _)

/-- The arguments end as they were. -/
theorem kept {r} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h.in_eq c 0 rfl).trans ((A_eq m c 0).trans (V_main_arg0 m c)),
    (h.in_eq c 1 rfl).trans ((A_eq m c 1).trans (V_main_arg1 m c)),
    (h.in_eq c 2 rfl).trans ((A_eq m c 2).trans (V_main_arg2 m c)),
    (h.rest_eq c main_arg3 (Pipeline.mem_restRefs_of main_arg3 (by decide) (by decide))).trans (V_main_arg3 m c),
    (h.rest_eq c main_arg4 (Pipeline.mem_restRefs_of main_arg4 (by decide) (by decide))).trans (V_main_arg4 m c),
    (h.rest_eq c main_arg5 (Pipeline.mem_restRefs_of main_arg5 (by decide) (by decide))).trans (V_main_arg5 m c),
    (h.rest_eq c main_arg6 (Pipeline.mem_restRefs_of main_arg6 (by decide) (by decide))).trans (V_main_arg6 m c),
    (h.in_eq c 7 rfl).trans ((A_eq m c 7).trans (V_main_arg7 m c)),
    (h.in_eq c 8 rfl).trans ((A_eq m c 8).trans (V_main_arg8 m c))⟩

/-- The whole of what the run leaves, of the results stated. -/
theorem finished : θ_run defs (onTc (τ := τ) (main (F := Ideal))) ⟨m, fun _ => 0, ρ⟩ (fun r => ∀ c : Dev nD,
      r.2.mem ((c.tc : Thread nD τ).loc main_v5_0) = queriesK m c
      ∧ r.2.mem ((c.tc : Thread nD τ).loc main_v5_1) = keysK m c
      ∧ r.2.mem ((c.tc : Thread nD τ).loc main_v5_2) = columnsK m c 2048 (by decide)
      ∧ r.2.mem ((c.tc : Thread nD τ).loc main_v5_9) = columnsK m c 3072 (by decide)
      ∧ r.2.mem ((c.tc : Thread nD τ).loc main_v5_10) = columnsK m c 4096 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.out_eq c 9).trans (array_9 m c), (h.out_eq c 10).trans (array_10 m c),
    (h.out_eq c 11).trans (array_11 m c), (h.out_eq c 18).trans (array_18 m c), (h.out_eq c 19).trans (array_19 m c), kept m h c⟩) (run_main m ρ)

end Cert.InProjIdeal.Hand
-- ==== Proof.InProj.Reference.lean ====
/- The reference's projection read at an index. -/
module

public import proofs.«01_k».proof.Proof.InProj.Row
public import proofs.«01_k».proof.Proof.Gen.InReferenceIdeal.Run
public import proofs.«01_k».proof.Proof.Gen.InReferenceIdeal.Read
public import Idealize.ShloMosaic.Lib.Pointwise

@[expose] public section

set_option maxRecDepth 16384

noncomputable section

namespace Cert.InReferenceIdeal.Hand

open Cert.InReferenceIdeal Cert.InReferenceIdeal.Read Cert.InRow
open Idealize.ShloMosaic Idealize.ShloMosaic.TcCoe
open Idealize.SL Idealize.SL.Sem

variable (x0 : FVec Ideal S4x8192x2048 .f32) (x1 : FVec Ideal S2x8192x2048 .f32) (x2 : FVec Ideal S6x6x2048 .f32) (x3 : FVec Ideal S2048 .f32) (x4 : FVec Ideal S2048x5120 .f32)

theorem input_apply (s : Fin 6) (T : Fin 8192) (j : Fin 2048) : val_main_v0 (F := Ideal) x0 x1 (ix3 s T j) = input x0 x1 s T j := by
  unfold input
  pointwise [val_main_v0]

theorem token_apply (s : Fin 6) (T : Fin 8192) (j : Fin 2048) : val_main_v21 (F := Ideal) x0 x1 x2 x3 (ix3 s T j) = token x0 x1 x2 x3 s T j := by
  unfold token normed
  simp only [← input_apply]
  pointwise [val_main_v21, val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_cst, val_main_cst_0, val_main_cst_1, val_main_cst_2]

theorem projected_apply (s : Fin 6) (T : Fin 8192) (j : Fin 5120) : val_main_v22 (F := Ideal) x0 x1 x2 x3 x4 (ix3 s T j) = projected x0 x1 x2 x3 x4 s T j := by
  unfold projected against
  simp only [← token_apply]
  pointwise [val_main_v22]

theorem v_eq : val_main_v66 (F := Ideal) x0 x1 x2 x3 x4 = columns x0 x1 x2 x3 x4 2048 (by decide) := by
  funext y
  idx_vars y
  refine Eq.trans ?_ (projected_apply x0 x1 x2 x3 x4 _ _ _)
  pointwise [val_main_v66, val_main_v25]

theorem xb_eq : val_main_v26 (F := Ideal) x0 x1 x2 x3 x4 = columns x0 x1 x2 x3 x4 3072 (by decide) := by
  funext y
  idx_vars y
  refine Eq.trans ?_ (projected_apply x0 x1 x2 x3 x4 _ _ _)
  pointwise [val_main_v26]

theorem gate_eq : val_main_v67 (F := Ideal) x0 x1 x2 x3 x4 = columns x0 x1 x2 x3 x4 4096 (by decide) := by
  funext y
  idx_vars y
  refine Eq.trans ?_ (projected_apply x0 x1 x2 x3 x4 _ _ _)
  pointwise [val_main_v67, val_main_v27]

variable (x5 x6 : FVec Ideal S8192x64 .f32)

/-- A head of the queries before they are turned … -/
theorem heads_q (s : Fin 6) (T : Fin 8192) (d : Fin 8) (e : Fin 128) :
    val_main_v28 (F := Ideal) x0 x1 x2 x3 x4 (ix4 s T d e) = projected x0 x1 x2 x3 x4 s T ⟨0 + (128 * d.val + e.val), by omega⟩ := by
  refine (shapeCast_apply _ _ (ix4 s T d e) (ix3 s T ⟨128 * d.val + e.val, by omega⟩) ?_).trans ?_
  · rw [Shape.rowMajor_val_four, Shape.rowMajor_val_three]
    show (s.val * 8192 + T.val) * 1024 + (128 * d.val + e.val) = ((s.val * 8192 + T.val) * 8 + d.val) * 128 + e.val
    omega
  · rw [← projected_apply]
    pointwise [val_main_v23]

/-- … and of the keys. -/
theorem heads_k (s : Fin 6) (T : Fin 8192) (d : Fin 8) (e : Fin 128) :
    val_main_v46 (F := Ideal) x0 x1 x2 x3 x4 (ix4 s T d e) = projected x0 x1 x2 x3 x4 s T ⟨1024 + (128 * d.val + e.val), by omega⟩ := by
  refine (shapeCast_apply _ _ (ix4 s T d e) (ix3 s T ⟨128 * d.val + e.val, by omega⟩) ?_).trans ?_
  · rw [Shape.rowMajor_val_four, Shape.rowMajor_val_three]
    show (s.val * 8192 + T.val) * 1024 + (128 * d.val + e.val) = ((s.val * 8192 + T.val) * 8 + d.val) * 128 + e.val
    omega
  · rw [← projected_apply]
    pointwise [val_main_v24]

/-- A table of angles, laid along the sequences and the heads. -/
abbrev laid (t : FVec Ideal S8192x64 .f32) : FVec Ideal S6x8192x8x64 .f32 :=
  broadcastInDim S6x8192x8x64 ![0, 1, 2, 3] Facts₀.bcast_S1x8192x1x64_S6x8192x8x64_0_1_2_3 (broadcastInDim S1x8192x1x64 ![1, 3] Facts₀.bcast_S8192x64_S1x8192x1x64_1_3 t)

theorem laid_apply (t : FVec Ideal S8192x64 .f32) (s : Fin 6) (T : Fin 8192) (d : Fin 8) (e : Fin 64) : laid t (ix4 s T d e) = t (ix2 T e) := by
  unfold laid
  pointwise

/-- The halves of the heads. -/
abbrev lower (z : FVec Ideal S6x8192x8x128 .f32) : FVec Ideal S6x8192x8x64 .f32 := extractStridedSlice S6x8192x8x64 ![0, 0, 0, 0] z Facts₀.slices_S6x8192x8x128_S6x8192x8x64_0_0_0_0
@[inherit_doc lower]
abbrev upper (z : FVec Ideal S6x8192x8x128 .f32) : FVec Ideal S6x8192x8x64 .f32 := extractStridedSlice S6x8192x8x64 ![0, 0, 0, 64] z Facts₀.slices_S6x8192x8x128_S6x8192x8x64_0_0_0_64

theorem lower_apply (z : FVec Ideal S6x8192x8x128 .f32) (s : Fin 6) (T : Fin 8192) (d : Fin 8) (e : Fin 64) : lower z (ix4 s T d e) = z (ix4 s T d ⟨e.val, by omega⟩) := by
  unfold lower
  pointwise

theorem upper_apply (z : FVec Ideal S6x8192x8x128 .f32) (s : Fin 6) (T : Fin 8192) (d : Fin 8) (e : Fin 64) : upper z (ix4 s T d e) = z (ix4 s T d ⟨64 + e.val, by omega⟩) := by
  unfold upper
  pointwise

theorem beside (x y : FVec Ideal S6x8192x8x64 .f32) (h) (s : Fin 6) (T : Fin 8192) (d : Fin 8) (e : Fin 128) :
    concatenate S6x8192x8x128 3 [⟨S6x8192x8x64, x⟩, ⟨S6x8192x8x64, y⟩] h (ix4 s T d e) = if h : e.val < 64 then x (ix4 s T d ⟨e.val, h⟩) else y (ix4 s T d ⟨e.val - 64, by omega⟩) := by
  pointwise

/-- The two halves turned and laid side by side are the head turned. -/
theorem turn (z : FVec Ideal S6x8192x8x128 .f32) (t u : FVec Ideal S8192x64 .f32) (h) (s : Fin 6) (T : Fin 8192) (d : Fin 8) (e : Fin 128) :
    concatenate S6x8192x8x128 3 [⟨S6x8192x8x64, subf (mulf (lower z) (laid t)) (mulf (upper z) (laid u))⟩, ⟨S6x8192x8x64, addf (mulf (upper z) (laid t)) (mulf (lower z) (laid u))⟩] h (ix4 s T d e)
      = rotated (fun j => z (ix4 s T d j)) (fun j => t (ix2 T j)) (fun j => u (ix2 T j)) e := by
  rw [beside]
  unfold rotated
  by_cases h : e.val < 64
  · have i : (⟨64 + e.val, by omega⟩ : Fin 128) = ⟨e.val + 64, by omega⟩ := Fin.ext (Nat.add_comm _ _)
    rw [dif_pos h, dif_pos h]
    show lower z _ * laid t _ - upper z _ * laid u _ = _
    rw [lower_apply, upper_apply, laid_apply, laid_apply, i]
  · have i : (⟨64 + (e.val - 64), by omega⟩ : Fin 128) = e := Fin.ext (by show 64 + (e.val - 64) = e.val; omega)
    rw [dif_neg h, dif_neg h]
    show upper z _ * laid t _ + lower z _ * laid u _ = _
    rw [lower_apply, upper_apply, laid_apply, laid_apply, i]

theorem turned_q (s : Fin 6) (T : Fin 8192) (d : Fin 8) (e : Fin 128) :
    val_main_v43 (F := Ideal) x0 x1 x2 x3 x4 x5 x6 (ix4 s T d e) = turnedHead x0 x1 x2 x3 x4 x5 x6 0 (by decide) s T d e :=
  (turn (val_main_v28 (F := Ideal) x0 x1 x2 x3 x4) x5 x6 _ s T d e).trans
    (congrArg (fun z => rotated z _ _ e) (funext fun j => heads_q x0 x1 x2 x3 x4 s T d j))

theorem turned_k (s : Fin 6) (T : Fin 8192) (d : Fin 8) (e : Fin 128) :
    val_main_v61 (F := Ideal) x0 x1 x2 x3 x4 x5 x6 (ix4 s T d e) = turnedHead x0 x1 x2 x3 x4 x5 x6 1024 (by decide) s T d e :=
  (turn (val_main_v46 (F := Ideal) x0 x1 x2 x3 x4) x5 x6 _ s T d e).trans
    (congrArg (fun z => rotated z _ _ e) (funext fun j => heads_k x0 x1 x2 x3 x4 s T d j))

/-- Laying the heads side by side reads head `d` at its 128 places. -/
theorem flat (x : FVec Ideal S6x8192x8x128 .f32) (s : Fin 6) (T : Fin 8192) (d : Fin 8) (e : Fin 128) :
    shapeCast S6x8192x1024 x Facts₀.shapeCasts_S6x8192x8x128_S6x8192x1024 (ix3 s T ⟨128 * d.val + e.val, by omega⟩) = x (ix4 s T d e) := by
  refine shapeCast_apply _ _ _ (ix4 s T d e) ?_
  rw [Shape.rowMajor_val_four, Shape.rowMajor_val_three]
  show ((s.val * 8192 + T.val) * 8 + d.val) * 128 + e.val = (s.val * 8192 + T.val) * 1024 + (128 * d.val + e.val)
  omega

theorem flat_q (s : Fin 6) (T : Fin 8192) (d : Fin 8) (e : Fin 128) : val_main_v63 (F := Ideal) x0 x1 x2 x3 x4 x5 x6 (ix3 s T ⟨128 * d.val + e.val, by omega⟩)
    = val_main_v45 (F := Ideal) x0 x1 x2 x3 x4 x5 x6 (ix4 s T d e) := by
  rw [val_main_v63_apply]
  unfold val_main_v62
  exact flat _ s T d e

theorem flat_k (s : Fin 6) (T : Fin 8192) (d : Fin 8) (e : Fin 128) : val_main_v65 (F := Ideal) x0 x1 x2 x3 x4 x5 x6 (ix3 s T ⟨128 * d.val + e.val, by omega⟩)
    = val_main_v61 (F := Ideal) x0 x1 x2 x3 x4 x5 x6 (ix4 s T d e) := by
  rw [val_main_v65_apply]
  unfold val_main_v64
  exact flat _ s T d e

theorem scale (i : S6x8192x8x128.Idx) : val_main_v44 (F := Ideal) i = Ideal.ofBits .f32 0x3E0293EE#32 := rfl

theorem q_eq : val_main_v63 (F := Ideal) x0 x1 x2 x3 x4 x5 x6 = queries x0 x1 x2 x3 x4 x5 x6 := by
  funext y
  idx_vars y
  obtain ⟨d, e, rfl⟩ := split_head y2
  unfold queries
  rw [flat_q, turned_apply, val_main_v45_apply, turned_q, scale]
  rfl

theorem k_eq : val_main_v65 (F := Ideal) x0 x1 x2 x3 x4 x5 x6 = keys x0 x1 x2 x3 x4 x5 x6 := by
  funext y
  idx_vars y
  obtain ⟨d, e, rfl⟩ := split_head y2
  unfold keys
  rw [flat_k, turned_apply, turned_k]

variable (m : (ℓ : Loc nD τ sig) → Buf (Elt Ideal) ℓ) (ρ : Dev nD → PrngReg)

/-- The projection's columns from `n` on, of the launched operands. -/
def columnsR (c : Dev nD) (n : ℕ) (hn : n + 1024 ≤ 5120) : S6x8192x1024.Idx → EReal :=
  columns (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) n hn

/-- The queries and the keys of the launched operands. -/
def queriesR (c : Dev nD) : S6x8192x1024.Idx → EReal :=
  queries (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
@[inherit_doc queriesR]
def keysR (c : Dev nD) : S6x8192x1024.Idx → EReal :=
  keys (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- The whole of what the reference leaves. -/
theorem finished : θ_run defs (onTc (τ := τ) (main (F := Ideal))) ⟨m, fun _ => 0, ρ⟩ (fun r => ∀ c : Dev nD,
      r.2.mem ((c.tc : Thread nD τ).loc main_v63) = queriesR m c
      ∧ r.2.mem ((c.tc : Thread nD τ).loc main_v65) = keysR m c
      ∧ r.2.mem ((c.tc : Thread nD τ).loc main_v66) = columnsR m c 2048 (by decide)
      ∧ r.2.mem ((c.tc : Thread nD τ).loc main_v26) = columnsR m c 3072 (by decide)
      ∧ r.2.mem ((c.tc : Thread nD τ).loc main_v67) = columnsR m c 4096 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans ((val_main_v63_eq _ _).trans (q_eq _ _ _ _ _ _ _)),
    (h c).2.1.trans ((val_main_v65_eq _ _).trans (k_eq _ _ _ _ _ _ _)),
    (h c).2.2.1.trans ((val_main_v66_eq _ _ _ _ _).trans (v_eq _ _ _ _ _)),
    (h c).2.2.2.1.trans ((val_main_v26_eq _ _ _ _ _).trans (xb_eq _ _ _ _ _)),
    (h c).2.2.2.2.1.trans ((val_main_v67_eq _ _ _ _ _).trans (gate_eq _ _ _ _ _)), (h c).2.2.2.2.2⟩) (Value.run m ρ)

end Cert.InReferenceIdeal.Hand
-- ==== Proof.OutProj.Gelu.lean ====
/- The gate's nonlinearity by a power of two, as the kernel takes it, and by the hyperbolic tangent, as the reference does. -/
module

public import Idealize.ShloMosaic.Lib.KernelVsHost
public import Idealize.ShloMosaic.Lib.IdealHost
public import Mathlib.Analysis.SpecialFunctions.Pow.Real

@[expose] public section

noncomputable section

namespace Cert.OutRow

open Idealize.ShloMosaic

/-- The root of two over pi and the cubic term's factor, as f32 has them. -/
def rootR : ℝ := 6693141 / 8388608
@[inherit_doc rootR]
def cubicR : ℝ := 12003091 / 268435456

/-- By the hyperbolic tangent. -/
def gelu (x : EReal) : EReal := x * (((1 / 2 : ℝ) : EReal) * (1 + Ideal.tanh ((rootR : EReal) * (x + (cubicR : EReal) * (x * x * x)))))

/-- The two factors of the power's exponent. -/
def slopeR : ℝ := (-6693141 / 4194304) * (Real.log 2)⁻¹
@[inherit_doc slopeR]
def slopeCubicR : ℝ := ((-6693141 / 4194304) * (Real.log 2)⁻¹) * (12003091 / 268435456)

/-- By a power of two. -/
def geluPow (x : EReal) : EReal := x * Ideal.div 1 (1 + Ideal.exp2 (x * ((slopeR : EReal) + (slopeCubicR : EReal) * (x * x))))

theorem log_two_pos : 0 < Real.log 2 := Real.log_pos (by norm_num)

theorem slopeCubic_neg : slopeCubicR < 0 := by
  unfold slopeCubicR
  have := inv_pos.mpr log_two_pos
  nlinarith

/-- On the reals: the logistic function of twice an angle, halved and shifted, is the tangent. -/
theorem gelu_real (r : ℝ) : 1 / (1 + Real.rpow 2 (r * (slopeR + slopeCubicR * (r * r)))) = 1 / 2 * (1 + Real.tanh (rootR * (r + cubicR * (r * r * r)))) := by
  set u := rootR * (r + cubicR * (r * r * r)) with hu
  have e : Real.rpow 2 (r * (slopeR + slopeCubicR * (r * r))) = Real.exp (-u) / Real.exp u := by
    rw [← Real.exp_sub]
    refine (Real.rpow_def_of_pos (by norm_num : (0 : ℝ) < 2) _).trans (congrArg Real.exp ?_)
    have h := log_two_pos.ne'
    rw [hu]
    unfold slopeR slopeCubicR rootR cubicR
    field_simp
    ring
  have p := Real.exp_pos u
  have q := Real.exp_pos (-u)
  rw [e, Real.tanh_eq_sinh_div_cosh, Real.sinh_eq, Real.cosh_eq]
  have s : Real.exp u + Real.exp (-u) ≠ 0 := by positivity
  field_simp
  ring

theorem gelu_eq (x : EReal) : geluPow x = gelu x := by
  have hb : (slopeCubicR : EReal) * ⊤ = ⊥ := EReal.coe_mul_top_of_neg slopeCubic_neg
  have hd : (cubicR : EReal) * ⊤ = ⊤ := EReal.coe_mul_top_of_pos (by unfold cubicR; norm_num)
  have hd' : (cubicR : EReal) * ⊥ = ⊥ := EReal.coe_mul_bot_of_pos (by unfold cubicR; norm_num)
  have hc : (rootR : EReal) * ⊤ = ⊤ := EReal.coe_mul_top_of_pos (by unfold rootR; norm_num)
  have hc' : (rootR : EReal) * ⊥ = ⊥ := EReal.coe_mul_bot_of_pos (by unfold rootR; norm_num)
  unfold geluPow gelu
  induction x using EReal.rec with
  | bot =>
    rw [EReal.bot_mul_bot, hb, EReal.add_bot, EReal.bot_mul_bot, EReal.top_mul_bot, hd', EReal.add_bot, hc']
    show ⊥ * Ideal.div 1 (1 + ⊤) = ⊥ * (_ * (1 + -1))
    have z : (1 : EReal) + -1 = 0 := by
      rw [← EReal.coe_one, ← EReal.coe_neg, ← EReal.coe_add]; norm_num
    rw [z, EReal.add_top_of_ne_bot (by decide)]
    unfold Ideal.div
    simp
  | top =>
    rw [EReal.top_mul_top, hb, EReal.add_bot, EReal.top_mul_bot, EReal.top_mul_top, hd, EReal.top_add_top, hc]
    show ⊤ * Ideal.div 1 (1 + 0) = ⊤ * (_ * (1 + 1))
    have z : ((1 / 2 : ℝ) : EReal) * (1 + 1) = 1 := by
      rw [← EReal.coe_one, ← EReal.coe_add, ← EReal.coe_mul]; norm_num
    rw [z, add_zero]
    unfold Ideal.div
    simp
  | coe r =>
    have h : (1 : EReal) + Ideal.exp2 ((r : EReal) * ((slopeR : EReal) + (slopeCubicR : EReal) * ((r : EReal) * r)))
        = ((1 + Real.rpow 2 (r * (slopeR + slopeCubicR * (r * r))) : ℝ) : EReal) := by
      simp only [← EReal.coe_mul, ← EReal.coe_add]
      rfl
    have n : (1 + Real.rpow 2 (r * (slopeR + slopeCubicR * (r * r))) : ℝ) ≠ 0 := by
      have : 0 < Real.rpow 2 (r * (slopeR + slopeCubicR * (r * r))) := Real.rpow_pos_of_pos (by norm_num) _
      positivity
    have t : (1 : EReal) + Ideal.tanh ((rootR : EReal) * ((r : EReal) + (cubicR : EReal) * ((r : EReal) * r * r)))
        = ((1 + Real.tanh (rootR * (r + cubicR * (r * r * r))) : ℝ) : EReal) := by
      simp only [← EReal.coe_mul, ← EReal.coe_add]
      rfl
    rw [h, t, Ideal.div_coe n, one_mul, gelu_real, ← EReal.coe_mul, ← EReal.coe_mul, ← EReal.coe_mul]

theorem root_word : Ideal.ofBits .f32 0x3F4C422A#32 = (rootR : EReal) := by
  unfold rootR
  simp [Ideal.ofBits, Ideal.ieee, -EReal.coe_mul]
  norm_num
theorem cubic_word : Ideal.ofBits .f32 0x3D372713#32 = (cubicR : EReal) := by
  unfold cubicR
  simp [Ideal.ofBits, Ideal.ieee, -EReal.coe_mul]
  norm_num
theorem half_word : Ideal.ofBits .f32 0x3F000000#32 = ((1 / 2 : ℝ) : EReal) := by
  simp [Ideal.ofBits, Ideal.ieee, -EReal.coe_mul]
  norm_num

end Cert.OutRow
-- ==== Proof.OutProj.Row.lean ====
/- One row of the block's output: the two mixers' rows, each over the root of its mean square, through the output projection and added to the input; and that sum normalised and modulated again. -/
module

public import proofs.«01_k».proof.Proof.OutProj.Gelu
public import Idealize.ShloMosaic.Lib.Pointwise

@[expose] public section

noncomputable section

namespace Cert.OutRow

open Idealize.ShloMosaic

/-- The row `x` of `len` numbers over the root of its mean square, times the gain `g`. -/
def gained {n : ℕ} (len : BitVec 32) (x g : Fin n → EReal) (k : Fin n) : EReal :=
  x k * Ideal.rsqrt (Ideal.div (∑ j, x j * x j) (Ideal.ofBits .f32 len) + Ideal.ofBits .f32 0x358637BD#32) * g k

/-- The second mixer's row: the recurrence's two directions, gated. -/
def gatedRow (f b z : Fin 1024 → EReal) (k : Fin 1024) : EReal := (f k + b k) * gelu (z k)

/-- Two rows of half the width against the two halves of a column. -/
def halves (u v : Fin 1024 → EReal) (w : Fin 2048 → EReal) : EReal :=
  ∑ k, u k * w ⟨k.val, by omega⟩ + ∑ k, v k * w ⟨1024 + k.val, by omega⟩

/-- Two rows side by side. -/
def joined (u v : Fin 1024 → EReal) (k : Fin 2048) : EReal := if h : k.val < 1024 then u ⟨k.val, h⟩ else v ⟨k.val - 1024, by omega⟩

theorem joined_sum (u v : Fin 1024 → EReal) (w : Fin 2048 → EReal) : ∑ k, joined u v k * w k = halves u v w := by
  refine (Fin.sum_univ_add (fun k : Fin (1024 + 1024) => joined u v k * w k)).trans ?_
  unfold halves
  refine congrArg₂ (· + ·) (Finset.sum_congr rfl fun k _ => ?_) (Finset.sum_congr rfl fun k _ => ?_)
  · have e : joined u v (Fin.castAdd 1024 k : Fin (1024 + 1024)) = u k := dif_pos (show k.val < 1024 from k.isLt)
    rw [e]
    rfl
  · have e : joined u v (Fin.natAdd 1024 k : Fin (1024 + 1024)) = v k := by
      refine (dif_neg (show ¬1024 + k.val < 1024 by omega)).trans (congrArg v (Fin.ext ?_))
      show 1024 + k.val - 1024 = k.val
      omega
    rw [e]
    rfl

/-- The first result's row: the input and the gated projection of the two mixers' rows. -/
def mixedRow (x s : Fin 2048 → EReal) (u v : Fin 1024 → EReal) (w : (⟨2, ![2048, 2048]⟩ : Shape).Idx → EReal) (j : Fin 2048) : EReal :=
  x j + s j * halves u v (fun k => w (ix2 k j))

/-- A row normalised, gained, and modulated by the scale `c` and the shift `s`. -/
def modulated (x g s c : Fin 2048 → EReal) (k : Fin 2048) : EReal := gained 0x45000000#32 x g k * (1 + c k) + s k

variable (att hf hb z : (⟨3, ![6, 8192, 1024]⟩ : Shape).Idx → EReal)
  (a : (⟨3, ![4, 8192, 2048]⟩ : Shape).Idx → EReal) (b : (⟨3, ![2, 8192, 2048]⟩ : Shape).Idx → EReal) (md : (⟨3, ![6, 6, 2048]⟩ : Shape).Idx → EReal)
  (ga gl : (⟨1, ![1024]⟩ : Shape).Idx → EReal) (w : (⟨2, ![2048, 2048]⟩ : Shape).Idx → EReal) (g : (⟨1, ![2048]⟩ : Shape).Idx → EReal)

/-- The layer's input: the four sequences of the first operand, then the two of the second. -/
def source (s : Fin 6) (T : Fin 8192) (j : Fin 2048) : EReal :=
  if h : s.val < 4 then a (ix3 ⟨s.val, h⟩ T j) else b (ix3 ⟨s.val - 4, by omega⟩ T j)

/-- The first mixer's row of a token … -/
def firstMixer (s : Fin 6) (T : Fin 8192) : Fin 1024 → EReal := gained 0x44800000#32 (fun k => att (ix3 s T k)) (fun k => ga (ix1 k))
/-- … and the second's. -/
def secondMixer (s : Fin 6) (T : Fin 8192) : Fin 1024 → EReal :=
  gained 0x44800000#32 (gatedRow (fun k => hf (ix3 s T k)) (fun k => hb (ix3 s T k)) (fun k => z (ix3 s T k))) (fun k => gl (ix1 k))

/-- A token after the mixers. -/
def after (s : Fin 6) (T : Fin 8192) : Fin 2048 → EReal :=
  mixedRow (source a b s T) (fun j => md (ix3 s 2 j)) (firstMixer att ga s T) (secondMixer hf hb z gl s T) w

/-- The same, normalised and modulated for what follows. -/
def afterModulated (s : Fin 6) (T : Fin 8192) : Fin 2048 → EReal :=
  modulated (after att hf hb z a b md ga gl w s T) (fun j => g (ix1 j)) (fun j => md (ix3 s 3 j)) (fun j => md (ix3 s 4 j))

/-- The first result: every token after the mixers. -/
def firstResult : (⟨3, ![6, 8192, 2048]⟩ : Shape).Idx → EReal := fun y => after att hf hb z a b md ga gl w (y 0) (y 1) (y 2)

/-- The second: its normalised form, a column per token, sequence after sequence. -/
def secondResult : (⟨2, ![2048, 49152]⟩ : Shape).Idx → EReal := fun y =>
  afterModulated att hf hb z a b md ga gl w g ⟨(y 1).val / 8192, by have : (y 1).val < 49152 := (y 1).isLt; omega⟩ ⟨(y 1).val % 8192, by omega⟩ (y 0)

theorem secondResult_apply (s : Fin 6) (T : Fin 8192) (k : Fin 2048) (n : Fin 49152) (h : n.val = 8192 * s.val + T.val) :
    secondResult att hf hb z a b md ga gl w g (ix2 k n) = afterModulated att hf hb z a b md ga gl w g s T k := by
  have e : (⟨n.val / 8192, by omega⟩ : Fin 6) = s := Fin.ext (by show n.val / 8192 = s.val; omega)
  have f : (⟨n.val % 8192, by omega⟩ : Fin 8192) = T := Fin.ext (by show n.val % 8192 = T.val; omega)
  show afterModulated att hf hb z a b md ga gl w g ⟨n.val / 8192, _⟩ ⟨n.val % 8192, _⟩ k = _
  rw [e, f]

end Cert.OutRow
-- ==== Proof.OutProj.Point.lean ====
/- The values of one grid point of the output projection, read at an index. -/
module

public import proofs.«01_k».proof.Proof.OutProj.Row
public import proofs.«01_k».proof.Proof.Gen.OutProjIdeal.Frame
public import Idealize.ShloMosaic.Lib.Pipeline.Value
public import Idealize.ShloMosaic.Lib.ValueIdx
public import Idealize.ShloMosaic.Lib.KernelVsHost
public import Idealize.ShloMosaic.Lib.MatmulPlain
public import Idealize.ShloMosaic.Lib.IdealHost
public import Idealize.ShloMosaic.Lib.Pointwise
public import Idealize.ShloMosaic.Lib.Pipeline.ValueKit.Tiles
public import Idealize.ShloMosaic.Lib.Pipeline.ValueKit.Geometry

@[expose] public section

set_option maxRecDepth 16384

noncomputable section

namespace Cert.OutProjIdeal.Hand

open Cert.OutProjIdeal Cert.OutProjIdeal.Gen Cert.OutRow
open Idealize.ShloMosaic Idealize.ShloMosaic.TcCoe
open Idealize.SL Idealize.SL.Sem

theorem named_slope : Named.named (F := Ideal) (φ := .f32) κ "slope" 0xC0135761#32 = (slopeR : EReal) :=
  IdealRules.named_const.ideal_named_scalar _ _ _ _ rfl
theorem named_slope_cubic : Named.named (F := Ideal) (φ := .f32) κ "slope_cubic" 0xBDD2D3E8#32 = (slopeCubicR : EReal) :=
  IdealRules.named_const.ideal_named_scalar _ _ _ _ rfl

/-- The test of the batch: the first four sequences come from the first operand. -/
theorem first_four : ∀ a : Fin 6, Scalar.cmpi .slt (BitVec.ofNat 32 a.val) 4#32 = if a.val < 4 then 1#1 else 0#1 := by decide

theorem attention_row (v5 : Vec Ideal S1x512x1024 .bf16) (v8 : Vec Ideal S1x1024 .f32) (r : Fin 512) (k : Fin 1024) :
    k0_pay7 (F := Ideal) v5 v8 (ix2 r k) = gained 0x44800000#32 (fun j => v5 (ix3 0 r j)) (fun j => v8 (ix2 0 j)) k := by
  unfold gained
  pointwise [k0_pay7]

theorem both_ways (v22 v24 : Vec Ideal S1x512x1024 .f32) (r : Fin 512) (k : Fin 1024) :
    k0_pay8 (F := Ideal) v22 v24 (ix2 r k) = v22 (ix3 0 r k) + v24 (ix3 0 r k) := by
  pointwise [k0_pay8]

theorem gate_row (v27 : Vec Ideal S1x512x1024 .bf16) (r : Fin 512) (k : Fin 1024) : k0_pay9 (F := Ideal) v27 (ix2 r k) = v27 (ix3 0 r k) := by
  pointwise [k0_pay9]

theorem exponent (v27 : Vec Ideal S1x512x1024 .bf16) (r : Fin 512) (k : Fin 1024) : k0_pay10 (F := Ideal) v27 (ix2 r k)
    = v27 (ix3 0 r k) * ((slopeR : EReal) + (slopeCubicR : EReal) * (v27 (ix3 0 r k) * v27 (ix3 0 r k))) := by
  have e := gate_row v27 r k
  unfold k0_pay10
  generalize k0_pay9 (F := Ideal) v27 = z at e ⊢
  rw [← e, named_slope, named_slope_cubic]
  pointwise

theorem scale_row (v : Vec Ideal S1x6x2048 .f32) (j : Fin 2048) : k0_pay4 (F := Ideal) v (ix2 0 j) = v (ix3 0 2 j) := by
  pointwise [k0_pay4, k0_pay3]
theorem shift_row (v : Vec Ideal S1x6x2048 .f32) (j : Fin 2048) : k0_pay5 (F := Ideal) v (ix2 0 j) = v (ix3 0 3 j) := by
  pointwise [k0_pay5, k0_pay3]
theorem factor_row (v : Vec Ideal S1x6x2048 .f32) (j : Fin 2048) : k0_pay6 (F := Ideal) v (ix2 0 j) = v (ix3 0 4 j) := by
  pointwise [k0_pay6, k0_pay3]

/-- The sum of the input and the gated product, from the rows the point has formed. -/
theorem sum_row (i : grid0.Coords) (v2 : FVec Ideal S1x2048 .f32) (v21 v26 v29 v35 : FVec Ideal S512x1024 .f32) (v43 : Vec Ideal S1x1024 .f32)
    (v58 v62 : Vec Ideal S1024x2048 .bf16) (v67 v69 : Vec Ideal S1x512x2048 .f32) (r : Fin 512) (j : Fin 2048) :
    k0_pay11 (F := Ideal) (BitVec.ofNat 32 (i 0).val) v2 v21 v26 v29 v35 v43 v58 v62 v67 v69 (ix2 r j)
      = (if (i 0).val < 4 then v67 (ix3 0 r j) else v69 (ix3 0 r j)) + v2 (ix2 0 j) * (∑ k, v21 (ix2 r k) * v58 (ix2 k j)
        + ∑ k, gained 0x44800000#32 (fun k => v26 (ix2 r k) * (v29 (ix2 r k) * Ideal.div 1 (1 + Ideal.exp2 (v35 (ix2 r k))))) (fun k => v43 (ix2 0 k)) k * v62 (ix2 k j)) := by
  have e := first_four (i 0)
  unfold gained
  by_cases h : (i 0).val < 4
  · rw [if_pos h] at e
    simp only [if_pos h]
    unfold k0_pay11
    rw [e]
    pointwise
    rfl
  · rw [if_neg h] at e
    simp only [if_neg h]
    unfold k0_pay11
    rw [e]
    pointwise
    rfl

theorem modulated_row (v3 v4 : FVec Ideal S1x2048 .f32) (v74 : FVec Ideal S512x2048 .f32) (v78 : Vec Ideal S1x2048 .f32) (k : Fin 2048) (r : Fin 512) :
    k0_pay2 (F := Ideal) v3 v4 v74 v78 (ix2 k r) = modulated (fun j => v74 (ix2 r j)) (fun j => v78 (ix2 0 j)) (fun j => v3 (ix2 0 j)) (fun j => v4 (ix2 0 j)) k := by
  unfold modulated gained
  pointwise [k0_pay2]

theorem laid_out (v74 : FVec Ideal S512x2048 .f32) (r : Fin 512) (j : Fin 2048) : k0_pay1 (F := Ideal) v74 (ix3 0 r j) = v74 (ix2 r j) := by
  pointwise [k0_pay1]

section out

variable (i : grid0.Coords) (x0 : Vec Ideal S1x512x1024 .bf16) (x1 x2 : Vec Ideal S1x512x1024 .f32) (x3 : Vec Ideal S1x512x1024 .bf16)
  (x4 x5 : Vec Ideal S1x512x2048 .f32) (x6 : Vec Ideal S1x6x2048 .f32) (x7 x8 : Vec Ideal S1x1024 .f32) (x9 : Vec Ideal S2048x2048 .bf16) (x10 : Vec Ideal S1x2048 .f32)

theorem zeros2 : (![0, 0] : Fin 2 → ℕ) = fun _ => 0 := by decide
theorem zeros3 : (![0, 0, 0] : Fin 3 → ℕ) = fun _ => 0 := by decide

/-- The point's row after the mixers, from its windows. -/
def rowOf (r : Fin 512) : Fin 2048 → EReal :=
  mixedRow (fun j => if (i 0).val < 4 then x4 (ix3 0 r j) else x5 (ix3 0 r j)) (fun j => x6 (ix3 0 2 j))
    (gained 0x44800000#32 (fun k => x0 (ix3 0 r k)) (fun k => x7 (ix2 0 k)))
    (gained 0x44800000#32 (gatedRow (fun k => x1 (ix3 0 r k)) (fun k => x2 (ix3 0 r k)) (fun k => x3 (ix3 0 r k))) (fun k => x8 (ix2 0 k))) x9

theorem rows (r : Fin 512) (j : Fin 2048) : k0_pay12 (F := Ideal) i x0 x1 x2 x3 x4 x5 x6 x7 x8 x9 x10 (ix2 r j) = rowOf i x0 x1 x2 x3 x4 x5 x6 x7 x8 x9 r j := by
  unfold k0_pay12
  rw [show View.ld x6 r0_0 = x6 from View.ld_unit_zero zeros3 .., show View.ld x0 r0_1 = x0 from View.ld_unit_zero zeros3 .., show View.ld x7 r0_2 = x7 from View.ld_unit_zero zeros2 ..,
    show View.ld x1 r0_1 = x1 from View.ld_unit_zero zeros3 .., show View.ld x2 r0_1 = x2 from View.ld_unit_zero zeros3 .., show View.ld x3 r0_1 = x3 from View.ld_unit_zero zeros3 ..,
    show View.ld x8 r0_2 = x8 from View.ld_unit_zero zeros2 .., show View.ld x4 r0_5 = x4 from View.ld_unit_zero zeros3 .., show View.ld x5 r0_5 = x5 from View.ld_unit_zero zeros3 ..]
  refine (sum_row i _ _ _ _ _ _ _ _ _ _ r j).trans ?_
  unfold rowOf mixedRow halves
  rw [scale_row x6 j]
  refine congrArg₂ (· + ·) rfl (congrArg₂ (· * ·) rfl (congrArg₂ (· + ·) (Finset.sum_congr rfl fun k _ => ?_) (Finset.sum_congr rfl fun k _ => ?_)))
  · rw [attention_row]
    refine congrArg₂ (· * ·) rfl ?_
    exact View.ld_unit_apply_of x9 _ _ _ _ (ix2 (⟨k.val, by omega⟩ : Fin 2048) j) (fun a => by fin_cases a <;> simp)
  · refine congrArg₂ (· * ·) (congrFun (congrArg (fun x => gained 0x44800000#32 x _) (funext fun q => ?_)) k) ?_
    · rw [both_ways, gate_row, exponent]
      exact congrArg₂ (· * ·) rfl (gelu_eq _)
    · exact View.ld_unit_apply_of x9 _ _ _ _ (ix2 (⟨1024 + k.val, by omega⟩ : Fin 2048) j) (fun a => by fin_cases a <;> simp)

theorem out_first (r : Fin 512) (j : Fin 2048) : out0_11 (F := Ideal) i x0 x1 x2 x3 x4 x5 x6 x7 x8 x9 x10 (ix3 0 r j) = rowOf i x0 x1 x2 x3 x4 x5 x6 x7 x8 x9 r j := by
  unfold out0_11
  rw [View.canon_unit_zero zeros3, laid_out]
  exact rows i x0 x1 x2 x3 x4 x5 x6 x7 x8 x9 x10 r j

theorem out_second (k : Fin 2048) (r : Fin 512) : out0_12 (F := Ideal) i x0 x1 x2 x3 x4 x5 x6 x7 x8 x9 x10 (ix2 k r)
    = modulated (rowOf i x0 x1 x2 x3 x4 x5 x6 x7 x8 x9 r) (fun j => x10 (ix2 0 j)) (fun j => x6 (ix3 0 3 j)) (fun j => x6 (ix3 0 4 j)) k := by
  unfold out0_12
  rw [View.canon_unit_zero zeros2, View.ld_unit_zero zeros3, View.ld_unit_zero zeros2, modulated_row]
  refine congrFun (congr (congr (congrArg (fun x => modulated x fun j => x10 (ix2 0 j)) (funext fun j => ?_)) (funext fun j => shift_row x6 j)) (funext fun j => factor_row x6 j)) k
  exact rows i x0 x1 x2 x3 x4 x5 x6 x7 x8 x9 x10 r j

end out

end Cert.OutProjIdeal.Hand
-- ==== Proof.OutProj.Blocks.lean ====
/- What a grid point's windows hold of the launched operands, and where its output blocks lie. -/
module

public import proofs.«01_k».proof.Proof.OutProj.Point

@[expose] public section

set_option maxRecDepth 16384

noncomputable section

namespace Cert.OutProjIdeal.Hand

open Cert.OutProjIdeal Cert.OutProjIdeal.Gen Cert.OutRow
open Idealize.ShloMosaic Idealize.ShloMosaic.TcCoe
open Idealize.SL Idealize.SL.Sem

variable (m : (ℓ : Loc nD τ sig) → Buf (Elt Ideal) ℓ)

theorem points (t : Fin cfg0.N) : t.val < 96 := N_0 ▸ t.isLt

/-- The sequence a point is in … -/
def seqOf (t : Fin cfg0.N) : Fin 6 := ⟨t.val / 16, by have := points t; omega⟩
/-- … the token of its row `r` … -/
def tokOf (t : Fin cfg0.N) (r : Fin 512) : Fin 8192 := ⟨512 * (t.val % 16) + r.val, by omega⟩
/-- … and that token's column in the second result. -/
def colOf (t : Fin cfg0.N) (r : Fin 512) : Fin 49152 := ⟨512 * t.val + r.val, by have := points t; omega⟩

theorem colOf_eq (t : Fin cfg0.N) (r : Fin 512) : (colOf t r).val = 8192 * (seqOf t).val + (tokOf t r).val := by
  show 512 * t.val + r.val = 8192 * (t.val / 16) + (512 * (t.val % 16) + r.val)
  omega

theorem coord_0 : ∀ t : Fin cfg0.N, ((grid0.coords t) 0).val = t.val / 16 := (by decide +kernel : ∀ t : Fin grid0.N, _)

theorem index_0 : ∀ t : Fin cfg0.N, win0_0.index t = ![t.val / 16, t.val % 16, 0] := (by decide +kernel : ∀ t : Fin grid0.N, _)
theorem index_1 : ∀ t : Fin cfg0.N, win0_1.index t = ![t.val / 16, t.val % 16, 0] := (by decide +kernel : ∀ t : Fin grid0.N, _)
theorem index_2 : ∀ t : Fin cfg0.N, win0_2.index t = ![t.val / 16, t.val % 16, 0] := (by decide +kernel : ∀ t : Fin grid0.N, _)
theorem index_3 : ∀ t : Fin cfg0.N, win0_3.index t = ![t.val / 16, t.val % 16, 0] := (by decide +kernel : ∀ t : Fin grid0.N, _)
theorem index_11 : ∀ t : Fin cfg0.N, win0_11.index t = ![t.val / 16, t.val % 16, 0] := (by decide +kernel : ∀ t : Fin grid0.N, _)
theorem index_4 : ∀ t : Fin cfg0.N, win0_4.index t = ![min (t.val / 16) 3, if t.val / 16 < 4 then t.val % 16 else 15, 0] := (by decide +kernel : ∀ t : Fin grid0.N, _)
theorem index_5 : ∀ t : Fin cfg0.N, win0_5.index t = ![t.val / 16 - 4, if t.val / 16 < 4 then 0 else t.val % 16, 0] := (by decide +kernel : ∀ t : Fin grid0.N, _)
theorem index_6 : ∀ t : Fin cfg0.N, win0_6.index t = ![t.val / 16, 0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_12 : ∀ t : Fin cfg0.N, win0_12.index t = ![0, t.val] := (by decide +kernel : ∀ t : Fin grid0.N, _)

theorem iblk_0 (c : Dev nD) (t : Fin cfg0.N) (r : Fin 512) (j : Fin 1024) :
    iblk m c 0 t (ix3 (0 : Fin 1) r j : S1x512x1024.Idx) = m ((c : Thread nD τ).loc main_arg0) (ix3 (seqOf t) (tokOf t r) j) := by
  rw [← V_main_arg0 m c]
  blk_simp [iblk]
  congr 1
  blk_ext [index_0, seqOf, tokOf]

theorem iblk_1 (c : Dev nD) (t : Fin cfg0.N) (r : Fin 512) (j : Fin 1024) :
    iblk m c 1 t (ix3 (0 : Fin 1) r j : S1x512x1024.Idx) = m ((c : Thread nD τ).loc main_arg1) (ix3 (seqOf t) (tokOf t r) j) := by
  rw [← V_main_arg1 m c]
  blk_simp [iblk]
  congr 1
  blk_ext [index_1, seqOf, tokOf]

theorem iblk_2 (c : Dev nD) (t : Fin cfg0.N) (r : Fin 512) (j : Fin 1024) :
    iblk m c 2 t (ix3 (0 : Fin 1) r j : S1x512x1024.Idx) = m ((c : Thread nD τ).loc main_arg2) (ix3 (seqOf t) (tokOf t r) j) := by
  rw [← V_main_arg2 m c]
  blk_simp [iblk]
  congr 1
  blk_ext [index_2, seqOf, tokOf]

theorem iblk_3 (c : Dev nD) (t : Fin cfg0.N) (r : Fin 512) (j : Fin 1024) :
    iblk m c 3 t (ix3 (0 : Fin 1) r j : S1x512x1024.Idx) = m ((c : Thread nD τ).loc main_arg3) (ix3 (seqOf t) (tokOf t r) j) := by
  rw [← V_main_arg3 m c]
  blk_simp [iblk]
  congr 1
  blk_ext [index_3, seqOf, tokOf]

/-- A point of the first four sequences reads the first operand … -/
theorem iblk_4 (c : Dev nD) (t : Fin cfg0.N) (r : Fin 512) (j : Fin 2048) (h : (seqOf t).val < 4) :
    iblk m c 4 t (ix3 (0 : Fin 1) r j : S1x512x2048.Idx) = m ((c : Thread nD τ).loc main_arg4) (ix3 ⟨(seqOf t).val, h⟩ (tokOf t r) j) := by
  have h' : t.val / 16 < 4 := h
  rw [← V_main_arg4 m c]
  blk_simp [iblk]
  congr 1
  blk_ext [index_4, seqOf, tokOf, if_pos h']

/-- … and one of the last two the second. -/
theorem iblk_5 (c : Dev nD) (t : Fin cfg0.N) (r : Fin 512) (j : Fin 2048) (h : ¬(seqOf t).val < 4) :
    iblk m c 5 t (ix3 (0 : Fin 1) r j : S1x512x2048.Idx) = m ((c : Thread nD τ).loc main_arg5) (ix3 ⟨(seqOf t).val - 4, by omega⟩ (tokOf t r) j) := by
  have h' : ¬t.val / 16 < 4 := h
  rw [← V_main_arg5 m c]
  blk_simp [iblk]
  congr 1
  blk_ext [index_5, seqOf, tokOf, if_neg h']

theorem iblk_6 (c : Dev nD) (t : Fin cfg0.N) (n : Fin 6) (j : Fin 2048) :
    iblk m c 6 t (ix3 (0 : Fin 1) n j : S1x6x2048.Idx) = m ((c : Thread nD τ).loc main_arg6) (ix3 (seqOf t) n j) := by
  rw [← V_main_arg6 m c]
  blk_simp [iblk]
  congr 1
  blk_ext [index_6, seqOf]

theorem V_gain_7 (c : Dev nD) : V m c main_v0 = broadcastInDim S1x1024 ![1] Facts₀.bcast_S1024_S1x1024_1 (m ((c : Thread nD τ).loc main_arg7) : FVec Ideal S1024 .f32) := by
  show StableHlo.after hostOps0 _ (Proc.devRef .tc main_v0) = _
  after_results

theorem iblk_7 (c : Dev nD) (t : Fin cfg0.N) (j : Fin 1024) : iblk m c 7 t (ix2 (0 : Fin 1) j : S1x1024.Idx) = m ((c : Thread nD τ).loc main_arg7) (ix1 j) := by
  have e : V m c main_v0 (ix2 (0 : Fin 1) j : S1x1024.Idx) = (m ((c : Thread nD τ).loc main_arg7)) (ix1 j) := by
    rw [V_gain_7]
    exact broadcastInDim_apply _ _ _ _ _ (fun a => by fin_cases a; rfl)
  refine Eq.trans ?_ e
  blk_simp [iblk]
  congr 1
  blk_ext [index_7]

theorem V_gain_8 (c : Dev nD) : V m c main_v1 = broadcastInDim S1x1024 ![1] Facts₀.bcast_S1024_S1x1024_1 (m ((c : Thread nD τ).loc main_arg8) : FVec Ideal S1024 .f32) := by
  show StableHlo.after hostOps0 _ (Proc.devRef .tc main_v1) = _
  after_results

theorem iblk_8 (c : Dev nD) (t : Fin cfg0.N) (j : Fin 1024) : iblk m c 8 t (ix2 (0 : Fin 1) j : S1x1024.Idx) = m ((c : Thread nD τ).loc main_arg8) (ix1 j) := by
  have e : V m c main_v1 (ix2 (0 : Fin 1) j : S1x1024.Idx) = (m ((c : Thread nD τ).loc main_arg8)) (ix1 j) := by
    rw [V_gain_8]
    exact broadcastInDim_apply _ _ _ _ _ (fun a => by fin_cases a; rfl)
  refine Eq.trans ?_ e
  blk_simp [iblk]
  congr 1
  blk_ext [index_8]

theorem V_gain_10 (c : Dev nD) : V m c main_v3 = broadcastInDim S1x2048 ![1] Facts₀.bcast_S2048_S1x2048_1 (m ((c : Thread nD τ).loc main_arg10) : FVec Ideal S2048 .f32) := by
  show StableHlo.after hostOps0 _ (Proc.devRef .tc main_v3) = _
  after_results

theorem iblk_10 (c : Dev nD) (t : Fin cfg0.N) (j : Fin 2048) : iblk m c 10 t (ix2 (0 : Fin 1) j : S1x2048.Idx) = m ((c : Thread nD τ).loc main_arg10) (ix1 j) := by
  have e : V m c main_v3 (ix2 (0 : Fin 1) j : S1x2048.Idx) = (m ((c : Thread nD τ).loc main_arg10)) (ix1 j) := by
    rw [V_gain_10]
    exact broadcastInDim_apply _ _ _ _ _ (fun a => by fin_cases a; rfl)
  refine Eq.trans ?_ e
  blk_simp [iblk]
  congr 1
  blk_ext [index_10]

theorem V_weight (c : Dev nD) : V m c main_v2 = m ((c : Thread nD τ).loc main_arg9) := by
  show StableHlo.after hostOps0 _ (Proc.devRef .tc main_v2) = _
  after_results
  rfl

theorem iblk_9 (c : Dev nD) (t : Fin cfg0.N) (k j : Fin 2048) : iblk m c 9 t (ix2 k j : S2048x2048.Idx) = m ((c : Thread nD τ).loc main_arg9) (ix2 k j) := by
  refine Eq.trans ?_ (congrFun (V_weight m c) (ix2 k j : S2048x2048.Idx))
  blk_simp [iblk]
  congr 1
  blk_ext [index_9]

theorem emb_11 (t : Fin cfg0.N) (r : Fin 512) (j : Fin 2048) : (win0_11.blk t).view.emb (ix3 (0 : Fin 1) r j : S1x512x2048.Idx) = (ix3 (seqOf t) (tokOf t r) j : S6x8192x2048.Idx) := by
  blk_ext [index_11, seqOf, tokOf]
theorem emb_12 (t : Fin cfg0.N) (k : Fin 2048) (r : Fin 512) : (win0_12.blk t).view.emb (ix2 k r : S2048x512.Idx) = (ix2 k (colOf t r) : S2048x49152.Idx) := by
  blk_ext [index_12, colOf]

end Cert.OutProjIdeal.Hand
-- ==== Proof.OutProj.Result.lean ====
/- What a run of the output projection leaves: its arguments unchanged, and its two results. -/
module

public import proofs.«01_k».proof.Proof.OutProj.Blocks

@[expose] public section

set_option maxRecDepth 16384

noncomputable section

namespace Cert.OutProjIdeal.Hand

open Cert.OutProjIdeal Cert.OutProjIdeal.Gen Cert.OutRow
open Idealize.ShloMosaic Idealize.ShloMosaic.TcCoe
open Idealize.SL Idealize.SL.Sem

variable (m : (ℓ : Loc nD τ sig) → Buf (Elt Ideal) ℓ) (ρ : Dev nD → PrngReg)

/-- A token of the launched operands after the mixers … -/
def afterK (c : Dev nD) (s : Fin 6) (T : Fin 8192) : Fin 2048 → EReal :=
  after (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) s T

/-- … and the two results. -/
def firstK (c : Dev nD) : S6x8192x2048.Idx → EReal :=
  firstResult (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))
@[inherit_doc firstK]
def secondK (c : Dev nD) : S2048x49152.Idx → EReal :=
  secondResult (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- A point's row is its token, after the mixers. -/
theorem row_eq (c : Dev nD) (t : Fin cfg0.N) (r : Fin 512) :
    rowOf (grid0.coords t) (iblk m c 0 t) (iblk m c 1 t) (iblk m c 2 t) (iblk m c 3 t) (iblk m c 4 t) (iblk m c 5 t) (iblk m c 6 t) (iblk m c 7 t) (iblk m c 8 t) (iblk m c 9 t) r = afterK m c (seqOf t) (tokOf t r) := by
  have e : (fun j : Fin 2048 => if ((grid0.coords t) 0).val < 4 then (iblk m c 4 t : S1x512x2048.Idx → EReal) (ix3 (0 : Fin 1) r j) else (iblk m c 5 t : S1x512x2048.Idx → EReal) (ix3 (0 : Fin 1) r j))
      = source (m ((c : Thread nD τ).loc main_arg4)) (m ((c : Thread nD τ).loc main_arg5)) (seqOf t) (tokOf t r) := by
    funext j
    rw [coord_0 t]
    unfold source
    by_cases h : t.val / 16 < 4
    · rw [if_pos h, dif_pos (show (seqOf t).val < 4 from h)]
      exact iblk_4 m c t r j h
    · rw [if_neg h, dif_neg (show ¬(seqOf t).val < 4 from h)]
      exact iblk_5 m c t r j h
  unfold rowOf afterK after firstMixer secondMixer
  rw [e]
  congr 1
  · exact funext fun j => iblk_6 m c t 2 j
  · exact congrArg₂ (gained _) (funext fun k => iblk_0 m c t r k) (funext fun k => iblk_7 m c t k)
  · refine congrArg₂ (gained _) ?_ (funext fun k => iblk_8 m c t k)
    exact congr (congrArg₂ gatedRow (funext fun k => iblk_1 m c t r k) (funext fun k => iblk_2 m c t r k)) (funext fun k => iblk_3 m c t r k)
  · funext y
    idx_vars y
    exact iblk_9 m c t y0 y1

theorem array_11 (c : Dev nD) : (dats m 0 c).arrAt 11 cfg0.N = firstK m c :=
  (dats m 0 c).arrAt_eq_of_covers 11 (firstK m c) (by decide +kernel) fun t hf y => by
    blk_simp []
    rw [after0_11]
    idx_vars y
    obtain rfl : y0 = 0 := Subsingleton.elim _ _
    rw [emb_11]
    refine (out_first (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y1 y2).trans ?_
    exact congrFun (row_eq m c t y1) y2

theorem array_12 (c : Dev nD) : (dats m 0 c).arrAt 12 cfg0.N = secondK m c :=
  (dats m 0 c).arrAt_eq_of_covers 12 (secondK m c) (by decide +kernel) fun t hf y => by
    blk_simp []
    rw [after0_12]
    idx_vars y
    rw [emb_12]
    refine (out_second (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y0 y1).trans ?_
    refine Eq.trans ?_ (secondResult_apply _ _ _ _ _ _ _ _ _ _ _ (seqOf t) (tokOf t y1) y0 (colOf t y1) (colOf_eq t y1)).symm
    unfold afterModulated
    exact congrFun (congr (congr (congrArg₂ modulated (row_eq m c t y1) (funext fun j => iblk_10 m c t j)) (funext fun j => iblk_6 m c t 3 j)) (funext fun j => iblk_6 m c t 4 j)) y0

/-- The arguments end as they were. -/
theorem kept {r} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h.in_eq c 0 rfl).trans ((A_eq m c 0).trans (V_main_arg0 m c)),
    (h.in_eq c 1 rfl).trans ((A_eq m c 1).trans (V_main_arg1 m c)),
    (h.in_eq c 2 rfl).trans ((A_eq m c 2).trans (V_main_arg2 m c)),
    (h.in_eq c 3 rfl).trans ((A_eq m c 3).trans (V_main_arg3 m c)),
    (h.in_eq c 4 rfl).trans ((A_eq m c 4).trans (V_main_arg4 m c)),
    (h.in_eq c 5 rfl).trans ((A_eq m c 5).trans (V_main_arg5 m c)),
    (h.in_eq c 6 rfl).trans ((A_eq m c 6).trans (V_main_arg6 m c)),
    (h.rest_eq c main_arg7 (Pipeline.mem_restRefs_of main_arg7 (by decide) (by decide))).trans (V_main_arg7 m c),
    (h.rest_eq c main_arg8 (Pipeline.mem_restRefs_of main_arg8 (by decide) (by decide))).trans (V_main_arg8 m c),
    (h.rest_eq c main_arg9 (Pipeline.mem_restRefs_of main_arg9 (by decide) (by decide))).trans (V_main_arg9 m c),
    (h.rest_eq c main_arg10 (Pipeline.mem_restRefs_of main_arg10 (by decide) (by decide))).trans (V_main_arg10 m c)⟩

/-- The whole of what the run leaves. -/
theorem finished : θ_run defs (onTc (τ := τ) (main (F := Ideal))) ⟨m, fun _ => 0, ρ⟩ (fun r => ∀ c : Dev nD,
      r.2.mem ((c.tc : Thread nD τ).loc main_v4_0) = firstK m c
      ∧ r.2.mem ((c.tc : Thread nD τ).loc main_v4_1) = secondK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.out_eq c 11).trans (array_11 m c), (h.out_eq c 12).trans (array_12 m c), kept m h c⟩) (run_main m ρ)

end Cert.OutProjIdeal.Hand
-- ==== Proof.OutProj.Reference.lean ====
/- The reference's output projection read at an index. -/
module

public import proofs.«01_k».proof.Proof.OutProj.Row
public import proofs.«01_k».proof.Proof.Gen.OutReferenceIdeal.Run
public import proofs.«01_k».proof.Proof.Gen.OutReferenceIdeal.Read
public import Idealize.ShloMosaic.Lib.Pointwise

@[expose] public section

set_option maxRecDepth 16384

noncomputable section

namespace Cert.OutReferenceIdeal.Hand

open Cert.OutReferenceIdeal Cert.OutReferenceIdeal.Read Cert.OutRow
open Idealize.ShloMosaic Idealize.ShloMosaic.TcCoe
open Idealize.SL Idealize.SL.Sem

variable (x0 : FVec Ideal S6x8192x1024 .bf16) (x1 x2 : FVec Ideal S6x8192x1024 .f32) (x3 : FVec Ideal S6x8192x1024 .bf16)
  (x4 : FVec Ideal S4x8192x2048 .f32) (x5 : FVec Ideal S2x8192x2048 .f32) (x6 : FVec Ideal S6x6x2048 .f32)
  (x7 x8 : FVec Ideal S1024 .f32) (x9 : FVec Ideal S2048x2048 .f32) (x10 : FVec Ideal S2048 .f32)

theorem source_apply (s : Fin 6) (T : Fin 8192) (j : Fin 2048) : val_main_v0 (F := Ideal) x4 x5 (ix3 s T j) = source x4 x5 s T j := by
  unfold source
  pointwise [val_main_v0]

theorem first_apply (s : Fin 6) (T : Fin 8192) (k : Fin 1024) : val_main_v33 (F := Ideal) x0 x7 (ix3 s T k) = firstMixer x0 x7 s T k := by
  unfold firstMixer gained
  pointwise [val_main_v33, val_main_v32, val_main_v31, val_main_v30, val_main_v29, val_main_v28, val_main_v27, val_main_v26, val_main_v25, val_main_v24, val_main_v23, val_main_v22, val_main_v21, val_main_v20, val_main_cst_3, val_main_cst_4, val_main_cst_5]

theorem gelu_apply (s : Fin 6) (T : Fin 8192) (k : Fin 1024) : val_main_v18 (F := Ideal) x3 (ix3 s T k) = gelu (x3 (ix3 s T k)) := by
  unfold gelu
  rw [← root_word, ← cubic_word, ← half_word]
  pointwise [val_main_v18, val_main_v17, val_main_v16, val_main_v15, val_main_v14, val_main_v13, val_main_v12, val_main_v11, val_main_v10, val_main_v9, val_main_v8, val_main_v7, val_main_v6, val_main_v5, val_main_cst, val_main_cst_0, val_main_cst_1, val_main_cst_2]

theorem gated_apply (s : Fin 6) (T : Fin 8192) (k : Fin 1024) : val_main_v19 (F := Ideal) x1 x2 x3 (ix3 s T k)
    = gatedRow (fun k => x1 (ix3 s T k)) (fun k => x2 (ix3 s T k)) (fun k => x3 (ix3 s T k)) k := by
  unfold gatedRow
  rw [← gelu_apply]
  pointwise [val_main_v19, val_main_v4]

theorem second_apply (s : Fin 6) (T : Fin 8192) (k : Fin 1024) : val_main_v46 (F := Ideal) x1 x2 x3 x8 (ix3 s T k) = secondMixer x1 x2 x3 x8 s T k := by
  unfold secondMixer gained
  simp only [← gated_apply]
  pointwise [val_main_v46, val_main_v45, val_main_v44, val_main_v43, val_main_v42, val_main_v41, val_main_v40, val_main_v39, val_main_v38, val_main_v37, val_main_v36, val_main_v35, val_main_v34, val_main_cst_6, val_main_cst_7, val_main_cst_8]

/-- Two arrays of half the width side by side. -/
theorem beside (x y : FVec Ideal S6x8192x1024 .f32) (h) (s : Fin 6) (T : Fin 8192) (k : Fin 2048) :
    concatenate S6x8192x2048 2 [⟨S6x8192x1024, x⟩, ⟨S6x8192x1024, y⟩] h (ix3 s T k) = joined (fun k => x (ix3 s T k)) (fun k => y (ix3 s T k)) k := by
  unfold joined
  pointwise

theorem joined_apply (s : Fin 6) (T : Fin 8192) (k : Fin 2048) :
    val_main_v47 (F := Ideal) x0 x1 x2 x3 x7 x8 (ix3 s T k) = joined (firstMixer x0 x7 s T) (secondMixer x1 x2 x3 x8 s T) k := by
  unfold val_main_v47
  refine (beside _ _ _ s T k).trans (congrFun (congrArg₂ joined (funext fun k => ?_) (funext fun k => ?_)) k)
  · exact first_apply x0 x7 s T k
  · exact second_apply x1 x2 x3 x8 s T k

theorem product_apply (s : Fin 6) (T : Fin 8192) (j : Fin 2048) : val_main_v48 (F := Ideal) x0 x1 x2 x3 x7 x8 x9 (ix3 s T j)
    = halves (firstMixer x0 x7 s T) (secondMixer x1 x2 x3 x8 s T) (fun k => x9 (ix2 k j)) := by
  rw [← joined_sum]
  simp only [← joined_apply]
  pointwise [val_main_v48]

theorem after_apply (s : Fin 6) (T : Fin 8192) (j : Fin 2048) : val_main_v51 (F := Ideal) x0 x1 x2 x3 x4 x5 x6 x7 x8 x9 (ix3 s T j) = after x0 x1 x2 x3 x4 x5 x6 x7 x8 x9 s T j := by
  unfold after mixedRow
  rw [← product_apply, ← source_apply]
  pointwise [val_main_v51, val_main_v50, val_main_v49, val_main_v1]

theorem modulated_apply (s : Fin 6) (T : Fin 8192) (j : Fin 2048) : val_main_v70 (F := Ideal) x0 x1 x2 x3 x4 x5 x6 x7 x8 x9 x10 (ix3 s T j) = afterModulated x0 x1 x2 x3 x4 x5 x6 x7 x8 x9 x10 s T j := by
  unfold afterModulated modulated gained
  simp only [← after_apply]
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v3, val_main_v2, val_main_cst_9, val_main_cst_10, val_main_cst_11, val_main_cst_12]

/-- Laying the sequences one after another reads token `T` of sequence `s` at row `8192 * s + T`. -/
theorem flat (x : FVec Ideal S6x8192x2048 .f32) (s : Fin 6) (T : Fin 8192) (k : Fin 2048) (n : Fin 49152) (e : n.val = 8192 * s.val + T.val) :
    shapeCast S49152x2048 x Facts₀.shapeCasts_S6x8192x2048_S49152x2048 (ix2 n k) = x (ix3 s T k) := by
  refine shapeCast_apply _ _ _ (ix3 s T k) ?_
  rw [Shape.rowMajor_val_three, Shape.rowMajor_val_two]
  show (s.val * 8192 + T.val) * 2048 + k.val = n.val * 2048 + k.val
  omega

theorem first_eq : val_main_v51 (F := Ideal) x0 x1 x2 x3 x4 x5 x6 x7 x8 x9 = firstResult x0 x1 x2 x3 x4 x5 x6 x7 x8 x9 := by
  funext y
  idx_vars y
  exact after_apply x0 x1 x2 x3 x4 x5 x6 x7 x8 x9 y0 y1 y2

theorem second_eq : val_main_v73 (F := Ideal) x0 x1 x2 x3 x4 x5 x6 x7 x8 x9 x10 = secondResult x0 x1 x2 x3 x4 x5 x6 x7 x8 x9 x10 := by
  funext y
  idx_vars y
  have h : y1.val = 8192 * (⟨y1.val / 8192, by omega⟩ : Fin 6).val + (⟨y1.val % 8192, by omega⟩ : Fin 8192).val := by
    show y1.val = 8192 * (y1.val / 8192) + y1.val % 8192
    omega
  refine Eq.trans ?_ (secondResult_apply x0 x1 x2 x3 x4 x5 x6 x7 x8 x9 x10 _ _ y0 y1 h).symm
  rw [← modulated_apply, val_main_v73_apply]
  refine Eq.trans ?_ (flat (val_main_v70 (F := Ideal) x0 x1 x2 x3 x4 x5 x6 x7 x8 x9 x10) _ _ y0 y1 h)
  show val_main_v72 (F := Ideal) x0 x1 x2 x3 x4 x5 x6 x7 x8 x9 x10 (ix2 y0 y1) = _
  unfold val_main_v72 val_main_v71
  pointwise

variable (m : (ℓ : Loc nD τ sig) → Buf (Elt Ideal) ℓ) (ρ : Dev nD → PrngReg)

/-- The two results of the launched operands. -/
def firstR (c : Dev nD) : S6x8192x2048.Idx → EReal :=
  firstResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
@[inherit_doc firstR]
def secondR (c : Dev nD) : S2048x49152.Idx → EReal :=
  secondResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The whole of what the reference leaves. -/
theorem finished : θ_run defs (onTc (τ := τ) (main (F := Ideal))) ⟨m, fun _ => 0, ρ⟩ (fun r => ∀ c : Dev nD,
      r.2.mem ((c.tc : Thread nD τ).loc main_v51) = firstR m c
      ∧ r.2.mem ((c.tc : Thread nD τ).loc main_v73) = secondR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans ((val_main_v51_eq _ _).trans (first_eq _ _ _ _ _ _ _ _ _ _)),
    (h c).2.1.trans ((val_main_v73_eq _ _).trans (second_eq _ _ _ _ _ _ _ _ _ _ _)), (h c).2.2⟩) (Value.run m ρ)

end Cert.OutReferenceIdeal.Hand
-- ==== Proof.lean ====
/- The certificate, of the recurrence, the input projection and the output projection: each kernel as printed and over the extended
   reals runs and leaves its arguments alone, the named constants are what the printed words round, and over the extended reals the
   kernel's results are its reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutReferenceIdeal.Run
public import proofs.«01_k».proof.Proof.Gen.OutReferenceIdeal.Read
public import proofs.«01_k».proof.Proof.Gen.OutReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InReferenceIdeal.Run
public import proofs.«01_k».proof.Proof.Gen.InReferenceIdeal.Read
public import proofs.«01_k».proof.Proof.Lru.Result
public import proofs.«01_k».proof.Proof.Lru.WordFrame
public import proofs.«01_k».proof.Proof.Ref.Results
public import proofs.«01_k».proof.Proof.InProj.Result
public import proofs.«01_k».proof.Proof.InProj.Reference
public import proofs.«01_k».proof.Proof.OutProj.Result
public import proofs.«01_k».proof.Proof.OutProj.Reference
public import Idealize.ShloMosaic.Adequacy
public import Idealize.ShloMosaic.Init

@[expose] public section

noncomputable section

namespace Cert.Proof

open Idealize.ShloMosaic Idealize.SL.Sem

/-- Equal arguments are equal operands. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Lru.dataR m' c = Cert.KernelIdeal.Lru.dataK m c := by
  obtain ⟨h0, h1, h2, h3, h4, h5, h6, h7⟩ := h
  unfold Cert.ReferenceIdeal.Lru.dataR Cert.KernelIdeal.Lru.dataK
  rw [h0, h1, h2, h3, h4, h5, h6, h7]

/-- Equal arguments have equal projections. -/
theorem columns_eq (m : (ℓ : Loc Cert.InProjIdeal.nD Cert.InProjIdeal.τ Cert.InProjIdeal.sig) → Buf (Elt Ideal) ℓ)
    (m' : (ℓ : Loc Cert.InReferenceIdeal.nD Cert.InReferenceIdeal.τ Cert.InReferenceIdeal.sig) → Buf (Elt Ideal) ℓ) (c : Dev Cert.InProjIdeal.nD)
    (h : m' ((c.tc : Thread Cert.InReferenceIdeal.nD Cert.InReferenceIdeal.τ).loc Cert.InReferenceIdeal.main_arg0) = m ((c.tc : Thread Cert.InProjIdeal.nD Cert.InProjIdeal.τ).loc Cert.InProjIdeal.main_arg0)
      ∧ m' ((c.tc : Thread Cert.InReferenceIdeal.nD Cert.InReferenceIdeal.τ).loc Cert.InReferenceIdeal.main_arg1) = m ((c.tc : Thread Cert.InProjIdeal.nD Cert.InProjIdeal.τ).loc Cert.InProjIdeal.main_arg1)
      ∧ m' ((c.tc : Thread Cert.InReferenceIdeal.nD Cert.InReferenceIdeal.τ).loc Cert.InReferenceIdeal.main_arg2) = m ((c.tc : Thread Cert.InProjIdeal.nD Cert.InProjIdeal.τ).loc Cert.InProjIdeal.main_arg2)
      ∧ m' ((c.tc : Thread Cert.InReferenceIdeal.nD Cert.InReferenceIdeal.τ).loc Cert.InReferenceIdeal.main_arg3) = m ((c.tc : Thread Cert.InProjIdeal.nD Cert.InProjIdeal.τ).loc Cert.InProjIdeal.main_arg3)
      ∧ m' ((c.tc : Thread Cert.InReferenceIdeal.nD Cert.InReferenceIdeal.τ).loc Cert.InReferenceIdeal.main_arg4) = m ((c.tc : Thread Cert.InProjIdeal.nD Cert.InProjIdeal.τ).loc Cert.InProjIdeal.main_arg4)
      ∧ m' ((c.tc : Thread Cert.InReferenceIdeal.nD Cert.InReferenceIdeal.τ).loc Cert.InReferenceIdeal.main_arg5) = m ((c.tc : Thread Cert.InProjIdeal.nD Cert.InProjIdeal.τ).loc Cert.InProjIdeal.main_arg5)
      ∧ m' ((c.tc : Thread Cert.InReferenceIdeal.nD Cert.InReferenceIdeal.τ).loc Cert.InReferenceIdeal.main_arg6) = m ((c.tc : Thread Cert.InProjIdeal.nD Cert.InProjIdeal.τ).loc Cert.InProjIdeal.main_arg6)
      ∧ m' ((c.tc : Thread Cert.InReferenceIdeal.nD Cert.InReferenceIdeal.τ).loc Cert.InReferenceIdeal.main_arg7) = m ((c.tc : Thread Cert.InProjIdeal.nD Cert.InProjIdeal.τ).loc Cert.InProjIdeal.main_arg7)
      ∧ m' ((c.tc : Thread Cert.InReferenceIdeal.nD Cert.InReferenceIdeal.τ).loc Cert.InReferenceIdeal.main_arg8) = m ((c.tc : Thread Cert.InProjIdeal.nD Cert.InProjIdeal.τ).loc Cert.InProjIdeal.main_arg8))
    (n : ℕ) (hn : n + 1024 ≤ 5120) : Cert.InReferenceIdeal.Hand.columnsR m' c n hn = Cert.InProjIdeal.Hand.columnsK m c n hn := by
  obtain ⟨h0, h1, h2, h3, h4, -⟩ := h
  unfold Cert.InReferenceIdeal.Hand.columnsR Cert.InProjIdeal.Hand.columnsK
  rw [h0, h1, h2, h3, h4]

theorem queries_eq (m : (ℓ : Loc Cert.InProjIdeal.nD Cert.InProjIdeal.τ Cert.InProjIdeal.sig) → Buf (Elt Ideal) ℓ)
    (m' : (ℓ : Loc Cert.InReferenceIdeal.nD Cert.InReferenceIdeal.τ Cert.InReferenceIdeal.sig) → Buf (Elt Ideal) ℓ) (c : Dev Cert.InProjIdeal.nD)
    (h : m' ((c.tc : Thread Cert.InReferenceIdeal.nD Cert.InReferenceIdeal.τ).loc Cert.InReferenceIdeal.main_arg0) = m ((c.tc : Thread Cert.InProjIdeal.nD Cert.InProjIdeal.τ).loc Cert.InProjIdeal.main_arg0)
      ∧ m' ((c.tc : Thread Cert.InReferenceIdeal.nD Cert.InReferenceIdeal.τ).loc Cert.InReferenceIdeal.main_arg1) = m ((c.tc : Thread Cert.InProjIdeal.nD Cert.InProjIdeal.τ).loc Cert.InProjIdeal.main_arg1)
      ∧ m' ((c.tc : Thread Cert.InReferenceIdeal.nD Cert.InReferenceIdeal.τ).loc Cert.InReferenceIdeal.main_arg2) = m ((c.tc : Thread Cert.InProjIdeal.nD Cert.InProjIdeal.τ).loc Cert.InProjIdeal.main_arg2)
      ∧ m' ((c.tc : Thread Cert.InReferenceIdeal.nD Cert.InReferenceIdeal.τ).loc Cert.InReferenceIdeal.main_arg3) = m ((c.tc : Thread Cert.InProjIdeal.nD Cert.InProjIdeal.τ).loc Cert.InProjIdeal.main_arg3)
      ∧ m' ((c.tc : Thread Cert.InReferenceIdeal.nD Cert.InReferenceIdeal.τ).loc Cert.InReferenceIdeal.main_arg4) = m ((c.tc : Thread Cert.InProjIdeal.nD Cert.InProjIdeal.τ).loc Cert.InProjIdeal.main_arg4)
      ∧ m' ((c.tc : Thread Cert.InReferenceIdeal.nD Cert.InReferenceIdeal.τ).loc Cert.InReferenceIdeal.main_arg5) = m ((c.tc : Thread Cert.InProjIdeal.nD Cert.InProjIdeal.τ).loc Cert.InProjIdeal.main_arg5)
      ∧ m' ((c.tc : Thread Cert.InReferenceIdeal.nD Cert.InReferenceIdeal.τ).loc Cert.InReferenceIdeal.main_arg6) = m ((c.tc : Thread Cert.InProjIdeal.nD Cert.InProjIdeal.τ).loc Cert.InProjIdeal.main_arg6)
      ∧ m' ((c.tc : Thread Cert.InReferenceIdeal.nD Cert.InReferenceIdeal.τ).loc Cert.InReferenceIdeal.main_arg7) = m ((c.tc : Thread Cert.InProjIdeal.nD Cert.InProjIdeal.τ).loc Cert.InProjIdeal.main_arg7)
      ∧ m' ((c.tc : Thread Cert.InReferenceIdeal.nD Cert.InReferenceIdeal.τ).loc Cert.InReferenceIdeal.main_arg8) = m ((c.tc : Thread Cert.InProjIdeal.nD Cert.InProjIdeal.τ).loc Cert.InProjIdeal.main_arg8)) :
    Cert.InReferenceIdeal.Hand.queriesR m' c = Cert.InProjIdeal.Hand.queriesK m c ∧ Cert.InReferenceIdeal.Hand.keysR m' c = Cert.InProjIdeal.Hand.keysK m c := by
  obtain ⟨h0, h1, h2, h3, h4, h5, h6, -⟩ := h
  unfold Cert.InReferenceIdeal.Hand.queriesR Cert.InProjIdeal.Hand.queriesK Cert.InReferenceIdeal.Hand.keysR Cert.InProjIdeal.Hand.keysK
  rw [h0, h1, h2, h3, h4, h5, h6]
  exact ⟨rfl, rfl⟩

/-- Equal arguments have equal output projections. -/
theorem outputs_eq (m : (ℓ : Loc Cert.OutProjIdeal.nD Cert.OutProjIdeal.τ Cert.OutProjIdeal.sig) → Buf (Elt Ideal) ℓ)
    (m' : (ℓ : Loc Cert.OutReferenceIdeal.nD Cert.OutReferenceIdeal.τ Cert.OutReferenceIdeal.sig) → Buf (Elt Ideal) ℓ) (c : Dev Cert.OutProjIdeal.nD)
    (h : m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)
      ∧ m' ((c.tc : Thread Cert.OutReferenceIdeal.nD Cert.OutReferenceIdeal.τ).loc Cert.OutReferenceIdeal.main_arg4) = m ((c.tc : Thread Cert.OutProjIdeal.nD Cert.OutProjIdeal.τ).loc Cert.OutProjIdeal.main_arg4)
      ∧ m' ((c.tc : Thread Cert.OutReferenceIdeal.nD Cert.OutReferenceIdeal.τ).loc Cert.OutReferenceIdeal.main_arg5) = m ((c.tc : Thread Cert.OutProjIdeal.nD Cert.OutProjIdeal.τ).loc Cert.OutProjIdeal.main_arg5)
      ∧ m' ((c.tc : Thread Cert.OutReferenceIdeal.nD Cert.OutReferenceIdeal.τ).loc Cert.OutReferenceIdeal.main_arg6) = m ((c.tc : Thread Cert.OutProjIdeal.nD Cert.OutProjIdeal.τ).loc Cert.OutProjIdeal.main_arg6)
      ∧ m' ((c.tc : Thread Cert.OutReferenceIdeal.nD Cert.OutReferenceIdeal.τ).loc Cert.OutReferenceIdeal.main_arg7) = m ((c.tc : Thread Cert.OutProjIdeal.nD Cert.OutProjIdeal.τ).loc Cert.OutProjIdeal.main_arg7)
      ∧ m' ((c.tc : Thread Cert.OutReferenceIdeal.nD Cert.OutReferenceIdeal.τ).loc Cert.OutReferenceIdeal.main_arg8) = m ((c.tc : Thread Cert.OutProjIdeal.nD Cert.OutProjIdeal.τ).loc Cert.OutProjIdeal.main_arg8)
      ∧ m' ((c.tc : Thread Cert.OutReferenceIdeal.nD Cert.OutReferenceIdeal.τ).loc Cert.OutReferenceIdeal.main_arg9) = m ((c.tc : Thread Cert.OutProjIdeal.nD Cert.OutProjIdeal.τ).loc Cert.OutProjIdeal.main_arg9)
      ∧ m' ((c.tc : Thread Cert.OutReferenceIdeal.nD Cert.OutReferenceIdeal.τ).loc Cert.OutReferenceIdeal.main_arg10) = m ((c.tc : Thread Cert.OutProjIdeal.nD Cert.OutProjIdeal.τ).loc Cert.OutProjIdeal.main_arg10)) :
    Cert.OutReferenceIdeal.Hand.firstR m' c = Cert.OutProjIdeal.Hand.firstK m c ∧ Cert.OutReferenceIdeal.Hand.secondR m' c = Cert.OutProjIdeal.Hand.secondK m c := by
  obtain ⟨h0, h1, h2, h3, h4, h5, h6, h7, h8, h9, h10⟩ := h
  unfold Cert.OutReferenceIdeal.Hand.firstR Cert.OutProjIdeal.Hand.firstK Cert.OutReferenceIdeal.Hand.secondR Cert.OutProjIdeal.Hand.secondK
  rw [h0, h1, h2, h3, h4, h5, h6, h7, h8, h9, h10]
  exact ⟨rfl, rfl⟩

theorem claim : Cert.Claim := ⟨Cert.Kernel.Gen.facts, Cert.KernelIdeal.Gen.facts, Cert.ReferenceIdeal.Gen.facts,
  Cert.InProj.Gen.facts, Cert.InProjIdeal.Gen.facts, Cert.InReferenceIdeal.Gen.facts,
  Cert.OutProj.Gen.facts, Cert.OutProjIdeal.Gen.facts, Cert.OutReferenceIdeal.Gen.facts,
  fun m g _ => Cert.Kernel.Lru.unchanged m g,
  fun m g _ => (θ_run _ _ _).mono (fun _ h => ⟨fun c => (h.1 c).1, h.2⟩) (Cert.KernelIdeal.Lru.finished m g),
  fun m g _ => (θ_run _ _ _).mono (fun _ h => ⟨fun c => (h c).2.2, sem_eq_zero_of_no_sems (by decide) _⟩) (Cert.ReferenceIdeal.Value.run m g),
  fun m g _ => Cert.InProj.Gen.frame m g,
  fun m g _ => Cert.InProjIdeal.Gen.frame m g,
  fun m g _ => (θ_run _ _ _).mono (fun _ h => ⟨fun c => (h c).2.2.2.2.2, sem_eq_zero_of_no_sems (by decide) _⟩) (Cert.InReferenceIdeal.Value.run m g),
  fun m g _ => Cert.OutProj.Gen.frame m g,
  fun m g _ => Cert.OutProjIdeal.Gen.frame m g,
  fun m g _ => (θ_run _ _ _).mono (fun _ h => ⟨fun c => (h c).2.2, sem_eq_zero_of_no_sems (by decide) _⟩) (Cert.OutReferenceIdeal.Value.run m g),
  IdealRules.named_const.statement _ _ _ _ _ rfl,
  fun m g m' g' _ hm =>
    ⟨fun c => Cert.KernelIdeal.Lru.fwdOf m c, fun c => Cert.KernelIdeal.Lru.backOf m c,
      (θ_run _ _ _).mono (fun _ h c => ⟨(h.1 c).2.1, (h.1 c).2.2, (h.1 c).1⟩) (Cert.KernelIdeal.Lru.finished m g),
      (θ_run _ _ _).mono (fun _ h c => ⟨(h c).1.trans ((Cert.ReferenceIdeal.Lru.forward_eq m' c).trans (congrArg Cert.ReferenceIdeal.Lru.forwardRows (data_eq m m' c (hm c)))),
        (h c).2.1.trans ((Cert.ReferenceIdeal.Lru.backward_eq m' c).trans (congrArg Cert.ReferenceIdeal.Lru.backwardRows (data_eq m m' c (hm c)))), (h c).2.2⟩) (Cert.ReferenceIdeal.Value.run m' g')⟩,
  trivial,
  fun m g m' g' _ hm =>
    ⟨fun c => Cert.InProjIdeal.Hand.queriesK m c, fun c => Cert.InProjIdeal.Hand.keysK m c,
      fun c => Cert.InProjIdeal.Hand.columnsK m c 2048 (by decide), fun c => Cert.InProjIdeal.Hand.columnsK m c 3072 (by decide), fun c => Cert.InProjIdeal.Hand.columnsK m c 4096 (by decide),
      Cert.InProjIdeal.Hand.finished m g,
      (θ_run _ _ _).mono (fun _ h c => ⟨(h c).1.trans (queries_eq m m' c (hm c)).1, (h c).2.1.trans (queries_eq m m' c (hm c)).2,
        (h c).2.2.1.trans (columns_eq m m' c (hm c) _ _), (h c).2.2.2.1.trans (columns_eq m m' c (hm c) _ _),
        (h c).2.2.2.2.1.trans (columns_eq m m' c (hm c) _ _), (h c).2.2.2.2.2⟩) (Cert.InReferenceIdeal.Hand.finished m' g')⟩,
  ⟨IdealRules.named_const.statement _ _ _ _ _ rfl, IdealRules.named_const.statement _ _ _ _ _ rfl⟩,
  fun m g m' g' _ hm =>
    ⟨fun c => Cert.OutProjIdeal.Hand.firstK m c, fun c => Cert.OutProjIdeal.Hand.secondK m c, Cert.OutProjIdeal.Hand.finished m g,
      (θ_run _ _ _).mono (fun _ h c => ⟨(h c).1.trans (outputs_eq m m' c (hm c)).1, (h c).2.1.trans (outputs_eq m m' c (hm c)).2, (h c).2.2⟩)
        (Cert.OutReferenceIdeal.Hand.finished m' g')⟩⟩

end Cert.Proof

end
